-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v175) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v26)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v26) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v76) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v99) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S16x2304x10880 : Shape := ⟨3, ![16, 2304, 10880]⟩
abbrev S4x512 : Shape := ⟨2, ![4, 512]⟩
abbrev S512 : Shape := ⟨1, ![512]⟩
abbrev S2x8x64x64 : Shape := ⟨4, ![2, 8, 64, 64]⟩
abbrev S2x512 : Shape := ⟨2, ![2, 512]⟩
abbrev S1x8x64x64 : Shape := ⟨4, ![1, 8, 64, 64]⟩
abbrev S8x64x64 : Shape := ⟨3, ![8, 64, 64]⟩
abbrev S8x8 : Shape := ⟨2, ![8, 8]⟩
abbrev S_ : Shape := ⟨0, ![]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S512x1024 : Shape := ⟨2, ![512, 1024]⟩
abbrev S1x512x1024 : Shape := ⟨3, ![1, 512, 1024]⟩
abbrev S2x512x1024 : Shape := ⟨3, ![2, 512, 1024]⟩
abbrev S1x512 : Shape := ⟨2, ![1, 512]⟩
abbrev S1024 : Shape := ⟨1, ![1024]⟩
abbrev S1x1024 : Shape := ⟨2, ![1, 1024]⟩
abbrev S1x1x1024 : Shape := ⟨3, ![1, 1, 1024]⟩
abbrev S2x1x1024 : Shape := ⟨3, ![2, 1, 1024]⟩
abbrev S2x1x512 : Shape := ⟨3, ![2, 1, 512]⟩
abbrev S16x2304x512 : Shape := ⟨3, ![16, 2304, 512]⟩
abbrev S1x2304x512 : Shape := ⟨3, ![1, 2304, 512]⟩
abbrev S256x512 : Shape := ⟨2, ![256, 512]⟩
abbrev S2304x512 : Shape := ⟨2, ![2304, 512]⟩
abbrev S1x16x512 : Shape := ⟨3, ![1, 16, 512]⟩
abbrev S16x512 : Shape := ⟨2, ![16, 512]⟩
abbrev S1x256x512 : Shape := ⟨3, ![1, 256, 512]⟩
abbrev S288x512 : Shape := ⟨2, ![288, 512]⟩
abbrev S288x1 : Shape := ⟨2, ![288, 1]⟩
abbrev S256x1024 : Shape := ⟨2, ![256, 1024]⟩
abbrev S1x1x512 : Shape := ⟨3, ![1, 1, 512]⟩

abbrev nBuf : Space → Nat
  | .hbm => 92
  | .vmem => 17
  | .smem => 0
  | _ => 0

abbrev bufTy : (tb : Table) → Fin (tcTables nBuf tb) → BufTy
  | .hbm, ⟨0, _⟩ => ⟨S16x2304x10880, .bf16⟩
  | .hbm, ⟨1, _⟩ => ⟨S4x512, .f32⟩
  | .hbm, ⟨2, _⟩ => ⟨S512, .f32⟩
  | .hbm, ⟨3, _⟩ => ⟨S2x8x64x64, .f32⟩
  | .hbm, ⟨4, _⟩ => ⟨S2x512, .f32⟩
  | .hbm, ⟨5, _⟩ => ⟨S2x8x64x64, .f32⟩
  | .hbm, ⟨6, _⟩ => ⟨S2x512, .f32⟩
  | .hbm, ⟨7, _⟩ => ⟨S2x512, .f32⟩
  | .hbm, ⟨8, _⟩ => ⟨S1x8x64x64, .f32⟩
  | .hbm, ⟨9, _⟩ => ⟨S8x64x64, .f32⟩
  | .hbm, ⟨10, _⟩ => ⟨S8x8, .i32⟩
  | .hbm, ⟨11, _⟩ => ⟨S8x8, .i32⟩
  | .hbm, ⟨12, _⟩ => ⟨S_, .i32⟩
  | .hbm, ⟨13, _⟩ => ⟨S8x8, .i32⟩
  | .hbm, ⟨14, _⟩ => ⟨S8x8, .i32⟩
  | .hbm, ⟨15, _⟩ => ⟨S8x8, .i1⟩
  | .hbm, ⟨16, _⟩ => ⟨S8x8, .f32⟩
  | .hbm, ⟨17, _⟩ => ⟨S8x1x8x1, .f32⟩
  | .hbm, ⟨18, _⟩ => ⟨S8x64x1x64, .f32⟩
  | .hbm, ⟨19, _⟩ => ⟨S8x64x8x64, .f32⟩
  | .hbm, ⟨20, _⟩ => ⟨S8x64x8x64, .f32⟩
  | .hbm, ⟨21, _⟩ => ⟨S8x64x8x64, .f32⟩
  | .hbm, ⟨22, _⟩ => ⟨S512x512, .f32⟩
  | .hbm, ⟨23, _⟩ => ⟨S1x8x64x64, .f32⟩
  | .hbm, ⟨24, _⟩ => ⟨S8x64x64, .f32⟩
  | .hbm, ⟨25, _⟩ => ⟨S8x8, .i32⟩
  | .hbm, ⟨26, _⟩ => ⟨S8x8, .i32⟩
  | .hbm, ⟨27, _⟩ => ⟨S_, .i32⟩
  | .hbm, ⟨28, _⟩ => ⟨S8x8, .i32⟩
  | .hbm, ⟨29, _⟩ => ⟨S8x8, .i32⟩
  | .hbm, ⟨30, _⟩ => ⟨S8x8, .i1⟩
  | .hbm, ⟨31, _⟩ => ⟨S8x8, .f32⟩
  | .hbm, ⟨32, _⟩ => ⟨S8x1x8x1, .f32⟩
  | .hbm, ⟨33, _⟩ => ⟨S8x64x1x64, .f32⟩
  | .hbm, ⟨34, _⟩ => ⟨S8x64x8x64, .f32⟩
  | .hbm, ⟨35, _⟩ => ⟨S8x64x8x64, .f32⟩
  | .hbm, ⟨36, _⟩ => ⟨S8x64x8x64, .f32⟩
  | .hbm, ⟨37, _⟩ => ⟨S512x512, .f32⟩
  | .hbm, ⟨38, _⟩ => ⟨S512x1024, .f32⟩
  | .hbm, ⟨39, _⟩ => ⟨S1x8x64x64, .f32⟩
  | .hbm, ⟨40, _⟩ => ⟨S8x64x64, .f32⟩
  | .hbm, ⟨41, _⟩ => ⟨S8x8, .i32⟩
  | .hbm, ⟨42, _⟩ => ⟨S8x8, .i32⟩
  | .hbm, ⟨43, _⟩ => ⟨S_, .i32⟩
  | .hbm, ⟨44, _⟩ => ⟨S8x8, .i32⟩
  | .hbm, ⟨45, _⟩ => ⟨S8x8, .i32⟩
  | .hbm, ⟨46, _⟩ => ⟨S8x8, .i1⟩
  | .hbm, ⟨47, _⟩ => ⟨S8x8, .f32⟩
  | .hbm, ⟨48, _⟩ => ⟨S8x1x8x1, .f32⟩
  | .hbm, ⟨49, _⟩ => ⟨S8x64x1x64, .f32⟩
  | .hbm, ⟨50, _⟩ => ⟨S8x64x8x64, .f32⟩
  | .hbm, ⟨51, _⟩ => ⟨S8x64x8x64, .f32⟩
  | .hbm, ⟨52, _⟩ => ⟨S8x64x8x64, .f32⟩
  | .hbm, ⟨53, _⟩ => ⟨S512x512, .f32⟩
  | .hbm, ⟨54, _⟩ => ⟨S1x8x64x64, .f32⟩
  | .hbm, ⟨55, _⟩ => ⟨S8x64x64, .f32⟩
  | .hbm, ⟨56, _⟩ => ⟨S8x8, .i32⟩
  | .hbm, ⟨57, _⟩ => ⟨S8x8, .i32⟩
  | .hbm, ⟨58, _⟩ => ⟨S_, .i32⟩
  | .hbm, ⟨59, _⟩ => ⟨S8x8, .i32⟩
  | .hbm, ⟨60, _⟩ => ⟨S8x8, .i32⟩
  | .hbm, ⟨61, _⟩ => ⟨S8x8, .i1⟩
  | .hbm, ⟨62, _⟩ => ⟨S8x8, .f32⟩
  | .hbm, ⟨63, _⟩ => ⟨S8x1x8x1, .f32⟩
  | .hbm, ⟨64, _⟩ => ⟨S8x64x1x64, .f32⟩
  | .hbm, ⟨65, _⟩ => ⟨S8x64x8x64, .f32⟩
  | .hbm, ⟨66, _⟩ => ⟨S8x64x8x64, .f32⟩
  | .hbm, ⟨67, _⟩ => ⟨S8x64x8x64, .f32⟩
  | .hbm, ⟨68, _⟩ => ⟨S512x512, .f32⟩
  | .hbm, ⟨69, _⟩ => ⟨S512x1024, .f32⟩
  | .hbm, ⟨70, _⟩ => ⟨S1x512x1024, .f32⟩
  | .hbm, ⟨71, _⟩ => ⟨S1x512x1024, .f32⟩
  | .hbm, ⟨72, _⟩ => ⟨S2x512x1024, .f32⟩
  | .hbm, ⟨73, _⟩ => ⟨S2x512x1024, .bf16⟩
  | .hbm, ⟨74, _⟩ => ⟨S1x512, .f32⟩
  | .hbm, ⟨75, _⟩ => ⟨S512, .f32⟩
  | .hbm, ⟨76, _⟩ => ⟨S1x512, .f32⟩
  | .hbm, ⟨77, _⟩ => ⟨S512, .f32⟩
  | .hbm, ⟨78, _⟩ => ⟨S1024, .f32⟩
  | .hbm, ⟨79, _⟩ => ⟨S1x1024, .f32⟩
  | .hbm, ⟨80, _⟩ => ⟨S1x512, .f32⟩
  | .hbm, ⟨81, _⟩ => ⟨S512, .f32⟩
  | .hbm, ⟨82, _⟩ => ⟨S1x512, .f32⟩
  | .hbm, ⟨83, _⟩ => ⟨S512, .f32⟩
  | .hbm, ⟨84, _⟩ => ⟨S1024, .f32⟩
  | .hbm, ⟨85, _⟩ => ⟨S1x1024, .f32⟩
  | .hbm, ⟨86, _⟩ => ⟨S1x1x1024, .f32⟩
  | .hbm, ⟨87, _⟩ => ⟨S1x1x1024, .f32⟩
  | .hbm, ⟨88, _⟩ => ⟨S2x1x1024, .f32⟩
  | .hbm, ⟨89, _⟩ => ⟨S1x512, .f32⟩
  | .hbm, ⟨90, _⟩ => ⟨S2x1x512, .f32⟩
  | .hbm, ⟨91, _⟩ => ⟨S16x2304x512, .bf16⟩
  | .local _ .vmem, ⟨0, _⟩ => ⟨S1x2304x512, .bf16⟩
  | .local _ .vmem, ⟨1, _⟩ => ⟨S1x2304x512, .bf16⟩
  | .local _ .vmem, ⟨2, _⟩ => ⟨S1x2304x512, .bf16⟩
  | .local _ .vmem, ⟨3, _⟩ => ⟨S1x2304x512, .bf16⟩
  | .local _ .vmem, ⟨4, _⟩ => ⟨S4x512, .f32⟩
  | .local _ .vmem, ⟨5, _⟩ => ⟨S1x512, .f32⟩
  | .local _ .vmem, ⟨6, _⟩ => ⟨S2x512x1024, .bf16⟩
  | .local _ .vmem, ⟨7, _⟩ => ⟨S2x1x1024, .f32⟩
  | .local _ .vmem, ⟨8, _⟩ => ⟨S2x1x512, .f32⟩
  | .local _ .vmem, ⟨9, _⟩ => ⟨S1x2304x512, .bf16⟩
  | .local _ .vmem, ⟨10, _⟩ => ⟨S1x2304x512, .bf16⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S2304x512, .f32⟩
  | .local _ .vmem, ⟨16, _⟩ => ⟨S2304x512, .f32⟩
  | _, _ => ⟨S16x2304x10880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_1 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_c_2 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c9_i32 : BitVec 32 := 9#32
  let v1 : BitVec 32 := Scalar.addi c0_i32 c9_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32 : BitVec 32 := 256#32
  let v8 : BitVec 32 := Scalar.muli arg15 c256_i32
  let c16_i32 : BitVec 32 := 16#32
  let v10 : BitVec 32 := Scalar.subi v8 c16_i32
  let c0_i32_9 : BitVec 32 := 0#32
  let v11 : BitVec 32 := Scalar.maxsi v10 c0_i32_9
  v11
def k0_mult2 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32 : BitVec 32 := 256#32
  let v8 : BitVec 32 := Scalar.muli arg15 c256_i32
  let c256_i32_10 : BitVec 32 := 256#32
  let v13 : BitVec 32 := Scalar.addi v8 c256_i32_10
  let c2288_i32 : BitVec 32 := 2288#32
  let v14 : BitVec 32 := Scalar.minsi v13 c2288_i32
  v14
def k0_off1 (k0_t1 : Fin k0_t1_loop.trips) : Fin 3 → Nat :=
  let c0_11 : Index := 0#32
  let c0_i32 : BitVec 32 := 0#32
  let c1_i32 : BitVec 32 := 1#32
  let arg15 : BitVec 32 := Scf.iv c0_i32 c1_i32 k0_t1
  let c256_i32 : BitVec 32 := 256#32
  let v8 : BitVec 32 := Scalar.muli arg15 c256_i32
  let c16_i32 : BitVec 32 := 16#32
  let v10 : BitVec 32 := Scalar.subi v8 c16_i32
  let c0_i32_9 : BitVec 32 := 0#32
  let v11 : BitVec 32 := Scalar.maxsi v10 c0_i32_9
  let v12 : BitVec 32 := v11
  let v16 : Index := Scalar.indexCast v12
  let c0_12 : Index := 0#32
  ![0, v16.toNat, 0]
def k0_mult3 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32 : BitVec 32 := 256#32
  let v8 : BitVec 32 := Scalar.muli arg15 c256_i32
  v8
def k0_off2 (k0_t1 : Fin k0_t1_loop.trips) : Fin 3 → Nat :=
  let c0_13 : Index := 0#32
  let c0_i32 : BitVec 32 := 0#32
  let c1_i32 : BitVec 32 := 1#32
  let arg15 : BitVec 32 := Scf.iv c0_i32 c1_i32 k0_t1
  let c256_i32 : BitVec 32 := 256#32
  let v8 : BitVec 32 := Scalar.muli arg15 c256_i32
  let v20 : BitVec 32 := v8
  let v21 : Index := Scalar.indexCast v20
  let c0_14 : Index := 0#32
  ![0, v21.toNat, 0]
def k0_off3 (k0_t1 : Fin k0_t1_loop.trips) : Fin 3 → Nat :=
  let c0_15 : Index := 0#32
  let c0_i32 : BitVec 32 := 0#32
  let c1_i32 : BitVec 32 := 1#32
  let arg15 : BitVec 32 := Scf.iv c0_i32 c1_i32 k0_t1
  let c256_i32 : BitVec 32 := 256#32
  let v8 : BitVec 32 := Scalar.muli arg15 c256_i32
  let c256_i32_10 : BitVec 32 := 256#32
  let v13 : BitVec 32 := Scalar.addi v8 c256_i32_10
  let c2288_i32 : BitVec 32 := 2288#32
  let v14 : BitVec 32 := Scalar.minsi v13 c2288_i32
  let v15 : BitVec 32 := v14
  let v25 : Index := Scalar.indexCast v15
  let c0_16 : Index := 0#32
  ![0, v25.toNat, 0]
def k0_mult4 (k0_t1 : Fin k0_t1_loop.trips) : BitVec 32 :=
  let c0_i32 : BitVec 32 := 0#32
  let c1_i32 : BitVec 32 := 1#32
  let arg15 : BitVec 32 := Scf.iv c0_i32 c1_i32 k0_t1
  let c1_i32_5 : BitVec 32 := 1#32
  let v4 : BitVec 1 := Scalar.cmpi .slt arg15 c1_i32_5
  let c0_i32_6 : BitVec 32 := 0#32
  let v5 : BitVec 32 := Scalar.subi c0_i32_6 arg15
  let c9_i32_7 : BitVec 32 := 9#32
  let v6 : BitVec 32 := Scalar.subi c9_i32_7 arg15
  let v7 : BitVec 32 := Scalar.select v4 v5 v6
  let c256_i32_45 : BitVec 32 := 256#32
  let v117 : BitVec 32 := Scalar.muli v7 c256_i32_45
  let c16_i32_48 : BitVec 32 := 16#32
  let v119 : BitVec 32 := Scalar.subi v117 c16_i32_48
  let c0_i32_49 : BitVec 32 := 0#32
  let v120 : BitVec 32 := Scalar.maxsi v119 c0_i32_49
  v120
def k0_mult5 (k0_t1 : Fin k0_t1_loop.trips) : BitVec 32 :=
  let c0_i32 : BitVec 32 := 0#32
  let c1_i32 : BitVec 32 := 1#32
  let arg15 : BitVec 32 := Scf.iv c0_i32 c1_i32 k0_t1
  let c1_i32_5 : BitVec 32 := 1#32
  let v4 : BitVec 1 := Scalar.cmpi .slt arg15 c1_i32_5
  let c0_i32_6 : BitVec 32 := 0#32
  let v5 : BitVec 32 := Scalar.subi c0_i32_6 arg15
  let c9_i32_7 : BitVec 32 := 9#32
  let v6 : BitVec 32 := Scalar.subi c9_i32_7 arg15
  let v7 : BitVec 32 := Scalar.select v4 v5 v6
  let c256_i32_45 : BitVec 32 := 256#32
  let v117 : BitVec 32 := Scalar.muli v7 c256_i32_45
  let c256_i32_50 : BitVec 32 := 256#32
  let v122 : BitVec 32 := Scalar.addi v117 c256_i32_50
  let c2288_i32_51 : BitVec 32 := 2288#32
  let v123 : BitVec 32 := Scalar.minsi v122 c2288_i32_51
  v123
def k0_off4 (k0_t1 : Fin k0_t1_loop.trips) : Fin 3 → Nat :=
  let c0_52 : Index := 0#32
  let c0_i32 : BitVec 32 := 0#32
  let c1_i32 : BitVec 32 := 1#32
  let arg15 : BitVec 32 := Scf.iv c0_i32 c1_i32 k0_t1
  let c1_i32_5 : BitVec 32 := 1#32
  let v4 : BitVec 1 := Scalar.cmpi .slt arg15 c1_i32_5
  let c0_i32_6 : BitVec 32 := 0#32
  let v5 : BitVec 32 := Scalar.subi c0_i32_6 arg15
  let c9_i32_7 : BitVec 32 := 9#32
  let v6 : BitVec 32 := Scalar.subi c9_i32_7 arg15
  let v7 : BitVec 32 := Scalar.select v4 v5 v6
  let c256_i32_45 : BitVec 32 := 256#32
  let v117 : BitVec 32 := Scalar.muli v7 c256_i32_45
  let c16_i32_48 : BitVec 32 := 16#32
  let v119 : BitVec 32 := Scalar.subi v117 c16_i32_48
  let c0_i32_49 : BitVec 32 := 0#32
  let v120 : BitVec 32 := Scalar.maxsi v119 c0_i32_49
  let v121 : BitVec 32 := v120
  let v125 : Index := Scalar.indexCast v121
  let c0_53 : Index := 0#32
  ![0, v125.toNat, 0]
def k0_mult6 (k0_t1 : Fin k0_t1_loop.trips) : BitVec 32 :=
  let c0_i32 : BitVec 32 := 0#32
  let c1_i32 : BitVec 32 := 1#32
  let arg15 : BitVec 32 := Scf.iv c0_i32 c1_i32 k0_t1
  let c1_i32_5 : BitVec 32 := 1#32
  let v4 : BitVec 1 := Scalar.cmpi .slt arg15 c1_i32_5
  let c0_i32_6 : BitVec 32 := 0#32
  let v5 : BitVec 32 := Scalar.subi c0_i32_6 arg15
  let c9_i32_7 : BitVec 32 := 9#32
  let v6 : BitVec 32 := Scalar.subi c9_i32_7 arg15
  let v7 : BitVec 32 := Scalar.select v4 v5 v6
  let c256_i32_45 : BitVec 32 := 256#32
  let v117 : BitVec 32 := Scalar.muli v7 c256_i32_45
  v117
def k0_off5 (k0_t1 : Fin k0_t1_loop.trips) : Fin 3 → Nat :=
  let c0_54 : Index := 0#32
  let c0_i32 : BitVec 32 := 0#32
  let c1_i32 : BitVec 32 := 1#32
  let arg15 : BitVec 32 := Scf.iv c0_i32 c1_i32 k0_t1
  let c1_i32_5 : BitVec 32 := 1#32
  let v4 : BitVec 1 := Scalar.cmpi .slt arg15 c1_i32_5
  let c0_i32_6 : BitVec 32 := 0#32
  let v5 : BitVec 32 := Scalar.subi c0_i32_6 arg15
  let c9_i32_7 : BitVec 32 := 9#32
  let v6 : BitVec 32 := Scalar.subi c9_i32_7 arg15
  let v7 : BitVec 32 := Scalar.select v4 v5 v6
  let c256_i32_45 : BitVec 32 := 256#32
  let v117 : BitVec 32 := Scalar.muli v7 c256_i32_45
  let v129 : BitVec 32 := v117
  let v130 : Index := Scalar.indexCast v129
  let c0_55 : Index := 0#32
  ![0, v130.toNat, 0]
def k0_off6 (k0_t1 : Fin k0_t1_loop.trips) : Fin 3 → Nat :=
  let c0_56 : Index := 0#32
  let c0_i32 : BitVec 32 := 0#32
  let c1_i32 : BitVec 32 := 1#32
  let arg15 : BitVec 32 := Scf.iv c0_i32 c1_i32 k0_t1
  let c1_i32_5 : BitVec 32 := 1#32
  let v4 : BitVec 1 := Scalar.cmpi .slt arg15 c1_i32_5
  let c0_i32_6 : BitVec 32 := 0#32
  let v5 : BitVec 32 := Scalar.subi c0_i32_6 arg15
  let c9_i32_7 : BitVec 32 := 9#32
  let v6 : BitVec 32 := Scalar.subi c9_i32_7 arg15
  let v7 : BitVec 32 := Scalar.select v4 v5 v6
  let c256_i32_45 : BitVec 32 := 256#32
  let v117 : BitVec 32 := Scalar.muli v7 c256_i32_45
  let c256_i32_50 : BitVec 32 := 256#32
  let v122 : BitVec 32 := Scalar.addi v117 c256_i32_50
  let c2288_i32_51 : BitVec 32 := 2288#32
  let v123 : BitVec 32 := Scalar.minsi v122 c2288_i32_51
  let v124 : BitVec 32 := v123
  let v134 : Index := Scalar.indexCast v124
  let c0_57 : Index := 0#32
  ![0, v134.toNat, 0]
@[reducible] def k0_t2_loop : Scf.Loop 32 :=
  let c0_i32_88 : BitVec 32 := 0#32
  let c256_i32_89 : BitVec 32 := 256#32
  let v228 : BitVec 32 := Scalar.addi c0_i32_88 c256_i32_89
  let c1_i32_90 : BitVec 32 := 1#32
  ⟨c0_i32_88, v228, c1_i32_90⟩
def k0_off7 (k0_t2 : Fin k0_t2_loop.trips) : Fin 2 → Nat :=
  let c0_i32_88 : BitVec 32 := 0#32
  let c1_i32_90 : BitVec 32 := 1#32
  let arg18 : BitVec 32 := Scf.iv c0_i32_88 c1_i32_90 k0_t2
  let v231 : Index := Scalar.indexCast arg18
  let c0_92 : Index := 0#32
  ![v231.toNat, 0]
def k0_off8 (k0_t2 : Fin k0_t2_loop.trips) : Fin 2 → Nat :=
  let c255_i32 : BitVec 32 := 255#32
  let c0_i32_88 : BitVec 32 := 0#32
  let c1_i32_90 : BitVec 32 := 1#32
  let arg18 : BitVec 32 := Scf.iv c0_i32_88 c1_i32_90 k0_t2
  let v230 : BitVec 32 := Scalar.subi c255_i32 arg18
  let v237 : Index := Scalar.indexCast v230
  let c0_94 : Index := 0#32
  ![v237.toNat, 0]
def k0_off9 (k0_t1 : Fin k0_t1_loop.trips) (k0_t2 : Fin k0_t2_loop.trips) : Fin 2 → Nat :=
  let c0_i32 : BitVec 32 := 0#32
  let c1_i32 : BitVec 32 := 1#32
  let arg15 : BitVec 32 := Scf.iv c0_i32 c1_i32 k0_t1
  let c256_i32_86 : BitVec 32 := 256#32
  let v226 : BitVec 32 := Scalar.muli arg15 c256_i32_86
  let c0_i32_88 : BitVec 32 := 0#32
  let c1_i32_90 : BitVec 32 := 1#32
  let arg18 : BitVec 32 := Scf.iv c0_i32_88 c1_i32_90 k0_t2
  let v243 : BitVec 32 := Scalar.addi v226 arg18
  let v244 : Index := Scalar.indexCast v243
  let c0_96 : Index := 0#32
  ![v244.toNat, 0]
def k0_off10 (k0_t1 : Fin k0_t1_loop.trips) (k0_t2 : Fin k0_t2_loop.trips) : Fin 2 → Nat :=
  let c0_i32 : BitVec 32 := 0#32
  let c1_i32 : BitVec 32 := 1#32
  let arg15 : BitVec 32 := Scf.iv c0_i32 c1_i32 k0_t1
  let c1_i32_5 : BitVec 32 := 1#32
  let v4 : BitVec 1 := Scalar.cmpi .slt arg15 c1_i32_5
  let c0_i32_6 : BitVec 32 := 0#32
  let v5 : BitVec 32 := Scalar.subi c0_i32_6 arg15
  let c9_i32_7 : BitVec 32 := 9#32
  let v6 : BitVec 32 := Scalar.subi c9_i32_7 arg15
  let v7 : BitVec 32 := Scalar.select v4 v5 v6
  let c256_i32_87 : BitVec 32 := 256#32
  let v227 : BitVec 32 := Scalar.muli v7 c256_i32_87
  let c255_i32 : BitVec 32 := 255#32
  let c0_i32_88 : BitVec 32 := 0#32
  let c1_i32_90 : BitVec 32 := 1#32
  let arg18 : BitVec 32 := Scf.iv c0_i32_88 c1_i32_90 k0_t2
  let v230 : BitVec 32 := Scalar.subi c255_i32 arg18
  let v248 : BitVec 32 := Scalar.addi v227 v230
  let v249 : Index := Scalar.indexCast v248
  let c0_97 : Index := 0#32
  ![v249.toNat, 0]
@[reducible] def k0_t3_loop : Scf.Loop 32 :=
  let c0_i32_1 : BitVec 32 := 0#32
  let c9_i32_2 : BitVec 32 := 9#32
  let v3 : BitVec 32 := Scalar.addi c0_i32_1 c9_i32_2
  let c1_i32_3 : BitVec 32 := 1#32
  ⟨c0_i32_1, v3, c1_i32_3⟩
def k0_mult7 (k0_t3 : Fin k0_t3_loop.trips) : BitVec 32 :=
  let c0_i32_1 : BitVec 32 := 0#32
  let c1_i32_3 : BitVec 32 := 1#32
  let arg15 : BitVec 32 := Scf.iv c0_i32_1 c1_i32_3 k0_t3
  let c256_i32 : BitVec 32 := 256#32
  let v4 : BitVec 32 := Scalar.muli arg15 c256_i32
  v4
def k0_off11 (k0_t3 : Fin k0_t3_loop.trips) : Fin 2 → Nat :=
  let c0_i32_1 : BitVec 32 := 0#32
  let c1_i32_3 : BitVec 32 := 1#32
  let arg15 : BitVec 32 := Scf.iv c0_i32_1 c1_i32_3 k0_t3
  let c256_i32 : BitVec 32 := 256#32
  let v4 : BitVec 32 := Scalar.muli arg15 c256_i32
  let v5 : BitVec 32 := v4
  let v6 : Index := Scalar.indexCast v5
  let c0 : Index := 0#32
  ![v6.toNat, 0]
def k0_off12 (k0_t3 : Fin k0_t3_loop.trips) : Fin 3 → Nat :=
  let c0_6 : Index := 0#32
  let c0_i32_1 : BitVec 32 := 0#32
  let c1_i32_3 : BitVec 32 := 1#32
  let arg15 : BitVec 32 := Scf.iv c0_i32_1 c1_i32_3 k0_t3
  let c256_i32 : BitVec 32 := 256#32
  let v4 : BitVec 32 := Scalar.muli arg15 c256_i32
  let v5 : BitVec 32 := v4
  let v11 : Index := Scalar.indexCast v5
  let c0_7 : Index := 0#32
  ![0, v11.toNat, 0]
def cc0_transform_0 (i : grid0.Coords) : Fin 3 → Nat :=
  let arg0 : BitVec 32 := BitVec.ofNat 32 (i 0).val
  let c0_i32 : BitVec 32 := 0#32
  let c8_i32 : BitVec 32 := 8#32
  let c0_i32_0 : BitVec 32 := 0#32
  ![arg0.toNat, c0_i32.toNat, c8_i32.toNat]

def cc0_transform_1 (i : grid0.Coords) : Fin 3 → Nat :=
  let arg0 : BitVec 32 := BitVec.ofNat 32 (i 0).val
  let c0_i32 : BitVec 32 := 0#32
  let c9_i32 : BitVec 32 := 9#32
  let c0_i32_0 : BitVec 32 := 0#32
  ![arg0.toNat, c0_i32.toNat, c9_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2304x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2304x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2304x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16x2304x10880 : Shape := ⟨3, ![16, 2304, 10880]⟩
abbrev S4x512 : Shape := ⟨2, ![4, 512]⟩
abbrev S512 : Shape := ⟨1, ![512]⟩
abbrev S2x8x64x64 : Shape := ⟨4, ![2, 8, 64, 64]⟩
abbrev S2x512 : Shape := ⟨2, ![2, 512]⟩
abbrev S16x2304x512 : Shape := ⟨3, ![16, 2304, 512]⟩
abbrev S16x256x512 : Shape := ⟨3, ![16, 256, 512]⟩
abbrev S_ : Shape := ⟨0, ![]⟩
abbrev S16x2x512 : Shape := ⟨3, ![16, 2, 512]⟩
abbrev S16x1x512 : Shape := ⟨3, ![16, 1, 512]⟩
abbrev S16x259x512 : Shape := ⟨3, ![16, 259, 512]⟩
abbrev S1x512 : Shape := ⟨2, ![1, 512]⟩
abbrev S1x1x512 : Shape := ⟨3, ![1, 1, 512]⟩
abbrev S16x2048x512 : Shape := ⟨3, ![16, 2048, 512]⟩
abbrev S16x2051x512 : Shape := ⟨3, ![16, 2051, 512]⟩
abbrev S16x2304x8x64 : Shape := ⟨4, ![16, 2304, 8, 64]⟩
abbrev S8x2x64x16x2304 : Shape := ⟨5, ![8, 2, 64, 16, 2304]⟩
abbrev S2x16x2304x8x64 : Shape := ⟨5, ![2, 16, 2304, 8, 64]⟩
abbrev S2x16x2304x512 : Shape := ⟨4, ![2, 16, 2304, 512]⟩
abbrev S2x1x1x512 : Shape := ⟨4, ![2, 1, 1, 512]⟩
abbrev S1x16x2304x512 : Shape := ⟨4, ![1, 16, 2304, 512]⟩
abbrev S2x16x512 : Shape := ⟨3, ![2, 16, 512]⟩
abbrev S2304x2x16x512 : Shape := ⟨4, ![2304, 2, 16, 512]⟩
abbrev S1x2x16x512 : Shape := ⟨4, ![1, 2, 16, 512]⟩

abbrev nBuf : Space → Nat
  | .hbm => 229
  | .vmem => 0
  | .smem => 0
  | _ => 0

abbrev hbmTy0_0 (i : Nat) : BufTy := match i % 128 with
  | 0 => ⟨S16x2304x10880, .bf16⟩
  | 1 => ⟨S4x512, .f32⟩
  | 2 => ⟨S512, .f32⟩
  | 3 => ⟨S2x8x64x64, .f32⟩
  | 4 => ⟨S2x512, .f32⟩
  | 5 => ⟨S2x8x64x64, .f32⟩
  | 6 => ⟨S2x512, .f32⟩
  | 7 => ⟨S2x512, .f32⟩
  | 8 => ⟨S16x2304x10880, .f32⟩
  | 9 => ⟨S16x2304x512, .f32⟩
  | 10 => ⟨S16x2304x512, .f32⟩
  | 11 => ⟨S16x256x512, .f32⟩
  | 12 => ⟨S_, .f32⟩
  | 13 => ⟨S16x2x512, .f32⟩
  | 14 => ⟨S_, .f32⟩
  | 15 => ⟨S16x1x512, .f32⟩
  | 16 => ⟨S16x259x512, .f32⟩
  | 17 => ⟨S16x256x512, .f32⟩
  | 18 => ⟨S1x512, .f32⟩
  | 19 => ⟨S512, .f32⟩
  | 20 => ⟨S1x1x512, .f32⟩
  | 21 => ⟨S16x256x512, .f32⟩
  | 22 => ⟨S16x256x512, .f32⟩
  | 23 => ⟨S16x256x512, .f32⟩
  | 24 => ⟨S1x512, .f32⟩
  | 25 => ⟨S512, .f32⟩
  | 26 => ⟨S1x1x512, .f32⟩
  | 27 => ⟨S16x256x512, .f32⟩
  | 28 => ⟨S16x256x512, .f32⟩
  | 29 => ⟨S16x256x512, .f32⟩
  | 30 => ⟨S16x256x512, .f32⟩
  | 31 => ⟨S1x512, .f32⟩
  | 32 => ⟨S512, .f32⟩
  | 33 => ⟨S1x1x512, .f32⟩
  | 34 => ⟨S16x256x512, .f32⟩
  | 35 => ⟨S16x256x512, .f32⟩
  | 36 => ⟨S16x256x512, .f32⟩
  | 37 => ⟨S16x256x512, .f32⟩
  | 38 => ⟨S1x512, .f32⟩
  | 39 => ⟨S512, .f32⟩
  | 40 => ⟨S1x1x512, .f32⟩
  | 41 => ⟨S16x256x512, .f32⟩
  | 42 => ⟨S16x256x512, .f32⟩
  | 43 => ⟨S16x256x512, .f32⟩
  | 44 => ⟨S16x2048x512, .f32⟩
  | 45 => ⟨S_, .f32⟩
  | 46 => ⟨S16x2x512, .f32⟩
  | 47 => ⟨S_, .f32⟩
  | 48 => ⟨S16x1x512, .f32⟩
  | 49 => ⟨S16x2051x512, .f32⟩
  | 50 => ⟨S16x2048x512, .f32⟩
  | 51 => ⟨S1x512, .f32⟩
  | 52 => ⟨S512, .f32⟩
  | 53 => ⟨S1x1x512, .f32⟩
  | 54 => ⟨S16x2048x512, .f32⟩
  | 55 => ⟨S16x2048x512, .f32⟩
  | 56 => ⟨S16x2048x512, .f32⟩
  | 57 => ⟨S1x512, .f32⟩
  | 58 => ⟨S512, .f32⟩
  | 59 => ⟨S1x1x512, .f32⟩
  | 60 => ⟨S16x2048x512, .f32⟩
  | 61 => ⟨S16x2048x512, .f32⟩
  | 62 => ⟨S16x2048x512, .f32⟩
  | 63 => ⟨S16x2048x512, .f32⟩
  | 64 => ⟨S1x512, .f32⟩
  | 65 => ⟨S512, .f32⟩
  | 66 => ⟨S1x1x512, .f32⟩
  | 67 => ⟨S16x2048x512, .f32⟩
  | 68 => ⟨S16x2048x512, .f32⟩
  | 69 => ⟨S16x2048x512, .f32⟩
  | 70 => ⟨S16x2048x512, .f32⟩
  | 71 => ⟨S1x512, .f32⟩
  | 72 => ⟨S512, .f32⟩
  | 73 => ⟨S1x1x512, .f32⟩
  | 74 => ⟨S16x2048x512, .f32⟩
  | 75 => ⟨S16x2048x512, .f32⟩
  | 76 => ⟨S16x2048x512, .f32⟩
  | 77 => ⟨S16x2304x512, .f32⟩
  | 78 => ⟨S1x1x512, .f32⟩
  | 79 => ⟨S16x2304x512, .f32⟩
  | 80 => ⟨S16x2304x512, .f32⟩
  | 81 => ⟨S16x2304x8x64, .f32⟩
  | 82 => ⟨S8x2x64x16x2304, .f32⟩
  | 83 => ⟨S2x16x2304x8x64, .f32⟩
  | 84 => ⟨S2x16x2304x512, .f32⟩
  | 85 => ⟨S2x1x1x512, .f32⟩
  | 86 => ⟨S2x16x2304x512, .f32⟩
  | 87 => ⟨S2x16x2304x512, .f32⟩
  | 88 => ⟨S2x16x2304x512, .f32⟩
  | 89 => ⟨S2x16x2304x512, .f32⟩
  | 90 => ⟨S_, .f32⟩
  | 91 => ⟨S2x16x2304x512, .f32⟩
  | 92 => ⟨S2x16x2304x512, .f32⟩
  | 93 => ⟨S_, .f32⟩
  | 94 => ⟨S2x16x2304x512, .f32⟩
  | 95 => ⟨S2x16x2304x512, .f32⟩
  | 96 => ⟨S8x2x64x16x2304, .f32⟩
  | 97 => ⟨S2x16x2304x8x64, .f32⟩
  | 98 => ⟨S2x16x2304x512, .f32⟩
  | 99 => ⟨S2x1x1x512, .f32⟩
  | 100 => ⟨S2x16x2304x512, .f32⟩
  | 101 => ⟨S2x16x2304x512, .f32⟩
  | 102 => ⟨S2x16x2304x512, .f32⟩
  | 103 => ⟨S2x16x2304x512, .f32⟩
  | 104 => ⟨S_, .f32⟩
  | 105 => ⟨S2x16x2304x512, .f32⟩
  | 106 => ⟨S2x16x2304x512, .f32⟩
  | 107 => ⟨S_, .f32⟩
  | 108 => ⟨S2x16x2304x512, .f32⟩
  | 109 => ⟨S2x16x2304x512, .f32⟩
  | 110 => ⟨S_, .f32⟩
  | 111 => ⟨S2x16x2304x512, .f32⟩
  | 112 => ⟨S2x16x2304x512, .f32⟩
  | 113 => ⟨S2x512, .f32⟩
  | 114 => ⟨S_, .f32⟩
  | 115 => ⟨S2x512, .f32⟩
  | 116 => ⟨S2x512, .f32⟩
  | 117 => ⟨S2x512, .f32⟩
  | 118 => ⟨S2x512, .f32⟩
  | 119 => ⟨S2x512, .i1⟩
  | 120 => ⟨S2x512, .f32⟩
  | 121 => ⟨S2x512, .f32⟩
  | 122 => ⟨S2x512, .f32⟩
  | 123 => ⟨S2x512, .f32⟩
  | 124 => ⟨S2x512, .f32⟩
  | 125 => ⟨S2x512, .f32⟩
  | 126 => ⟨S2x512, .f32⟩
  | 127 => ⟨S2x512, .f32⟩
  | _ => ⟨S16x2304x10880, .bf16⟩

abbrev hbmTy0_1 (i : Nat) : BufTy := match i % 128 with
  | 0 => ⟨S2x1x1x512, .f32⟩
  | 1 => ⟨S2x16x2304x512, .f32⟩
  | 2 => ⟨S2x16x2304x512, .f32⟩
  | 3 => ⟨S2x16x2304x512, .f32⟩
  | 4 => ⟨S_, .f32⟩
  | 5 => ⟨S2x16x2304x512, .f32⟩
  | 6 => ⟨S2x16x2304x512, .f32⟩
  | 7 => ⟨S2x16x2304x512, .f32⟩
  | 8 => ⟨S2x16x2304x512, .f32⟩
  | 9 => ⟨S2x16x2304x512, .f32⟩
  | 10 => ⟨S1x16x2304x512, .f32⟩
  | 11 => ⟨S2x16x2304x512, .f32⟩
  | 12 => ⟨S2x16x2304x512, .f32⟩
  | 13 => ⟨S2x16x2304x512, .f32⟩
  | 14 => ⟨S_, .f32⟩
  | 15 => ⟨S2x16x512, .f32⟩
  | 16 => ⟨S1x16x2304x512, .f32⟩
  | 17 => ⟨S16x2304x512, .f32⟩
  | 18 => ⟨S1x16x2304x512, .f32⟩
  | 19 => ⟨S16x2304x512, .f32⟩
  | 20 => ⟨S16x256x512, .f32⟩
  | 21 => ⟨S16x256x512, .f32⟩
  | 22 => ⟨S16x2048x512, .f32⟩
  | 23 => ⟨S16x2048x512, .f32⟩
  | 24 => ⟨S16x2304x512, .f32⟩
  | 25 => ⟨S1x16x2304x512, .f32⟩
  | 26 => ⟨S1x16x2304x512, .f32⟩
  | 27 => ⟨S2x16x2304x512, .f32⟩
  | 28 => ⟨S2304x2x16x512, .f32⟩
  | 29 => ⟨S1x16x2304x512, .f32⟩
  | 30 => ⟨S16x2304x512, .f32⟩
  | 31 => ⟨S1x16x2304x512, .f32⟩
  | 32 => ⟨S16x2304x512, .f32⟩
  | 33 => ⟨S16x256x512, .f32⟩
  | 34 => ⟨S16x256x512, .f32⟩
  | 35 => ⟨S16x2048x512, .f32⟩
  | 36 => ⟨S16x2048x512, .f32⟩
  | 37 => ⟨S16x2304x512, .f32⟩
  | 38 => ⟨S1x16x2304x512, .f32⟩
  | 39 => ⟨S1x16x2304x512, .f32⟩
  | 40 => ⟨S2x16x2304x512, .f32⟩
  | 41 => ⟨S2304x2x16x512, .f32⟩
  | 42 => ⟨S_, .f32⟩
  | 43 => ⟨S2304x2x16x512, .f32⟩
  | 44 => ⟨S_, .i32⟩
  | 45 => ⟨S2304x2x16x512, .f32⟩
  | 46 => ⟨S2304x2x16x512, .f32⟩
  | 47 => ⟨S_, .i32⟩
  | 48 => ⟨S2x16x512, .f32⟩
  | 49 => ⟨S2304x2x16x512, .f32⟩
  | 50 => ⟨S_, .i32⟩
  | 51 => ⟨S_, .i1⟩
  | 52 => ⟨S_, .i32⟩
  | 53 => ⟨S_, .i32⟩
  | 54 => ⟨S_, .i32⟩
  | 55 => ⟨S1x2x16x512, .f32⟩
  | 56 => ⟨S2x16x512, .f32⟩
  | 57 => ⟨S_, .i32⟩
  | 58 => ⟨S_, .i32⟩
  | 59 => ⟨S_, .i32⟩
  | 60 => ⟨S1x2x16x512, .f32⟩
  | 61 => ⟨S2x16x512, .f32⟩
  | 62 => ⟨S2x16x512, .f32⟩
  | 63 => ⟨S2x16x512, .f32⟩
  | 64 => ⟨S1x2x16x512, .f32⟩
  | 65 => ⟨S_, .i32⟩
  | 66 => ⟨S_, .i32⟩
  | 67 => ⟨S_, .i32⟩
  | 68 => ⟨S2304x2x16x512, .f32⟩
  | 69 => ⟨S_, .i32⟩
  | 70 => ⟨S_, .i32⟩
  | 71 => ⟨S2x16x2304x512, .f32⟩
  | 72 => ⟨S16x2304x512, .f32⟩
  | 73 => ⟨S16x2304x512, .f32⟩
  | 74 => ⟨S_, .f32⟩
  | 75 => ⟨S16x2304x512, .f32⟩
  | 76 => ⟨S16x2304x512, .f32⟩
  | 77 => ⟨S16x2304x512, .f32⟩
  | 78 => ⟨S_, .f32⟩
  | 79 => ⟨S16x2304x512, .f32⟩
  | 80 => ⟨S16x2304x512, .f32⟩
  | 81 => ⟨S16x2304x512, .f32⟩
  | 82 => ⟨S_, .f32⟩
  | 83 => ⟨S16x2304x512, .f32⟩
  | 84 => ⟨S16x2304x512, .f32⟩
  | 85 => ⟨S_, .f32⟩
  | 86 => ⟨S16x2304x512, .f32⟩
  | 87 => ⟨S16x2304x512, .f32⟩
  | 88 => ⟨S16x2304x512, .f32⟩
  | 89 => ⟨S1x16x2304x512, .f32⟩
  | 90 => ⟨S16x2304x512, .f32⟩
  | 91 => ⟨S1x16x2304x512, .f32⟩
  | 92 => ⟨S16x2304x512, .f32⟩
  | 93 => ⟨S16x256x512, .f32⟩
  | 94 => ⟨S16x256x512, .f32⟩
  | 95 => ⟨S16x2048x512, .f32⟩
  | 96 => ⟨S16x2048x512, .f32⟩
  | 97 => ⟨S16x2304x512, .f32⟩
  | 98 => ⟨S16x2304x512, .f32⟩
  | 99 => ⟨S16x2304x512, .f32⟩
  | 100 => ⟨S16x2304x512, .bf16⟩
  | _ => ⟨S16x2304x10880, .bf16⟩

abbrev hbmTy (i : Nat) : BufTy := match i / 128 with
  | 0 => hbmTy0_0 i
  | 1 => hbmTy0_1 i
  | _ => ⟨S16x2304x10880, .bf16⟩

abbrev bufTy : (tb : Table) → Fin (tcTables nBuf tb) → BufTy
  | .hbm, ⟨i, _⟩ => hbmTy i
  | _, _ => ⟨S16x2304x10880, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_1 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_cst_3 : Ref sig .tc := ⟨.hbm, 90, rfl⟩
abbrev main_v78 : Ref sig .tc := ⟨.hbm, 91, rfl⟩
abbrev main_v79 : Ref sig .tc := ⟨.hbm, 92, rfl⟩
abbrev main_cst_4 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_cst_5 : Ref sig .tc := ⟨.hbm, 104, rfl⟩
abbrev main_v90 : Ref sig .tc := ⟨.hbm, 105, rfl⟩
abbrev main_v91 : Ref sig .tc := ⟨.hbm, 106, rfl⟩
abbrev main_cst_6 : Ref sig .tc := ⟨.hbm, 107, rfl⟩
abbrev main_v92 : Ref sig .tc := ⟨.hbm, 108, rfl⟩
abbrev main_v93 : Ref sig .tc := ⟨.hbm, 109, rfl⟩
abbrev main_cst_7 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_call0_cst : Ref sig .tc := ⟨.hbm, 114, rfl⟩
abbrev main_call0_v0 : Ref sig .tc := ⟨.hbm, 115, rfl⟩
abbrev main_call0_v1 : Ref sig .tc := ⟨.hbm, 116, rfl⟩
abbrev main_call0_v2 : Ref sig .tc := ⟨.hbm, 117, rfl⟩
abbrev main_call0_v3 : Ref sig .tc := ⟨.hbm, 118, rfl⟩
abbrev main_call0_v4 : Ref sig .tc := ⟨.hbm, 119, rfl⟩
abbrev main_call0_v5 : Ref sig .tc := ⟨.hbm, 120, rfl⟩
abbrev main_call0_v6 : Ref sig .tc := ⟨.hbm, 121, rfl⟩
abbrev main_call0_v7 : Ref sig .tc := ⟨.hbm, 122, rfl⟩
abbrev main_call0_v8 : Ref sig .tc := ⟨.hbm, 123, rfl⟩
abbrev main_call0_v9 : Ref sig .tc := ⟨.hbm, 124, rfl⟩
abbrev main_call0_v10 : Ref sig .tc := ⟨.hbm, 125, rfl⟩
abbrev main_call0_v11 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_8 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_cst_9 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_cst_10 : Ref sig .tc := ⟨.hbm, 170, rfl⟩
abbrev main_v138 : Ref sig .tc := ⟨.hbm, 171, rfl⟩
abbrev main_c : Ref sig .tc := ⟨.hbm, 172, rfl⟩
abbrev main_v139_0 : Ref sig .tc := ⟨.hbm, 173, rfl⟩
abbrev main_v139_1 : Ref sig .tc := ⟨.hbm, 174, rfl⟩
abbrev main_v139_2 : Ref sig .tc := ⟨.hbm, 175, rfl⟩
abbrev main_v139_3 : Ref sig .tc := ⟨.hbm, 176, rfl⟩
abbrev main_v139_4 : Ref sig .tc := ⟨.hbm, 177, rfl⟩
abbrev main_while0c_c_19 : Ref sig .tc := ⟨.hbm, 178, rfl⟩
abbrev main_while0c_v166 : Ref sig .tc := ⟨.hbm, 179, rfl⟩
abbrev main_while0b_call5_c : Ref sig .tc := ⟨.hbm, 180, rfl⟩
abbrev main_while0b_call5_c_0 : Ref sig .tc := ⟨.hbm, 181, rfl⟩
abbrev main_while0b_call5_c_1 : Ref sig .tc := ⟨.hbm, 182, rfl⟩
abbrev main_while0b_call5_v0 : Ref sig .tc := ⟨.hbm, 183, rfl⟩
abbrev main_while0b_v166 : Ref sig .tc := ⟨.hbm, 184, rfl⟩
abbrev main_while0b_call6_c : Ref sig .tc := ⟨.hbm, 185, rfl⟩
abbrev main_while0b_call6_c_0 : Ref sig .tc := ⟨.hbm, 186, rfl⟩
abbrev main_while0b_call6_c_1 : Ref sig .tc := ⟨.hbm, 187, rfl⟩
abbrev main_while0b_call6_v0 : Ref sig .tc := ⟨.hbm, 188, rfl⟩
abbrev main_while0b_v167 : Ref sig .tc := ⟨.hbm, 189, rfl⟩
abbrev main_while0b_v168 : Ref sig .tc := ⟨.hbm, 190, rfl⟩
abbrev main_while0b_v169 : Ref sig .tc := ⟨.hbm, 191, rfl⟩
abbrev main_while0b_call7_v0 : Ref sig .tc := ⟨.hbm, 192, rfl⟩
abbrev main_while0b_call7_c : Ref sig .tc := ⟨.hbm, 193, rfl⟩
abbrev main_while0b_call7_c_0 : Ref sig .tc := ⟨.hbm, 194, rfl⟩
abbrev main_while0b_call7_c_1 : Ref sig .tc := ⟨.hbm, 195, rfl⟩
abbrev main_while0b_v170 : Ref sig .tc := ⟨.hbm, 196, rfl⟩
abbrev main_while0b_c_19 : Ref sig .tc := ⟨.hbm, 197, rfl⟩
abbrev main_while0b_v171 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_cst_11 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_cst_12 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_cst_13 : Ref sig .tc := ⟨.hbm, 210, rfl⟩
abbrev main_v149 : Ref sig .tc := ⟨.hbm, 211, rfl⟩
abbrev main_v150 : Ref sig .tc := ⟨.hbm, 212, rfl⟩
abbrev main_cst_14 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩

abbrev nD : Nat := 1
abbrev τ : Topo := Topo.v7x

variable {F : FTy → Type} [FloatOps F]

abbrev main_while0_count : Scf.Loop 32 := ⟨0#32, 2304#32, 1#32⟩
-- ==== Kernel2.lean ====
abbrev S16x2304x1024 : Shape := ⟨3, ![16, 2304, 1024]⟩
abbrev S16x1x1024 : Shape := ⟨3, ![16, 1, 1024]⟩
abbrev S1x1024 : Shape := ⟨2, ![1, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S1x5632 : Shape := ⟨2, ![1, 5632]⟩
abbrev S1x768x1024 : Shape := ⟨3, ![1, 768, 1024]⟩
abbrev S1x8x1024 : Shape := ⟨3, ![1, 8, 1024]⟩
abbrev S1x1x1024 : Shape := ⟨3, ![1, 1, 1024]⟩
abbrev S784x1024 : Shape := ⟨2, ![784, 1024]⟩
abbrev S784x256 : Shape := ⟨2, ![784, 256]⟩
abbrev S768x2816 : Shape := ⟨2, ![768, 2816]⟩
abbrev S768x1024 : Shape := ⟨2, ![768, 1024]⟩
abbrev S8x1024 : Shape := ⟨2, ![8, 1024]⟩
abbrev S784x1 : Shape := ⟨2, ![784, 1]⟩
abbrev S784 : Shape := ⟨1, ![784]⟩
abbrev S768x1 : Shape := ⟨2, ![768, 1]⟩
abbrev S1024x256 : Shape := ⟨2, ![1024, 256]⟩
abbrev S128x1 : Shape := ⟨2, ![128, 1]⟩
abbrev S3x256 : Shape := ⟨2, ![3, 256]⟩
abbrev S1x256 : Shape := ⟨2, ![1, 256]⟩
abbrev S128x256 : Shape := ⟨2, ![128, 256]⟩
abbrev S768 : Shape := ⟨1, ![768]⟩

abbrev nBuf : Space → Nat
  | .hbm => 19
  | .vmem => 27
  | .smem => 0
  | _ => 0

abbrev bufTy : (tb : Table) → Fin (tcTables nBuf tb) → BufTy
  | .hbm, ⟨0, _⟩ => ⟨S16x2304x1024, .f32⟩
  | .hbm, ⟨1, _⟩ => ⟨S16x1x1024, .f32⟩
  | .hbm, ⟨2, _⟩ => ⟨S16x1x1024, .f32⟩
  | .hbm, ⟨3, _⟩ => ⟨S16x1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x5632, .f32⟩
  | .hbm, ⟨8, _⟩ => ⟨S3x5632, .f32⟩
  | .hbm, ⟨9, _⟩ => ⟨S5632, .f32⟩
  | .hbm, ⟨10, _⟩ => ⟨S2816x1024, .f32⟩
  | .hbm, ⟨11, _⟩ => ⟨S1024, .f32⟩
  | .hbm, ⟨12, _⟩ => ⟨S1024, .f32⟩
  | .hbm, ⟨13, _⟩ => ⟨S1024x5632, .bf16⟩
  | .hbm, ⟨14, _⟩ => ⟨S1x5632, .f32⟩
  | .hbm, ⟨15, _⟩ => ⟨S2816x1024, .bf16⟩
  | .hbm, ⟨16, _⟩ => ⟨S1x1024, .f32⟩
  | .hbm, ⟨17, _⟩ => ⟨S1x1024, .f32⟩
  | .hbm, ⟨18, _⟩ => ⟨S16x2304x1024, .f32⟩
  | .local _ .vmem, ⟨0, _⟩ => ⟨S1x768x1024, .f32⟩
  | .local _ .vmem, ⟨1, _⟩ => ⟨S1x768x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1024x5632, .bf16⟩
  | .local _ .vmem, ⟨16, _⟩ => ⟨S3x5632, .f32⟩
  | .local _ .vmem, ⟨17, _⟩ => ⟨S1x5632, .f32⟩
  | .local _ .vmem, ⟨18, _⟩ => ⟨S2816x1024, .bf16⟩
  | .local _ .vmem, ⟨19, _⟩ => ⟨S1x1024, .f32⟩
  | .local _ .vmem, ⟨20, _⟩ => ⟨S1x1024, .f32⟩
  | .local _ .vmem, ⟨21, _⟩ => ⟨S1x768x1024, .f32⟩
  | .local _ .vmem, ⟨22, _⟩ => ⟨S1x768x1024, .f32⟩
  | .local _ .vmem, ⟨23, _⟩ => ⟨S784x1024, .bf16⟩
  | .local _ .vmem, ⟨24, _⟩ => ⟨S784x256, .f32⟩
  | .local _ .vmem, ⟨25, _⟩ => ⟨S784x256, .f32⟩
  | .local _ .vmem, ⟨26, _⟩ => ⟨S768x2816, .bf16⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨2, ![16, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c96_i32 : BitVec 32 := 96#32
  let v0 : BitVec 32 := Scalar.muli arg1 c96_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c96_i32 : BitVec 32 := 96#32
  let v1 : BitVec 32 := Scalar.muli v0 c96_i32
  let c287_i32 : BitVec 32 := 287#32
  let v2 : BitVec 32 := Scalar.minsi v1 c287_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x768x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference2Ideal.lean ====
abbrev S16x2304x1024 : Shape := ⟨3, ![16, 2304, 1024]⟩
abbrev S16x1x1024 : Shape := ⟨3, ![16, 1, 1024]⟩
abbrev S1x1024 : Shape := ⟨2, ![1, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S16x256x1024 : Shape := ⟨3, ![16, 256, 1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x256x5632 : Shape := ⟨3, ![16, 256, 5632]⟩
abbrev S16x1x5632 : Shape := ⟨3, ![16, 1, 5632]⟩
abbrev S16x258x5632 : Shape := ⟨3, ![16, 258, 5632]⟩
abbrev S1x5632 : Shape := ⟨2, ![1, 5632]⟩
abbrev S1x1x5632 : Shape := ⟨3, ![1, 1, 5632]⟩
abbrev S16x256x2816 : Shape := ⟨3, ![16, 256, 2816]⟩
abbrev S16x2048x1024 : Shape := ⟨3, ![16, 2048, 1024]⟩
abbrev S16x2048 : Shape := ⟨2, ![16, 2048]⟩
abbrev S16x2048x1 : Shape := ⟨3, ![16, 2048, 1]⟩
abbrev S16x2048x5632 : Shape := ⟨3, ![16, 2048, 5632]⟩
abbrev S16x2050x5632 : Shape := ⟨3, ![16, 2050, 5632]⟩
abbrev S16x2048x2816 : Shape := ⟨3, ![16, 2048, 2816]⟩

abbrev nBuf : Space → Nat
  | .hbm => 233
  | .vmem => 0
  | .smem => 0
  | _ => 0

abbrev hbmTy0_0 (i : Nat) : BufTy := match i % 128 with
  | 0 => ⟨S16x2304x1024, .f32⟩
  | 1 => ⟨S16x1x1024, .f32⟩
  | 2 => ⟨S16x1x1024, .f32⟩
  | 3 => ⟨S16x1x1024, .f32⟩
  | 4 => ⟨S1x1024, .f32⟩
  | 5 => ⟨S1x1024, .f32⟩
  | 6 => ⟨S1x1024, .f32⟩
  | 7 => ⟨S1024x5632, .f32⟩
  | 8 => ⟨S3x5632, .f32⟩
  | 9 => ⟨S5632, .f32⟩
  | 10 => ⟨S2816x1024, .f32⟩
  | 11 => ⟨S1024, .f32⟩
  | 12 => ⟨S1024, .f32⟩
  | 13 => ⟨S16x256x1024, .f32⟩
  | 14 => ⟨S_, .f32⟩
  | 15 => ⟨S16x256, .f32⟩
  | 16 => ⟨S16x256x1, .f32⟩
  | 17 => ⟨S_, .f32⟩
  | 18 => ⟨S16x256x1, .f32⟩
  | 19 => ⟨S16x256x1, .f32⟩
  | 20 => ⟨S16x256x1024, .f32⟩
  | 21 => ⟨S16x256x1024, .f32⟩
  | 22 => ⟨S16x256x1024, .f32⟩
  | 23 => ⟨S_, .f32⟩
  | 24 => ⟨S16x256, .f32⟩
  | 25 => ⟨S16x256x1, .f32⟩
  | 26 => ⟨S_, .f32⟩
  | 27 => ⟨S16x256x1, .f32⟩
  | 28 => ⟨S16x256x1, .f32⟩
  | 29 => ⟨S16x256x1024, .f32⟩
  | 30 => ⟨S16x256x1024, .f32⟩
  | 31 => ⟨S_, .f32⟩
  | 32 => ⟨S16x256x1, .f32⟩
  | 33 => ⟨S16x256x1, .f32⟩
  | 34 => ⟨S16x256x1, .f32⟩
  | 35 => ⟨S16x256x1024, .f32⟩
  | 36 => ⟨S16x256x1024, .f32⟩
  | 37 => ⟨S_, .f32⟩
  | 38 => ⟨S1x1024, .f32⟩
  | 39 => ⟨S1x1024, .f32⟩
  | 40 => ⟨S1x1x1024, .f32⟩
  | 41 => ⟨S16x256x1024, .f32⟩
  | 42 => ⟨S16x256x1024, .f32⟩
  | 43 => ⟨S1x1x1024, .f32⟩
  | 44 => ⟨S16x256x1024, .f32⟩
  | 45 => ⟨S16x256x1024, .f32⟩
  | 46 => ⟨S16x256x5632, .f32⟩
  | 47 => ⟨S_, .f32⟩
  | 48 => ⟨S16x1x5632, .f32⟩
  | 49 => ⟨S_, .f32⟩
  | 50 => ⟨S16x1x5632, .f32⟩
  | 51 => ⟨S16x258x5632, .f32⟩
  | 52 => ⟨S16x256x5632, .f32⟩
  | 53 => ⟨S1x5632, .f32⟩
  | 54 => ⟨S5632, .f32⟩
  | 55 => ⟨S1x1x5632, .f32⟩
  | 56 => ⟨S16x256x5632, .f32⟩
  | 57 => ⟨S16x256x5632, .f32⟩
  | 58 => ⟨S16x256x5632, .f32⟩
  | 59 => ⟨S1x5632, .f32⟩
  | 60 => ⟨S5632, .f32⟩
  | 61 => ⟨S1x1x5632, .f32⟩
  | 62 => ⟨S16x256x5632, .f32⟩
  | 63 => ⟨S16x256x5632, .f32⟩
  | 64 => ⟨S16x256x5632, .f32⟩
  | 65 => ⟨S16x256x5632, .f32⟩
  | 66 => ⟨S1x5632, .f32⟩
  | 67 => ⟨S5632, .f32⟩
  | 68 => ⟨S1x1x5632, .f32⟩
  | 69 => ⟨S16x256x5632, .f32⟩
  | 70 => ⟨S16x256x5632, .f32⟩
  | 71 => ⟨S16x256x5632, .f32⟩
  | 72 => ⟨S1x1x5632, .f32⟩
  | 73 => ⟨S16x256x5632, .f32⟩
  | 74 => ⟨S16x256x5632, .f32⟩
  | 75 => ⟨S16x256x2816, .f32⟩
  | 76 => ⟨S16x256x2816, .f32⟩
  | 77 => ⟨S16x256x2816, .f32⟩
  | 78 => ⟨S16x256x2816, .f32⟩
  | 79 => ⟨S_, .f32⟩
  | 80 => ⟨S16x256x2816, .f32⟩
  | 81 => ⟨S16x256x2816, .f32⟩
  | 82 => ⟨S_, .f32⟩
  | 83 => ⟨S16x256x2816, .f32⟩
  | 84 => ⟨S16x256x2816, .f32⟩
  | 85 => ⟨S16x256x2816, .f32⟩
  | 86 => ⟨S16x256x2816, .f32⟩
  | 87 => ⟨S16x256x1024, .f32⟩
  | 88 => ⟨S_, .f32⟩
  | 89 => ⟨S16x256x1024, .f32⟩
  | 90 => ⟨S16x256x1024, .f32⟩
  | 91 => ⟨S1x1x1024, .f32⟩
  | 92 => ⟨S16x256x1024, .f32⟩
  | 93 => ⟨S16x256x1024, .f32⟩
  | 94 => ⟨S16x256x1024, .f32⟩
  | 95 => ⟨S_, .f32⟩
  | 96 => ⟨S16x256, .f32⟩
  | 97 => ⟨S16x256x1, .f32⟩
  | 98 => ⟨S_, .f32⟩
  | 99 => ⟨S16x256x1, .f32⟩
  | 100 => ⟨S16x256x1, .f32⟩
  | 101 => ⟨S16x256x1024, .f32⟩
  | 102 => ⟨S16x256x1024, .f32⟩
  | 103 => ⟨S16x256x1024, .f32⟩
  | 104 => ⟨S_, .f32⟩
  | 105 => ⟨S16x256, .f32⟩
  | 106 => ⟨S16x256x1, .f32⟩
  | 107 => ⟨S_, .f32⟩
  | 108 => ⟨S16x256x1, .f32⟩
  | 109 => ⟨S16x256x1, .f32⟩
  | 110 => ⟨S16x256x1024, .f32⟩
  | 111 => ⟨S16x256x1024, .f32⟩
  | 112 => ⟨S_, .f32⟩
  | 113 => ⟨S16x256x1, .f32⟩
  | 114 => ⟨S16x256x1, .f32⟩
  | 115 => ⟨S16x256x1, .f32⟩
  | 116 => ⟨S16x256x1024, .f32⟩
  | 117 => ⟨S16x256x1024, .f32⟩
  | 118 => ⟨S1x1x1024, .f32⟩
  | 119 => ⟨S16x256x1024, .f32⟩
  | 120 => ⟨S16x256x1024, .f32⟩
  | 121 => ⟨S1x1x1024, .f32⟩
  | 122 => ⟨S16x256x1024, .f32⟩
  | 123 => ⟨S16x256x1024, .f32⟩
  | 124 => ⟨S16x2048x1024, .f32⟩
  | 125 => ⟨S_, .f32⟩
  | 126 => ⟨S16x2048, .f32⟩
  | 127 => ⟨S16x2048x1, .f32⟩
  | _ => ⟨S16x2304x1024, .f32⟩

abbrev hbmTy0_1 (i : Nat) : BufTy := match i % 128 with
  | 0 => ⟨S_, .f32⟩
  | 1 => ⟨S16x2048x1, .f32⟩
  | 2 => ⟨S16x2048x1, .f32⟩
  | 3 => ⟨S16x2048x1024, .f32⟩
  | 4 => ⟨S16x2048x1024, .f32⟩
  | 5 => ⟨S16x2048x1024, .f32⟩
  | 6 => ⟨S_, .f32⟩
  | 7 => ⟨S16x2048, .f32⟩
  | 8 => ⟨S16x2048x1, .f32⟩
  | 9 => ⟨S_, .f32⟩
  | 10 => ⟨S16x2048x1, .f32⟩
  | 11 => ⟨S16x2048x1, .f32⟩
  | 12 => ⟨S16x2048x1024, .f32⟩
  | 13 => ⟨S16x2048x1024, .f32⟩
  | 14 => ⟨S_, .f32⟩
  | 15 => ⟨S16x2048x1, .f32⟩
  | 16 => ⟨S16x2048x1, .f32⟩
  | 17 => ⟨S16x2048x1, .f32⟩
  | 18 => ⟨S16x2048x1024, .f32⟩
  | 19 => ⟨S16x2048x1024, .f32⟩
  | 20 => ⟨S_, .f32⟩
  | 21 => ⟨S16x1x1024, .f32⟩
  | 22 => ⟨S16x1x1024, .f32⟩
  | 23 => ⟨S16x2048x1024, .f32⟩
  | 24 => ⟨S16x2048x1024, .f32⟩
  | 25 => ⟨S16x2048x1024, .f32⟩
  | 26 => ⟨S16x2048x1024, .f32⟩
  | 27 => ⟨S16x2048x5632, .f32⟩
  | 28 => ⟨S_, .f32⟩
  | 29 => ⟨S16x1x5632, .f32⟩
  | 30 => ⟨S_, .f32⟩
  | 31 => ⟨S16x1x5632, .f32⟩
  | 32 => ⟨S16x2050x5632, .f32⟩
  | 33 => ⟨S16x2048x5632, .f32⟩
  | 34 => ⟨S1x5632, .f32⟩
  | 35 => ⟨S5632, .f32⟩
  | 36 => ⟨S1x1x5632, .f32⟩
  | 37 => ⟨S16x2048x5632, .f32⟩
  | 38 => ⟨S16x2048x5632, .f32⟩
  | 39 => ⟨S16x2048x5632, .f32⟩
  | 40 => ⟨S1x5632, .f32⟩
  | 41 => ⟨S5632, .f32⟩
  | 42 => ⟨S1x1x5632, .f32⟩
  | 43 => ⟨S16x2048x5632, .f32⟩
  | 44 => ⟨S16x2048x5632, .f32⟩
  | 45 => ⟨S16x2048x5632, .f32⟩
  | 46 => ⟨S16x2048x5632, .f32⟩
  | 47 => ⟨S1x5632, .f32⟩
  | 48 => ⟨S5632, .f32⟩
  | 49 => ⟨S1x1x5632, .f32⟩
  | 50 => ⟨S16x2048x5632, .f32⟩
  | 51 => ⟨S16x2048x5632, .f32⟩
  | 52 => ⟨S16x2048x5632, .f32⟩
  | 53 => ⟨S1x1x5632, .f32⟩
  | 54 => ⟨S16x2048x5632, .f32⟩
  | 55 => ⟨S16x2048x5632, .f32⟩
  | 56 => ⟨S16x2048x2816, .f32⟩
  | 57 => ⟨S16x2048x2816, .f32⟩
  | 58 => ⟨S16x2048x2816, .f32⟩
  | 59 => ⟨S16x2048x2816, .f32⟩
  | 60 => ⟨S_, .f32⟩
  | 61 => ⟨S16x2048x2816, .f32⟩
  | 62 => ⟨S16x2048x2816, .f32⟩
  | 63 => ⟨S_, .f32⟩
  | 64 => ⟨S16x2048x2816, .f32⟩
  | 65 => ⟨S16x2048x2816, .f32⟩
  | 66 => ⟨S16x2048x2816, .f32⟩
  | 67 => ⟨S16x2048x2816, .f32⟩
  | 68 => ⟨S16x2048x1024, .f32⟩
  | 69 => ⟨S_, .f32⟩
  | 70 => ⟨S16x2048x1024, .f32⟩
  | 71 => ⟨S16x2048x1024, .f32⟩
  | 72 => ⟨S16x2048x1024, .f32⟩
  | 73 => ⟨S16x2048x1024, .f32⟩
  | 74 => ⟨S16x2048x1024, .f32⟩
  | 75 => ⟨S_, .f32⟩
  | 76 => ⟨S16x2048, .f32⟩
  | 77 => ⟨S16x2048x1, .f32⟩
  | 78 => ⟨S_, .f32⟩
  | 79 => ⟨S16x2048x1, .f32⟩
  | 80 => ⟨S16x2048x1, .f32⟩
  | 81 => ⟨S16x2048x1024, .f32⟩
  | 82 => ⟨S16x2048x1024, .f32⟩
  | 83 => ⟨S16x2048x1024, .f32⟩
  | 84 => ⟨S_, .f32⟩
  | 85 => ⟨S16x2048, .f32⟩
  | 86 => ⟨S16x2048x1, .f32⟩
  | 87 => ⟨S_, .f32⟩
  | 88 => ⟨S16x2048x1, .f32⟩
  | 89 => ⟨S16x2048x1, .f32⟩
  | 90 => ⟨S16x2048x1024, .f32⟩
  | 91 => ⟨S16x2048x1024, .f32⟩
  | 92 => ⟨S_, .f32⟩
  | 93 => ⟨S16x2048x1, .f32⟩
  | 94 => ⟨S16x2048x1, .f32⟩
  | 95 => ⟨S16x2048x1, .f32⟩
  | 96 => ⟨S16x2048x1024, .f32⟩
  | 97 => ⟨S16x2048x1024, .f32⟩
  | 98 => ⟨S1x1x1024, .f32⟩
  | 99 => ⟨S16x2048x1024, .f32⟩
  | 100 => ⟨S16x2048x1024, .f32⟩
  | 101 => ⟨S1x1x1024, .f32⟩
  | 102 => ⟨S16x2048x1024, .f32⟩
  | 103 => ⟨S16x2048x1024, .f32⟩
  | 104 => ⟨S16x2304x1024, .f32⟩
  | _ => ⟨S16x2304x1024, .f32⟩

abbrev hbmTy (i : Nat) : BufTy := match i / 128 with
  | 0 => hbmTy0_0 i
  | 1 => hbmTy0_1 i
  | _ => ⟨S16x2304x1024, .f32⟩

abbrev bufTy : (tb : Table) → Fin (tcTables nBuf tb) → BufTy
  | .hbm, ⟨i, _⟩ => hbmTy i
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_call0_v0 : Ref sig .tc := ⟨.hbm, 77, rfl⟩
abbrev main_call0_v1 : Ref sig .tc := ⟨.hbm, 78, rfl⟩
abbrev main_call0_cst : Ref sig .tc := ⟨.hbm, 79, rfl⟩
abbrev main_call0_v2 : Ref sig .tc := ⟨.hbm, 80, rfl⟩
abbrev main_call0_v3 : Ref sig .tc := ⟨.hbm, 81, rfl⟩
abbrev main_call0_cst_0 : Ref sig .tc := ⟨.hbm, 82, rfl⟩
abbrev main_call0_v4 : Ref sig .tc := ⟨.hbm, 83, rfl⟩
abbrev main_call0_v5 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_7 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_8 : Ref sig .tc := ⟨.hbm, 95, rfl⟩
abbrev main_v65 : Ref sig .tc := ⟨.hbm, 96, rfl⟩
abbrev main_v66 : Ref sig .tc := ⟨.hbm, 97, rfl⟩
abbrev main_cst_9 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_10 : Ref sig .tc := ⟨.hbm, 104, rfl⟩
abbrev main_v72 : Ref sig .tc := ⟨.hbm, 105, rfl⟩
abbrev main_v73 : Ref sig .tc := ⟨.hbm, 106, rfl⟩
abbrev main_cst_11 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_12 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_13 : Ref sig .tc := ⟨.hbm, 125, rfl⟩
abbrev main_v90 : Ref sig .tc := ⟨.hbm, 126, rfl⟩
abbrev main_v91 : Ref sig .tc := ⟨.hbm, 127, rfl⟩
abbrev main_cst_14 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_15 : Ref sig .tc := ⟨.hbm, 134, rfl⟩
abbrev main_v97 : Ref sig .tc := ⟨.hbm, 135, rfl⟩
abbrev main_v98 : Ref sig .tc := ⟨.hbm, 136, rfl⟩
abbrev main_cst_16 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_17 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_18 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_cst_19 : Ref sig .tc := ⟨.hbm, 156, rfl⟩
abbrev main_v115 : Ref sig .tc := ⟨.hbm, 157, rfl⟩
abbrev main_cst_20 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_call1_v0 : Ref sig .tc := ⟨.hbm, 186, rfl⟩
abbrev main_call1_v1 : Ref sig .tc := ⟨.hbm, 187, rfl⟩
abbrev main_call1_cst : Ref sig .tc := ⟨.hbm, 188, rfl⟩
abbrev main_call1_v2 : Ref sig .tc := ⟨.hbm, 189, rfl⟩
abbrev main_call1_v3 : Ref sig .tc := ⟨.hbm, 190, rfl⟩
abbrev main_call1_cst_0 : Ref sig .tc := ⟨.hbm, 191, rfl⟩
abbrev main_call1_v4 : Ref sig .tc := ⟨.hbm, 192, rfl⟩
abbrev main_call1_v5 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_cst_21 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_cst_22 : Ref sig .tc := ⟨.hbm, 203, rfl⟩
abbrev main_v151 : Ref sig .tc := ⟨.hbm, 204, rfl⟩
abbrev main_v152 : Ref sig .tc := ⟨.hbm, 205, rfl⟩
abbrev main_cst_23 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_cst_24 : Ref sig .tc := ⟨.hbm, 212, rfl⟩
abbrev main_v158 : Ref sig .tc := ⟨.hbm, 213, rfl⟩
abbrev main_v159 : Ref sig .tc := ⟨.hbm, 214, rfl⟩
abbrev main_cst_25 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_cst_26 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩

abbrev nD : Nat := 1
abbrev τ : Topo := Topo.v7x

variable {F : FTy → Type} [FloatOps F]
-- ==== Kernel3.lean ====
abbrev S16x2304x1024 : Shape := ⟨3, ![16, 2304, 1024]⟩
abbrev S16x1x1024 : Shape := ⟨3, ![16, 1, 1024]⟩
abbrev S1x1024 : Shape := ⟨2, ![1, 1024]⟩
abbrev S1024x10768 : Shape := ⟨2, ![1024, 10768]⟩
abbrev S1024x4096 : Shape := ⟨2, ![1024, 4096]⟩
abbrev S1024x1024 : Shape := ⟨2, ![1024, 1024]⟩
abbrev S1024x2560 : Shape := ⟨2, ![1024, 2560]⟩
abbrev S1024x64 : Shape := ⟨2, ![1024, 64]⟩
abbrev S1024x1088 : Shape := ⟨2, ![1024, 1088]⟩
abbrev S1024x576 : Shape := ⟨2, ![1024, 576]⟩
abbrev S1024x512 : Shape := ⟨2, ![1024, 512]⟩
abbrev S1024x16 : Shape := ⟨2, ![1024, 16]⟩
abbrev S_ : Shape := ⟨0, ![]⟩
abbrev S1024x112 : Shape := ⟨2, ![1024, 112]⟩
abbrev S1024x9536 : Shape := ⟨2, ![1024, 9536]⟩
abbrev S1024x1344 : Shape := ⟨2, ![1024, 1344]⟩
abbrev S1024x10880 : Shape := ⟨2, ![1024, 10880]⟩
abbrev S16x2304x10880 : Shape := ⟨3, ![16, 2304, 10880]⟩
abbrev S1x1152x1024 : Shape := ⟨3, ![1, 1152, 1024]⟩
abbrev S1x1x1024 : Shape := ⟨3, ![1, 1, 1024]⟩
abbrev S1024x2176 : Shape := ⟨2, ![1024, 2176]⟩
abbrev S1x1152x2176 : Shape := ⟨3, ![1, 1152, 2176]⟩
abbrev S1152x1024 : Shape := ⟨2, ![1152, 1024]⟩
abbrev S1152x1 : Shape := ⟨2, ![1152, 1]⟩
abbrev S1152 : Shape := ⟨1, ![1152]⟩
abbrev S1152x2176 : Shape := ⟨2, ![1152, 2176]⟩

abbrev nBuf : Space → Nat
  | .hbm => 34
  | .vmem => 13
  | .smem => 0
  | _ => 0

abbrev bufTy : (tb : Table) → Fin (tcTables nBuf tb) → BufTy
  | .hbm, ⟨0, _⟩ => ⟨S16x2304x1024, .f32⟩
  | .hbm, ⟨1, _⟩ => ⟨S16x1x1024, .f32⟩
  | .hbm, ⟨2, _⟩ => ⟨S16x1x1024, .f32⟩
  | .hbm, ⟨3, _⟩ => ⟨S1x1024, .f32⟩
  | .hbm, ⟨4, _⟩ => ⟨S1x1024, .f32⟩
  | .hbm, ⟨5, _⟩ => ⟨S1024x10768, .f32⟩
  | .hbm, ⟨6, _⟩ => ⟨S1024x10768, .bf16⟩
  | .hbm, ⟨7, _⟩ => ⟨S1024x4096, .bf16⟩
  | .hbm, ⟨8, _⟩ => ⟨S1024x1024, .bf16⟩
  | .hbm, ⟨9, _⟩ => ⟨S1024x2560, .bf16⟩
  | .hbm, ⟨10, _⟩ => ⟨S1024x64, .bf16⟩
  | .hbm, ⟨11, _⟩ => ⟨S1024x64, .bf16⟩
  | .hbm, ⟨12, _⟩ => ⟨S1024x64, .bf16⟩
  | .hbm, ⟨13, _⟩ => ⟨S1024x64, .bf16⟩
  | .hbm, ⟨14, _⟩ => ⟨S1024x64, .bf16⟩
  | .hbm, ⟨15, _⟩ => ⟨S1024x64, .bf16⟩
  | .hbm, ⟨16, _⟩ => ⟨S1024x64, .bf16⟩
  | .hbm, ⟨17, _⟩ => ⟨S1024x1088, .bf16⟩
  | .hbm, ⟨18, _⟩ => ⟨S1024x64, .bf16⟩
  | .hbm, ⟨19, _⟩ => ⟨S1024x64, .bf16⟩
  | .hbm, ⟨20, _⟩ => ⟨S1024x64, .bf16⟩
  | .hbm, ⟨21, _⟩ => ⟨S1024x64, .bf16⟩
  | .hbm, ⟨22, _⟩ => ⟨S1024x64, .bf16⟩
  | .hbm, ⟨23, _⟩ => ⟨S1024x64, .bf16⟩
  | .hbm, ⟨24, _⟩ => ⟨S1024x64, .bf16⟩
  | .hbm, ⟨25, _⟩ => ⟨S1024x576, .bf16⟩
  | .hbm, ⟨26, _⟩ => ⟨S1024x512, .bf16⟩
  | .hbm, ⟨27, _⟩ => ⟨S1024x16, .bf16⟩
  | .hbm, ⟨28, _⟩ => ⟨S_, .bf16⟩
  | .hbm, ⟨29, _⟩ => ⟨S1024x112, .bf16⟩
  | .hbm, ⟨30, _⟩ => ⟨S1024x9536, .bf16⟩
  | .hbm, ⟨31, _⟩ => ⟨S1024x1344, .bf16⟩
  | .hbm, ⟨32, _⟩ => ⟨S1024x10880, .bf16⟩
  | .hbm, ⟨33, _⟩ => ⟨S16x2304x10880, .bf16⟩
  | .local _ .vmem, ⟨0, _⟩ => ⟨S1x1152x1024, .f32⟩
  | .local _ .vmem, ⟨1, _⟩ => ⟨S1x1152x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024, .f32⟩
  | .local _ .vmem, ⟨8, _⟩ => ⟨S1024x2176, .bf16⟩
  | .local _ .vmem, ⟨9, _⟩ => ⟨S1024x2176, .bf16⟩
  | .local _ .vmem, ⟨10, _⟩ => ⟨S1x1152x2176, .bf16⟩
  | .local _ .vmem, ⟨11, _⟩ => ⟨S1x1152x2176, .bf16⟩
  | .local _ .vmem, ⟨12, _⟩ => ⟨S1152x1024, .bf16⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![16, 2, 5], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1152x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x2176 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1152x2176 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference3Ideal.lean ====
abbrev S16x2304x1024 : Shape := ⟨3, ![16, 2304, 1024]⟩
abbrev S16x1x1024 : Shape := ⟨3, ![16, 1, 1024]⟩
abbrev S1x1024 : Shape := ⟨2, ![1, 1024]⟩
abbrev S1024x10768 : Shape := ⟨2, ![1024, 10768]⟩
abbrev S16x256x1024 : Shape := ⟨3, ![16, 256, 1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x256x10768 : Shape := ⟨3, ![16, 256, 10768]⟩
abbrev S16x2048x1024 : Shape := ⟨3, ![16, 2048, 1024]⟩
abbrev S16x2048 : Shape := ⟨2, ![16, 2048]⟩
abbrev S16x2048x1 : Shape := ⟨3, ![16, 2048, 1]⟩
abbrev S16x2048x10768 : Shape := ⟨3, ![16, 2048, 10768]⟩
abbrev S16x2304x10768 : Shape := ⟨3, ![16, 2304, 10768]⟩
abbrev S16x2304x4096 : Shape := ⟨3, ![16, 2304, 4096]⟩
abbrev S16x2304x2560 : Shape := ⟨3, ![16, 2304, 2560]⟩
abbrev S16x2304x256 : Shape := ⟨3, ![16, 2304, 256]⟩
abbrev S16x2304x4x64 : Shape := ⟨4, ![16, 2304, 4, 64]⟩
abbrev S16x2304x4x128 : Shape := ⟨4, ![16, 2304, 4, 128]⟩
abbrev S16x2304x512 : Shape := ⟨3, ![16, 2304, 512]⟩
abbrev S16x2304x16 : Shape := ⟨3, ![16, 2304, 16]⟩
abbrev S16x2304x112 : Shape := ⟨3, ![16, 2304, 112]⟩
abbrev S16x2304x10880 : Shape := ⟨3, ![16, 2304, 10880]⟩

abbrev nBuf : Space → Nat
  | .hbm => 96
  | .vmem => 0
  | .smem => 0
  | _ => 0

abbrev bufTy : (tb : Table) → Fin (tcTables nBuf tb) → BufTy
  | .hbm, ⟨0, _⟩ => ⟨S16x2304x1024, .f32⟩
  | .hbm, ⟨1, _⟩ => ⟨S16x1x1024, .f32⟩
  | .hbm, ⟨2, _⟩ => ⟨S16x1x1024, .f32⟩
  | .hbm, ⟨3, _⟩ => ⟨S1x1024, .f32⟩
  | .hbm, ⟨4, _⟩ => ⟨S1x1024, .f32⟩
  | .hbm, ⟨5, _⟩ => ⟨S1024x10768, .f32⟩
  | .hbm, ⟨6, _⟩ => ⟨S16x256x1024, .f32⟩
  | .hbm, ⟨7, _⟩ => ⟨S_, .f32⟩
  | .hbm, ⟨8, _⟩ => ⟨S16x256, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S16x256x1024, .f32⟩
  | .hbm, ⟨14, _⟩ => ⟨S16x256x1024, .f32⟩
  | .hbm, ⟨15, _⟩ => ⟨S16x256x1024, .f32⟩
  | .hbm, ⟨16, _⟩ => ⟨S_, .f32⟩
  | .hbm, ⟨17, _⟩ => ⟨S16x256, .f32⟩
  | .hbm, ⟨18, _⟩ => ⟨S16x256x1, .f32⟩
  | .hbm, ⟨19, _⟩ => ⟨S_, .f32⟩
  | .hbm, ⟨20, _⟩ => ⟨S16x256x1, .f32⟩
  | .hbm, ⟨21, _⟩ => ⟨S16x256x1, .f32⟩
  | .hbm, ⟨22, _⟩ => ⟨S16x256x1024, .f32⟩
  | .hbm, ⟨23, _⟩ => ⟨S16x256x1024, .f32⟩
  | .hbm, ⟨24, _⟩ => ⟨S_, .f32⟩
  | .hbm, ⟨25, _⟩ => ⟨S16x256x1, .f32⟩
  | .hbm, ⟨26, _⟩ => ⟨S16x256x1, .f32⟩
  | .hbm, ⟨27, _⟩ => ⟨S16x256x1, .f32⟩
  | .hbm, ⟨28, _⟩ => ⟨S16x256x1024, .f32⟩
  | .hbm, ⟨29, _⟩ => ⟨S16x256x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1x1024, .f32⟩
  | .hbm, ⟨34, _⟩ => ⟨S16x256x1024, .f32⟩
  | .hbm, ⟨35, _⟩ => ⟨S16x256x1024, .f32⟩
  | .hbm, ⟨36, _⟩ => ⟨S1x1x1024, .f32⟩
  | .hbm, ⟨37, _⟩ => ⟨S16x256x1024, .f32⟩
  | .hbm, ⟨38, _⟩ => ⟨S16x256x1024, .f32⟩
  | .hbm, ⟨39, _⟩ => ⟨S16x256x10768, .f32⟩
  | .hbm, ⟨40, _⟩ => ⟨S16x2048x1024, .f32⟩
  | .hbm, ⟨41, _⟩ => ⟨S_, .f32⟩
  | .hbm, ⟨42, _⟩ => ⟨S16x2048, .f32⟩
  | .hbm, ⟨43, _⟩ => ⟨S16x2048x1, .f32⟩
  | .hbm, ⟨44, _⟩ => ⟨S_, .f32⟩
  | .hbm, ⟨45, _⟩ => ⟨S16x2048x1, .f32⟩
  | .hbm, ⟨46, _⟩ => ⟨S16x2048x1, .f32⟩
  | .hbm, ⟨47, _⟩ => ⟨S16x2048x1024, .f32⟩
  | .hbm, ⟨48, _⟩ => ⟨S16x2048x1024, .f32⟩
  | .hbm, ⟨49, _⟩ => ⟨S16x2048x1024, .f32⟩
  | .hbm, ⟨50, _⟩ => ⟨S_, .f32⟩
  | .hbm, ⟨51, _⟩ => ⟨S16x2048, .f32⟩
  | .hbm, ⟨52, _⟩ => ⟨S16x2048x1, .f32⟩
  | .hbm, ⟨53, _⟩ => ⟨S_, .f32⟩
  | .hbm, ⟨54, _⟩ => ⟨S16x2048x1, .f32⟩
  | .hbm, ⟨55, _⟩ => ⟨S16x2048x1, .f32⟩
  | .hbm, ⟨56, _⟩ => ⟨S16x2048x1024, .f32⟩
  | .hbm, ⟨57, _⟩ => ⟨S16x2048x1024, .f32⟩
  | .hbm, ⟨58, _⟩ => ⟨S_, .f32⟩
  | .hbm, ⟨59, _⟩ => ⟨S16x2048x1, .f32⟩
  | .hbm, ⟨60, _⟩ => ⟨S16x2048x1, .f32⟩
  | .hbm, ⟨61, _⟩ => ⟨S16x2048x1, .f32⟩
  | .hbm, ⟨62, _⟩ => ⟨S16x2048x1024, .f32⟩
  | .hbm, ⟨63, _⟩ => ⟨S16x2048x1024, .f32⟩
  | .hbm, ⟨64, _⟩ => ⟨S_, .f32⟩
  | .hbm, ⟨65, _⟩ => ⟨S16x1x1024, .f32⟩
  | .hbm, ⟨66, _⟩ => ⟨S16x1x1024, .f32⟩
  | .hbm, ⟨67, _⟩ => ⟨S16x2048x1024, .f32⟩
  | .hbm, ⟨68, _⟩ => ⟨S16x2048x1024, .f32⟩
  | .hbm, ⟨69, _⟩ => ⟨S16x2048x1024, .f32⟩
  | .hbm, ⟨70, _⟩ => ⟨S16x2048x1024, .f32⟩
  | .hbm, ⟨71, _⟩ => ⟨S16x2048x10768, .f32⟩
  | .hbm, ⟨72, _⟩ => ⟨S16x2304x10768, .f32⟩
  | .hbm, ⟨73, _⟩ => ⟨S16x2304x4096, .f32⟩
  | .hbm, ⟨74, _⟩ => ⟨S16x2304x1024, .f32⟩
  | .hbm, ⟨75, _⟩ => ⟨S16x2304x2560, .f32⟩
  | .hbm, ⟨76, _⟩ => ⟨S16x2304x256, .f32⟩
  | .hbm, ⟨77, _⟩ => ⟨S16x2304x256, .f32⟩
  | .hbm, ⟨78, _⟩ => ⟨S16x2304x4x64, .f32⟩
  | .hbm, ⟨79, _⟩ => ⟨S16x2304x4x64, .f32⟩
  | .hbm, ⟨80, _⟩ => ⟨S16x2304x4x128, .f32⟩
  | .hbm, ⟨81, _⟩ => ⟨S16x2304x512, .f32⟩
  | .hbm, ⟨82, _⟩ => ⟨S16x2304x1024, .f32⟩
  | .hbm, ⟨83, _⟩ => ⟨S16x2304x256, .f32⟩
  | .hbm, ⟨84, _⟩ => ⟨S16x2304x256, .f32⟩
  | .hbm, ⟨85, _⟩ => ⟨S16x2304x4x64, .f32⟩
  | .hbm, ⟨86, _⟩ => ⟨S16x2304x4x64, .f32⟩
  | .hbm, ⟨87, _⟩ => ⟨S16x2304x4x128, .f32⟩
  | .hbm, ⟨88, _⟩ => ⟨S16x2304x512, .f32⟩
  | .hbm, ⟨89, _⟩ => ⟨S16x2304x512, .f32⟩
  | .hbm, ⟨90, _⟩ => ⟨S16x2304x512, .f32⟩
  | .hbm, ⟨91, _⟩ => ⟨S16x2304x16, .f32⟩
  | .hbm, ⟨92, _⟩ => ⟨S_, .f32⟩
  | .hbm, ⟨93, _⟩ => ⟨S16x2304x112, .f32⟩
  | .hbm, ⟨94, _⟩ => ⟨S16x2304x10880, .f32⟩
  | .hbm, ⟨95, _⟩ => ⟨S16x2304x10880, .bf16⟩
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_11 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩

abbrev nD : Nat := 1
abbrev τ : Topo := Topo.v7x

variable {F : FTy → Type} [FloatOps F]
-- ==== Kernel4.lean ====
abbrev S16x2304x1024 : Shape := ⟨3, ![16, 2304, 1024]⟩
abbrev S16x2304x512 : Shape := ⟨3, ![16, 2304, 512]⟩
abbrev S16x2304x10880 : Shape := ⟨3, ![16, 2304, 10880]⟩
abbrev S16x1x1024 : Shape := ⟨3, ![16, 1, 1024]⟩
abbrev S1x1024 : Shape := ⟨2, ![1, 1024]⟩
abbrev S4x512x1024 : Shape := ⟨3, ![4, 512, 1024]⟩
abbrev S1024x1024 : Shape := ⟨2, ![1024, 1024]⟩
abbrev S1024 : Shape := ⟨1, ![1024]⟩
abbrev S1x256x1024 : Shape := ⟨3, ![1, 256, 1024]⟩
abbrev S1x256x512 : Shape := ⟨3, ![1, 256, 512]⟩
abbrev S1x256x4096 : Shape := ⟨3, ![1, 256, 4096]⟩
abbrev S1x1x1024 : Shape := ⟨3, ![1, 1, 1024]⟩
abbrev S256x1024 : Shape := ⟨2, ![256, 1024]⟩
abbrev S256x512 : Shape := ⟨2, ![256, 512]⟩
abbrev S1x512x1024 : Shape := ⟨3, ![1, 512, 1024]⟩
abbrev S512x1024 : Shape := ⟨2, ![512, 1024]⟩
abbrev S256x1 : Shape := ⟨2, ![256, 1]⟩
abbrev S256 : Shape := ⟨1, ![256]⟩

abbrev nBuf : Space → Nat
  | .hbm => 17
  | .vmem => 21
  | .smem => 0
  | _ => 0

abbrev bufTy : (tb : Table) → Fin (tcTables nBuf tb) → BufTy
  | .hbm, ⟨0, _⟩ => ⟨S16x2304x1024, .f32⟩
  | .hbm, ⟨1, _⟩ => ⟨S16x2304x512, .bf16⟩
  | .hbm, ⟨2, _⟩ => ⟨S16x2304x512, .bf16⟩
  | .hbm, ⟨3, _⟩ => ⟨S16x2304x512, .bf16⟩
  | .hbm, ⟨4, _⟩ => ⟨S16x2304x512, .bf16⟩
  | .hbm, ⟨5, _⟩ => ⟨S16x2304x10880, .bf16⟩
  | .hbm, ⟨6, _⟩ => ⟨S16x1x1024, .f32⟩
  | .hbm, ⟨7, _⟩ => ⟨S1x1024, .f32⟩
  | .hbm, ⟨8, _⟩ => ⟨S4x512x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S4x512x1024, .bf16⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S16x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x4096, .bf16⟩
  | .local _ .vmem, ⟨11, _⟩ => ⟨S1x256x4096, .bf16⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S4x512x1024, .bf16⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S1x256x1024, .f32⟩
  | .local _ .vmem, ⟨20, _⟩ => ⟨S1x256x1024, .f32⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference4Ideal.lean ====
abbrev S16x2304x1024 : Shape := ⟨3, ![16, 2304, 1024]⟩
abbrev S16x2304x512 : Shape := ⟨3, ![16, 2304, 512]⟩
abbrev S16x2304x10880 : Shape := ⟨3, ![16, 2304, 10880]⟩
abbrev S16x1x1024 : Shape := ⟨3, ![16, 1, 1024]⟩
abbrev S1x1024 : Shape := ⟨2, ![1, 1024]⟩
abbrev S4x512x1024 : Shape := ⟨3, ![4, 512, 1024]⟩
abbrev S1024x1024 : Shape := ⟨2, ![1024, 1024]⟩
abbrev S1024 : Shape := ⟨1, ![1024]⟩
abbrev S16x2304x4096 : Shape := ⟨3, ![16, 2304, 4096]⟩
abbrev S_ : Shape := ⟨0, ![]⟩
abbrev S1x512x1024 : Shape := ⟨3, ![1, 512, 1024]⟩
abbrev S512x1024 : Shape := ⟨2, ![512, 1024]⟩
abbrev S16x256x1024 : Shape := ⟨3, ![16, 256, 1024]⟩
abbrev S1x1x1024 : Shape := ⟨3, ![1, 1, 1024]⟩
abbrev S16x256 : Shape := ⟨2, ![16, 256]⟩
abbrev S16x256x1 : Shape := ⟨3, ![16, 256, 1]⟩
abbrev S16x2048x1024 : Shape := ⟨3, ![16, 2048, 1024]⟩
abbrev S16x2048 : Shape := ⟨2, ![16, 2048]⟩
abbrev S16x2048x1 : Shape := ⟨3, ![16, 2048, 1]⟩

abbrev nBuf : Space → Nat
  | .hbm => 126
  | .vmem => 0
  | .smem => 0
  | _ => 0

abbrev bufTy : (tb : Table) → Fin (tcTables nBuf tb) → BufTy
  | .hbm, ⟨0, _⟩ => ⟨S16x2304x1024, .f32⟩
  | .hbm, ⟨1, _⟩ => ⟨S16x2304x512, .bf16⟩
  | .hbm, ⟨2, _⟩ => ⟨S16x2304x512, .bf16⟩
  | .hbm, ⟨3, _⟩ => ⟨S16x2304x512, .bf16⟩
  | .hbm, ⟨4, _⟩ => ⟨S16x2304x512, .bf16⟩
  | .hbm, ⟨5, _⟩ => ⟨S16x2304x10880, .bf16⟩
  | .hbm, ⟨6, _⟩ => ⟨S16x1x1024, .f32⟩
  | .hbm, ⟨7, _⟩ => ⟨S1x1024, .f32⟩
  | .hbm, ⟨8, _⟩ => ⟨S4x512x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S16x2304x4096, .bf16⟩
  | .hbm, ⟨13, _⟩ => ⟨S16x2304x4096, .f32⟩
  | .hbm, ⟨14, _⟩ => ⟨S16x2304x4096, .f32⟩
  | .hbm, ⟨15, _⟩ => ⟨S16x2304x4096, .f32⟩
  | .hbm, ⟨16, _⟩ => ⟨S_, .f32⟩
  | .hbm, ⟨17, _⟩ => ⟨S16x2304x4096, .f32⟩
  | .hbm, ⟨18, _⟩ => ⟨S16x2304x4096, .f32⟩
  | .hbm, ⟨19, _⟩ => ⟨S_, .f32⟩
  | .hbm, ⟨20, _⟩ => ⟨S16x2304x4096, .f32⟩
  | .hbm, ⟨21, _⟩ => ⟨S16x2304x4096, .f32⟩
  | .hbm, ⟨22, _⟩ => ⟨S16x2304x1024, .f32⟩
  | .hbm, ⟨23, _⟩ => ⟨S16x2304x512, .f32⟩
  | .hbm, ⟨24, _⟩ => ⟨S1x512x1024, .f32⟩
  | .hbm, ⟨25, _⟩ => ⟨S512x1024, .f32⟩
  | .hbm, ⟨26, _⟩ => ⟨S16x2304x1024, .f32⟩
  | .hbm, ⟨27, _⟩ => ⟨S16x2304x1024, .f32⟩
  | .hbm, ⟨28, _⟩ => ⟨S16x2304x1024, .f32⟩
  | .hbm, ⟨29, _⟩ => ⟨S16x2304x512, .f32⟩
  | .hbm, ⟨30, _⟩ => ⟨S1x512x1024, .f32⟩
  | .hbm, ⟨31, _⟩ => ⟨S512x1024, .f32⟩
  | .hbm, ⟨32, _⟩ => ⟨S16x2304x1024, .f32⟩
  | .hbm, ⟨33, _⟩ => ⟨S16x2304x1024, .f32⟩
  | .hbm, ⟨34, _⟩ => ⟨S16x2304x1024, .f32⟩
  | .hbm, ⟨35, _⟩ => ⟨S16x2304x1024, .f32⟩
  | .hbm, ⟨36, _⟩ => ⟨S16x2304x512, .f32⟩
  | .hbm, ⟨37, _⟩ => ⟨S1x512x1024, .f32⟩
  | .hbm, ⟨38, _⟩ => ⟨S512x1024, .f32⟩
  | .hbm, ⟨39, _⟩ => ⟨S16x2304x1024, .f32⟩
  | .hbm, ⟨40, _⟩ => ⟨S16x2304x1024, .f32⟩
  | .hbm, ⟨41, _⟩ => ⟨S16x2304x1024, .f32⟩
  | .hbm, ⟨42, _⟩ => ⟨S16x2304x1024, .f32⟩
  | .hbm, ⟨43, _⟩ => ⟨S16x2304x512, .f32⟩
  | .hbm, ⟨44, _⟩ => ⟨S1x512x1024, .f32⟩
  | .hbm, ⟨45, _⟩ => ⟨S512x1024, .f32⟩
  | .hbm, ⟨46, _⟩ => ⟨S16x2304x1024, .f32⟩
  | .hbm, ⟨47, _⟩ => ⟨S16x2304x1024, .f32⟩
  | .hbm, ⟨48, _⟩ => ⟨S16x2304x1024, .f32⟩
  | .hbm, ⟨49, _⟩ => ⟨S16x2304x1024, .f32⟩
  | .hbm, ⟨50, _⟩ => ⟨S16x256x1024, .f32⟩
  | .hbm, ⟨51, _⟩ => ⟨S16x256x1024, .f32⟩
  | .hbm, ⟨52, _⟩ => ⟨S_, .f32⟩
  | .hbm, ⟨53, _⟩ => ⟨S16x256x1024, .f32⟩
  | .hbm, ⟨54, _⟩ => ⟨S16x256x1024, .f32⟩
  | .hbm, ⟨55, _⟩ => ⟨S1x1x1024, .f32⟩
  | .hbm, ⟨56, _⟩ => ⟨S16x256x1024, .f32⟩
  | .hbm, ⟨57, _⟩ => ⟨S16x256x1024, .f32⟩
  | .hbm, ⟨58, _⟩ => ⟨S16x256x1024, .f32⟩
  | .hbm, ⟨59, _⟩ => ⟨S_, .f32⟩
  | .hbm, ⟨60, _⟩ => ⟨S16x256, .f32⟩
  | .hbm, ⟨61, _⟩ => ⟨S16x256x1, .f32⟩
  | .hbm, ⟨62, _⟩ => ⟨S_, .f32⟩
  | .hbm, ⟨63, _⟩ => ⟨S16x256x1, .f32⟩
  | .hbm, ⟨64, _⟩ => ⟨S16x256x1, .f32⟩
  | .hbm, ⟨65, _⟩ => ⟨S16x256x1024, .f32⟩
  | .hbm, ⟨66, _⟩ => ⟨S16x256x1024, .f32⟩
  | .hbm, ⟨67, _⟩ => ⟨S16x256x1024, .f32⟩
  | .hbm, ⟨68, _⟩ => ⟨S_, .f32⟩
  | .hbm, ⟨69, _⟩ => ⟨S16x256, .f32⟩
  | .hbm, ⟨70, _⟩ => ⟨S16x256x1, .f32⟩
  | .hbm, ⟨71, _⟩ => ⟨S_, .f32⟩
  | .hbm, ⟨72, _⟩ => ⟨S16x256x1, .f32⟩
  | .hbm, ⟨73, _⟩ => ⟨S16x256x1, .f32⟩
  | .hbm, ⟨74, _⟩ => ⟨S16x256x1024, .f32⟩
  | .hbm, ⟨75, _⟩ => ⟨S16x256x1024, .f32⟩
  | .hbm, ⟨76, _⟩ => ⟨S_, .f32⟩
  | .hbm, ⟨77, _⟩ => ⟨S16x256x1, .f32⟩
  | .hbm, ⟨78, _⟩ => ⟨S16x256x1, .f32⟩
  | .hbm, ⟨79, _⟩ => ⟨S16x256x1, .f32⟩
  | .hbm, ⟨80, _⟩ => ⟨S16x256x1024, .f32⟩
  | .hbm, ⟨81, _⟩ => ⟨S16x256x1024, .f32⟩
  | .hbm, ⟨82, _⟩ => ⟨S1x1x1024, .f32⟩
  | .hbm, ⟨83, _⟩ => ⟨S16x256x1024, .f32⟩
  | .hbm, ⟨84, _⟩ => ⟨S16x256x1024, .f32⟩
  | .hbm, ⟨85, _⟩ => ⟨S1x1x1024, .f32⟩
  | .hbm, ⟨86, _⟩ => ⟨S16x256x1024, .f32⟩
  | .hbm, ⟨87, _⟩ => ⟨S16x256x1024, .f32⟩
  | .hbm, ⟨88, _⟩ => ⟨S16x2048x1024, .f32⟩
  | .hbm, ⟨89, _⟩ => ⟨S16x2048x1024, .f32⟩
  | .hbm, ⟨90, _⟩ => ⟨S_, .f32⟩
  | .hbm, ⟨91, _⟩ => ⟨S16x2048x1024, .f32⟩
  | .hbm, ⟨92, _⟩ => ⟨S16x2048x1024, .f32⟩
  | .hbm, ⟨93, _⟩ => ⟨S16x2048x1024, .f32⟩
  | .hbm, ⟨94, _⟩ => ⟨S16x2048x1024, .f32⟩
  | .hbm, ⟨95, _⟩ => ⟨S16x2048x1024, .f32⟩
  | .hbm, ⟨96, _⟩ => ⟨S_, .f32⟩
  | .hbm, ⟨97, _⟩ => ⟨S16x2048, .f32⟩
  | .hbm, ⟨98, _⟩ => ⟨S16x2048x1, .f32⟩
  | .hbm, ⟨99, _⟩ => ⟨S_, .f32⟩
  | .hbm, ⟨100, _⟩ => ⟨S16x2048x1, .f32⟩
  | .hbm, ⟨101, _⟩ => ⟨S16x2048x1, .f32⟩
  | .hbm, ⟨102, _⟩ => ⟨S16x2048x1024, .f32⟩
  | .hbm, ⟨103, _⟩ => ⟨S16x2048x1024, .f32⟩
  | .hbm, ⟨104, _⟩ => ⟨S16x2048x1024, .f32⟩
  | .hbm, ⟨105, _⟩ => ⟨S_, .f32⟩
  | .hbm, ⟨106, _⟩ => ⟨S16x2048, .f32⟩
  | .hbm, ⟨107, _⟩ => ⟨S16x2048x1, .f32⟩
  | .hbm, ⟨108, _⟩ => ⟨S_, .f32⟩
  | .hbm, ⟨109, _⟩ => ⟨S16x2048x1, .f32⟩
  | .hbm, ⟨110, _⟩ => ⟨S16x2048x1, .f32⟩
  | .hbm, ⟨111, _⟩ => ⟨S16x2048x1024, .f32⟩
  | .hbm, ⟨112, _⟩ => ⟨S16x2048x1024, .f32⟩
  | .hbm, ⟨113, _⟩ => ⟨S_, .f32⟩
  | .hbm, ⟨114, _⟩ => ⟨S16x2048x1, .f32⟩
  | .hbm, ⟨115, _⟩ => ⟨S16x2048x1, .f32⟩
  | .hbm, ⟨116, _⟩ => ⟨S16x2048x1, .f32⟩
  | .hbm, ⟨117, _⟩ => ⟨S16x2048x1024, .f32⟩
  | .hbm, ⟨118, _⟩ => ⟨S16x2048x1024, .f32⟩
  | .hbm, ⟨119, _⟩ => ⟨S1x1x1024, .f32⟩
  | .hbm, ⟨120, _⟩ => ⟨S16x2048x1024, .f32⟩
  | .hbm, ⟨121, _⟩ => ⟨S16x2048x1024, .f32⟩
  | .hbm, ⟨122, _⟩ => ⟨S1x1x1024, .f32⟩
  | .hbm, ⟨123, _⟩ => ⟨S16x2048x1024, .f32⟩
  | .hbm, ⟨124, _⟩ => ⟨S16x2048x1024, .f32⟩
  | .hbm, ⟨125, _⟩ => ⟨S16x2304x1024, .f32⟩
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_1 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_2 : Ref sig .tc := ⟨.hbm, 59, rfl⟩
abbrev main_v44 : Ref sig .tc := ⟨.hbm, 60, rfl⟩
abbrev main_v45 : Ref sig .tc := ⟨.hbm, 61, rfl⟩
abbrev main_cst_3 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_4 : Ref sig .tc := ⟨.hbm, 68, rfl⟩
abbrev main_v51 : Ref sig .tc := ⟨.hbm, 69, rfl⟩
abbrev main_v52 : Ref sig .tc := ⟨.hbm, 70, rfl⟩
abbrev main_cst_5 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_6 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_7 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_8 : Ref sig .tc := ⟨.hbm, 96, rfl⟩
abbrev main_v75 : Ref sig .tc := ⟨.hbm, 97, rfl⟩
abbrev main_v76 : Ref sig .tc := ⟨.hbm, 98, rfl⟩
abbrev main_cst_9 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_10 : Ref sig .tc := ⟨.hbm, 105, rfl⟩
abbrev main_v82 : Ref sig .tc := ⟨.hbm, 106, rfl⟩
abbrev main_v83 : Ref sig .tc := ⟨.hbm, 107, rfl⟩
abbrev main_cst_11 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_12 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩

abbrev nD : Nat := 1
abbrev τ : Topo := Topo.v7x

variable {F : FTy → Type} [FloatOps F]
-- ==== Proof.LruSpec.lean ====
/- The recurrence's layer written at a batch, a row and a column: the depthwise convolution inside a segment, the
   gates, the decay and the update, the two chains of states and the output. -/
module

public import Idealize.ShloMosaic.Lib.Pointwise
public import Idealize.ShloMosaic.Lib.Pipeline.Value
public import Idealize.ShloMosaic.PureOps.Ideal.Laws

@[expose] public section

set_option maxRecDepth 16384

noncomputable section

namespace Cert.Lru

open Idealize.ShloMosaic

/-- Rows before 256 are one segment and the others another: position `r + j - 2` lies in row `r`'s segment. -/
def seg (r j : ℕ) : Prop := (r < 256 ∧ 2 ≤ r + j ∧ r + j < 258) ∨ (256 ≤ r ∧ 258 ≤ r + j ∧ r + j < 2306)

instance (r j : ℕ) : Decidable (seg r j) := by unfold seg; infer_instance

/-- One tap of the convolution at row `r`. -/
def tap (x : ℕ → EReal) (w : EReal) (r j : ℕ) : EReal := if seg r j then x (r + j - 2) * w else 0

/-- The convolution at row `r`, with its bias. -/
def cv (x : ℕ → EReal) (w0 w1 w2 w3 bias : EReal) (r : ℕ) : EReal :=
  tap x w0 r 0 + tap x w1 r 1 + tap x w2 r 2 + tap x w3 r 3 + bias

/-- `log (1 + exp y)`, written stably. -/
def softplus (y : EReal) : EReal := max y 0 + Ideal.log1p (Ideal.exp (-max y (-y)))

/-- The decay, of the recurrence gate and the parameter. -/
def decay (r lam : EReal) : EReal := Ideal.exp (Ideal.ofBits .f32 0xC1000000#32 * r * softplus (-lam))

/-- The update, of the decay, the input gate and the input. -/
def update (a i x : EReal) : EReal := Ideal.sqrt (1 - a * a) * (i * x)

/-- A chain of states from zero. -/
def chain (a u : ℕ → EReal) : ℕ → EReal
  | 0 => 0
  | n + 1 => a n * chain a u n + u n

/-- Chains of the same decays and updates are the same. -/
theorem chain_congr {a a' u u' : ℕ → EReal} {N : ℕ} (ha : ∀ n < N, a n = a' n) (hu : ∀ n < N, u n = u' n) :
    ∀ n ≤ N, chain a u n = chain a' u' n := by
  intro n
  induction n with
  | zero => intro _; rfl
  | succ n ih => intro h; show a n * chain a u n + u n = a' n * chain a' u' n + u' n
                 rw [ha n (by omega), hu n (by omega), ih (by omega)]

/-- The tanh form of the gelu. -/
def gelu (x : EReal) : EReal :=
  x * (Ideal.ofBits .f32 0x3F000000#32 * (1 + Ideal.tanh (Ideal.ofBits .f32 0x3F4C422A#32
    * (x + Ideal.ofBits .f32 0x3D372713#32 * (x * x * x)))))

/-- The step of the backward direction that visits row `r`, and the row that step `n` visits. -/
def pos (r : ℕ) : ℕ := if r < 256 then 255 - r else 2559 - r

theorem pos_pos (r : ℕ) (h : r < 2304) : pos (pos r) = r := by unfold pos; split_ifs <;> omega
theorem pos_lt (r : ℕ) (h : r < 2304) : pos r < 2304 := by unfold pos; split_ifs <;> omega

end Cert.Lru

end
-- ==== Proof.LruRefSeq.lean ====
/- The reference's decays and updates in the order of the recurrence. -/
module

public import proofs.«01_k».proof.Proof.Gen.ReferenceIdeal.Run
public import proofs.«01_k».proof.Proof.LruSpec
public import Idealize.ShloMosaic.Lib.Pointwise
public import Idealize.ShloMosaic.Lib.StableHlo.RunRead

@[expose] public section

set_option maxRecDepth 16384

noncomputable section

namespace Cert.ReferenceIdeal.Lru

open Cert.ReferenceIdeal Cert.ReferenceIdeal.Gen Cert.ReferenceIdeal.Value
open Idealize.ShloMosaic Idealize.ShloMosaic.TcCoe Idealize.ShloMosaic.Tactic Idealize.ShloMosaic.StableHlo
open Cert.Lru

variable (W : Valuation τ sig (Elt Ideal))

/-- The softplus, written out. -/
def sp (y : FVec Ideal S2x512 .f32) : FVec Ideal S2x512 .f32 :=
  let z : FVec Ideal S2x512 .f32 := broadcastInDim S2x512 ![] bcast_S_S2x512 (constant S_ .f32 0x00000000#32)
  select (cmpf .une (subf y z) (subf y z)) (addf y z) (addf (maximumf y z) (Host.log1p (Host.exp (Host.negf (Host.absf (subf y z))))))

theorem sp_at (y : FVec Ideal S2x512 .f32) (q : Fin 2) (d : Fin 512) : sp y (ix2 q d) = softplus (y (ix2 q d)) := by
  pointwise [sp]
  rw [if_neg (by simp)]
  rfl

theorem v97_eq : (after hostOps0_1 W (Proc.devRef .tc main_v97) : Vec Ideal S2x512 .f32) = sp (W (Proc.devRef .tc main_v96)) := by
  after_reads_simp
  rfl

/-- What the stretches after the second leave, from what the second left. -/
def tail : Valuation τ sig (Elt Ideal) :=
  after hostOps0_10 (after hostOps0_9 (after hostOps0_8 (after hostOps0_7 (after hostOps0_6 (after hostOps0_5 (after hostOps0_4 (after hostOps0_3 (after hostOps0_2 W))))))))

/-- The decay of direction `q` at a row. -/
def aV (l : FVec Ideal S2x16x2304x512 .f32) (p : FVec Ideal S2x512 .f32) (q : Fin 2) (b : Fin 16) (d : Fin 512) (r : ℕ) : EReal :=
  Ideal.exp (l (ix4 q b ⟨r % 2304, Nat.mod_lt _ (by decide)⟩ d) * p (ix2 q d))

/-- The update of direction `q` at a row. -/
def uV (l : FVec Ideal S2x16x2304x512 .f32) (p : FVec Ideal S2x512 .f32) (i : FVec Ideal S2x16x2304x512 .f32) (x : FVec Ideal S16x2304x512 .f32)
    (q : Fin 2) (b : Fin 16) (d : Fin 512) (r : ℕ) : EReal :=
  Ideal.sqrt (-(Ideal.exp (Ideal.ofBits .f32 0x40000000#32 * (l (ix4 q b ⟨r % 2304, Nat.mod_lt _ (by decide)⟩ d) * p (ix2 q d))) - 1))
  * (i (ix4 q b ⟨r % 2304, Nat.mod_lt _ (by decide)⟩ d) * x (ix3 b ⟨r % 2304, Nat.mod_lt _ (by decide)⟩ d))

theorem aV_of (l : FVec Ideal S2x16x2304x512 .f32) (p : FVec Ideal S2x512 .f32) (q : Fin 2) (b : Fin 16) (d : Fin 512) (r : ℕ) (h : r < 2304) (s : ℕ) (e : s = r) :
    Ideal.exp (l (ix4 q b ⟨r, h⟩ d) * p (ix2 q d)) = aV l p q b d s := by
  subst e
  unfold aV
  simp only [Nat.mod_eq_of_lt h]

theorem uV_of (l : FVec Ideal S2x16x2304x512 .f32) (p : FVec Ideal S2x512 .f32) (i : FVec Ideal S2x16x2304x512 .f32) (x : FVec Ideal S16x2304x512 .f32)
    (q : Fin 2) (b : Fin 16) (d : Fin 512) (r : ℕ) (h : r < 2304) (s : ℕ) (e : s = r) :
    Ideal.sqrt (-(Ideal.exp (Ideal.ofBits .f32 0x40000000#32 * (l (ix4 q b ⟨r, h⟩ d) * p (ix2 q d))) - 1))
      * (i (ix4 q b ⟨r, h⟩ d) * x (ix3 b ⟨r, h⟩ d)) = uV l p i x q b d s := by
  subst e
  unfold uV
  simp only [Nat.mod_eq_of_lt h]

/-- The decays of direction `q` of what the second stretch left. -/
def aW (q : Fin 2) (b : Fin 16) (d : Fin 512) : ℕ → EReal :=
  aV (W (Proc.devRef .tc main_v95)) (W (Proc.devRef .tc main_v97)) q b d
/-- The updates of direction `q` of what the second stretch left. -/
def uW (q : Fin 2) (b : Fin 16) (d : Fin 512) : ℕ → EReal :=
  uV (W (Proc.devRef .tc main_v95)) (W (Proc.devRef .tc main_v97)) (W (Proc.devRef .tc main_v93)) (W (Proc.devRef .tc main_v68)) q b d

theorem rev_val (N k : ℕ) (h : k < N) (P : Prop) [Decidable P] (hP : P) :
    (if P then Fin.rev ⟨k, h⟩ else ⟨k, h⟩ : Fin N).val = N - (k + 1) := by
  rw [if_pos hP, Fin.val_rev]

/-- Direction 0 visits the rows in order. -/
theorem v139_0_fwd (n : Fin 2304) (b : Fin 16) (d : Fin 512) :
    (tail W (Proc.devRef .tc main_v139_0) : Vec Ideal S2304x2x16x512 .f32) (ix4 n 0 b d) = aW W 0 b d n.val := by
  unfold tail
  after_reads_simp
  simp only [id_eq]
  pointwise
  after_reads_simp
  pointwise
  exact aV_of _ _ 0 b d _ n.isLt _ rfl
/-- Direction 1 visits each segment's rows backwards. -/
theorem v139_0_bwd (n : Fin 2304) (b : Fin 16) (d : Fin 512) :
    (tail W (Proc.devRef .tc main_v139_0) : Vec Ideal S2304x2x16x512 .f32) (ix4 n 1 b d) = aW W 1 b d (pos n.val) := by
  have hn := n.isLt
  unfold tail
  after_reads_simp
  simp only [id_eq]
  pointwise
  after_reads_simp
  pointwise
  after_reads_simp
  pointwise
  simp only [TRef.toBuf, TRef.ofBuf, cast_eq]
  pointwise
  unfold pos
  by_cases h : n.val < 256
  · rw [dif_pos h, if_pos h]
    exact aV_of _ _ 1 b d _ _ _ (Eq.trans (by omega : 255 - n.val = 256 - (n.val + 1)) (rev_val 256 n.val h _ (by decide)).symm)
  · rw [dif_neg h, if_neg h]
    exact aV_of _ _ 1 b d _ _ _ (Eq.trans (by omega : 2559 - n.val = 256 + (2048 - (n.val - 256 + 1))) (congrArg (256 + ·) (rev_val 2048 (n.val - 256) (by omega) _ (by decide)).symm))
/-- Direction 0 visits the rows in order. -/
theorem v139_1_fwd (n : Fin 2304) (b : Fin 16) (d : Fin 512) :
    (tail W (Proc.devRef .tc main_v139_1) : Vec Ideal S2304x2x16x512 .f32) (ix4 n 0 b d) = uW W 0 b d n.val := by
  unfold tail
  after_reads_simp
  simp only [id_eq]
  pointwise
  after_reads_simp
  pointwise
  exact uV_of _ _ _ _ 0 b d _ n.isLt _ rfl
/-- Direction 1 visits each segment's rows backwards. -/
theorem v139_1_bwd (n : Fin 2304) (b : Fin 16) (d : Fin 512) :
    (tail W (Proc.devRef .tc main_v139_1) : Vec Ideal S2304x2x16x512 .f32) (ix4 n 1 b d) = uW W 1 b d (pos n.val) := by
  have hn := n.isLt
  unfold tail
  after_reads_simp
  simp only [id_eq]
  pointwise
  after_reads_simp
  pointwise
  after_reads_simp
  pointwise
  simp only [TRef.toBuf, TRef.ofBuf, cast_eq]
  pointwise
  unfold pos
  by_cases h : n.val < 256
  · rw [dif_pos h, if_pos h]
    exact uV_of _ _ _ _ 1 b d _ _ _ (Eq.trans (by omega : 255 - n.val = 256 - (n.val + 1)) (rev_val 256 n.val h _ (by decide)).symm)
  · rw [dif_neg h, if_neg h]
    exact uV_of _ _ _ _ 1 b d _ _ _ (Eq.trans (by omega : 2559 - n.val = 256 + (2048 - (n.val - 256 + 1))) (congrArg (256 + ·) (rev_val 2048 (n.val - 256) (by omega) _ (by decide)).symm))

end Cert.ReferenceIdeal.Lru

end
-- ==== Proof.LruRefOut.lean ====
/- What the reference makes of the states. -/
module

public import proofs.«01_k».proof.Proof.LruRefSeq

@[expose] public section

set_option maxRecDepth 16384

noncomputable section

namespace Cert.ReferenceIdeal.Lru

open Cert.ReferenceIdeal Cert.ReferenceIdeal.Gen Cert.ReferenceIdeal.Value
open Idealize.ShloMosaic Idealize.ShloMosaic.TcCoe Idealize.ShloMosaic.Tactic Idealize.ShloMosaic.StableHlo
open Cert.Lru

variable (W : Valuation τ sig (Elt Ideal))

/-- What the stretches after the loop leave. -/
def post : Valuation τ sig (Elt Ideal) :=
  after hostOps0_15 (after hostOps0_14 (after hostOps0_13 (after hostOps0_12 (after hostOps0_11 W))))

/-- The output, of the gate's input and the states of the two directions. -/
def outV (g : FVec Ideal S16x2304x512 .f32) (s : FVec Ideal S2304x2x16x512 .f32) (b : Fin 16) (r : Fin 2304) (d : Fin 512) : EReal :=
  gelu (g (ix3 b r d)) * (s (ix4 r 0 b d) + s (ix4 ⟨pos r.val, pos_lt _ r.isLt⟩ 1 b d))

theorem at_row (s : FVec Ideal S2304x2x16x512 .f32) (b : Fin 16) (d : Fin 512) (x : ℕ) (hx : x < 2304) (y : ℕ) (hy : y < 2304) (e : x = y) :
    s (ix4 ⟨x, hx⟩ 1 b d) = s (ix4 ⟨y, hy⟩ 1 b d) := by
  subst e
  rfl

theorem v165_at (b : Fin 16) (r : Fin 2304) (d : Fin 512) :
    (post W (Proc.devRef .tc main_v165) : Vec Ideal S16x2304x512 .bf16) (ix3 b r d)
      = outV (W (Proc.devRef .tc main_v2)) (W (Proc.devRef .tc main_v139_4)) b r d := by
  have hr := r.isLt
  unfold post
  after_reads_simp
  pointwise
  after_reads_simp
  pointwise
  simp only [TRef.toBuf, TRef.ofBuf, cast_eq]
  pointwise
  unfold outV gelu
  refine congrArg₂ (· * ·) rfl (congrArg₂ (· + ·) rfl ?_)
  by_cases h : r.val < 256
  · rw [dif_pos h]
    exact at_row _ _ _ _ _ _ _ ((rev_val 256 r.val h _ (by decide)).trans (by unfold pos; rw [if_pos h]; omega))
  · rw [dif_neg h]
    exact at_row _ _ _ _ _ _ _ (Eq.trans (b := 256 + (2048 - (r.val - 256 + 1))) (congrArg (256 + ·) (rev_val 2048 (r.val - 256) (by omega) _ (by decide))) (by unfold pos; rw [if_neg h]; omega))

end Cert.ReferenceIdeal.Lru

end
-- ==== Proof.LruRefLoop.lean ====
/- The reference's loop over the rows. -/
module

public import proofs.«01_k».proof.Proof.LruRefSeq
public import Idealize.ShloMosaic.Lib.DynamicIndex

@[expose] public section

set_option maxRecDepth 16384

noncomputable section

namespace Cert.ReferenceIdeal.Lru

open Cert.ReferenceIdeal Cert.ReferenceIdeal.Gen Cert.ReferenceIdeal.Value
open Idealize.ShloMosaic Idealize.ShloMosaic.TcCoe Idealize.ShloMosaic.Tactic Idealize.ShloMosaic.StableHlo
open Cert.Lru

variable (W : Valuation τ sig (Elt Ideal))

/-- One step of the recurrence, of the decay, the state and the update. -/
def stepV (a : FVec Ideal S2304x2x16x512 .f32) (s : FVec Ideal S2x16x512 .f32) (u : FVec Ideal S2304x2x16x512 .f32) (n : Fin 2304) (q : Fin 2) (b : Fin 16) (d : Fin 512) : EReal :=
  a (ix4 n q b d) * s (ix3 q b d) + u (ix4 n q b d)

theorem iv_toInt (k : ℕ) (hk : k < 2304) : (Scf.iv 0#32 1#32 k).toInt = (k : ℤ) :=
  (by decide +kernel : ∀ k : Fin 2304, (Scf.iv 0#32 1#32 k.val).toInt = (k.val : ℤ)) ⟨k, hk⟩

/-- Where the loop's slices of row `k` start. -/
theorem start_at (k : ℕ) (hk : k < 2304) (x : IVec S_ 32) (hx : x = fun _ => Scf.iv 0#32 1#32 k) (i : Fin 4) :
    (((![x, constantI S_ 32 0#32, constantI S_ 32 0#32, constantI S_ 32 0#32] : Fin 4 → (⟨S_, .i32⟩ : BufTy).Contents (Elt Ideal))) i (Shape.Idx.first h_S_)).toInt
      = ((![k, 0, 0, 0] : Fin 4 → ℕ) i : ℤ) := by
  subst hx
  fin_cases i
  · exact iv_toInt k hk
  · rfl
  · rfl
  · rfl

theorem fits (k : ℕ) (hk : k < 2304) : S2304x2x16x512.Slices (![k, 0, 0, 0] : Fin 4 → ℕ) S1x2x16x512 :=
  ⟨rfl, fun a => by
    fin_cases a
    · show k + 1 ≤ 2304; omega
    · show 0 + 2 ≤ 2; omega
    · show 0 + 16 ≤ 16; omega
    · show 0 + 512 ≤ 512; omega⟩

theorem slice_at (a : FVec Ideal S2304x2x16x512 .f32) (k : ℕ) (hk : k < 2304) (start : Fin 4 → ℤ) (hs : ∀ i, start i = ((![k, 0, 0, 0] : Fin 4 → ℕ) i : ℤ))
    (q : Fin 2) (b : Fin 16) (d : Fin 512) :
    (shapeCast S2x16x512 (Host.dynamicSlice S1x2x16x512 a start sliceFits_S2304x2x16x512_S1x2x16x512) shapeCasts_S1x2x16x512_S2x16x512 : FVec Ideal S2x16x512 .f32) (ix3 q b d)
      = a (ix4 ⟨k, hk⟩ q b d) := by
  rw [Host.dynamicSlice_eq_extractStridedSlice S1x2x16x512 a start ![k, 0, 0, 0] _ (fits k hk) hs]
  pointwise

theorem res_at (k : ℕ) (hk : k < 2304) (hc : W (Proc.devRef .tc main_v139_2) = fun _ => Scf.iv 0#32 1#32 k) (q : Fin 2) (b : Fin 16) (d : Fin 512) :
    (res_main_while0b_v169 W : Vec Ideal S2x16x512 .f32) (ix3 q b d)
      = stepV (W (Proc.devRef .tc main_v139_0)) (W (Proc.devRef .tc main_v139_3)) (W (Proc.devRef .tc main_v139_1)) ⟨k, hk⟩ q b d := by
  unfold stepV
  exact congrArg₂ (· + ·) (congrArg₂ (· * ·) (slice_at _ k hk _ (start_at k hk _ hc) q b d) rfl) (slice_at _ k hk _ (start_at k hk _ hc) q b d)

theorem upd_at (x : FVec Ideal S2304x2x16x512 .f32) (y : FVec Ideal S2x16x512 .f32) (k : ℕ) (hk : k < 2304) (start : Fin 4 → ℤ) (hs : ∀ i, start i = ((![k, 0, 0, 0] : Fin 4 → ℕ) i : ℤ))
    (n : Fin 2304) (q : Fin 2) (b : Fin 16) (d : Fin 512) :
    (Host.dynamicUpdateSlice x (broadcastInDim S1x2x16x512 ![1, 2, 3] bcast_S2x16x512_S1x2x16x512_1_2_3 y) start updateFits_S2304x2x16x512_S1x2x16x512 : FVec Ideal S2304x2x16x512 .f32) (ix4 n q b d)
      = if n.val = k then y (ix3 q b d) else x (ix4 n q b d) := by
  rw [Host.dynamicUpdateSlice_eq_updateSlice x _ start _ ![k, 0, 0, 0] (fun a => by have := (fits k hk).2 a; rw [hs a]; omega) (fits k hk)]
  by_cases h : n.val = k
  · rw [if_pos h]
    unfold updateSlice
    rw [dif_pos (fun a => by have hq := q.isLt; fin_cases a <;> simp [ix4, h] <;> omega)]
    pointwise
  · rw [if_neg h]
    unfold updateSlice
    rw [dif_neg]
    intro g
    have := g 0
    simp [ix4] at this
    omega

theorem step4_at (k : ℕ) (hk : k < 2304) (hc : W (Proc.devRef .tc main_v139_2) = fun _ => Scf.iv 0#32 1#32 k) (n : Fin 2304) (q : Fin 2) (b : Fin 16) (d : Fin 512) :
    (step_main_v139_4 W : Vec Ideal S2304x2x16x512 .f32) (ix4 n q b d)
      = if n.val = k then (res_main_while0b_v169 W : Vec Ideal S2x16x512 .f32) (ix3 q b d) else (W (Proc.devRef .tc main_v139_4) : Vec Ideal S2304x2x16x512 .f32) (ix4 n q b d) :=
  upd_at _ _ k hk _ (start_at k hk _ hc) n q b d

/-- A row of an array of rows by its number. -/
def rowV (a : FVec Ideal S2304x2x16x512 .f32) (q : Fin 2) (b : Fin 16) (d : Fin 512) (n : ℕ) : EReal :=
  a (ix4 ⟨n % 2304, Nat.mod_lt _ (by decide)⟩ q b d)

/-- What holds before trip `k`: the decays and updates are as at the start, the state is the chain's `k`-th and the rows before `k` hold theirs. -/
structure Inv (A U : FVec Ideal S2304x2x16x512 .f32) (k : ℕ) (X : Valuation τ sig (Elt Ideal)) : Prop where
  a : X (Proc.devRef .tc main_v139_0) = A
  u : X (Proc.devRef .tc main_v139_1) = U
  s : ∀ q b d, (X (Proc.devRef .tc main_v139_3) : Vec Ideal S2x16x512 .f32) (ix3 q b d) = chain (rowV A q b d) (rowV U q b d) k
  o : ∀ n q b d, n.val < k → (X (Proc.devRef .tc main_v139_4) : Vec Ideal S2304x2x16x512 .f32) (ix4 n q b d) = chain (rowV A q b d) (rowV U q b d) (n.val + 1)

theorem Inv.step {A U : FVec Ideal S2304x2x16x512 .f32} {k : ℕ} {X : Valuation τ sig (Elt Ideal)} (hk : k < 2304)
    (hc : X (Proc.devRef .tc main_v139_2) = fun _ => Scf.iv 0#32 1#32 k) (h : Inv A U k X) : Inv A U (k + 1) (STEP X) := by
  have e : ∀ q b d, (res_main_while0b_v169 X : Vec Ideal S2x16x512 .f32) (ix3 q b d) = chain (rowV A q b d) (rowV U q b d) (k + 1) := by
    intro q b d
    rw [res_at X k hk hc, h.a, h.u]
    unfold stepV
    rw [chain, h.s]
    unfold rowV
    simp only [Nat.mod_eq_of_lt hk]
  refine ⟨(STEP_main_v139_0 X).trans h.a, (STEP_main_v139_1 X).trans h.u, fun q b d => ?_, fun n q b d hn => ?_⟩
  · rw [STEP_main_v139_3]
    exact e q b d
  · rw [STEP_main_v139_4]
    refine (step4_at X k hk hc n q b d).trans ?_
    by_cases hnk : n.val = k
    · rw [if_pos hnk, hnk]
      exact e q b d
    · rw [if_neg hnk]
      exact h.o n q b d (by omega)

theorem Inv.congr {A U : FVec Ideal S2304x2x16x512 .f32} {k : ℕ} {X Y : Valuation τ sig (Elt Ideal)} (e : Agree Y X) (h : Inv A U k X) : Inv A U k Y := by
  refine ⟨(e main_v139_0 (by decide)).trans h.a, (e main_v139_1 (by decide)).trans h.u, fun q b d => ?_, fun n q b d hn => ?_⟩
  · rw [e main_v139_3 (by decide)]; exact h.s q b d
  · rw [e main_v139_4 (by decide)]; exact h.o n q b d hn

/-- The invariant before every trip and at the end. -/
theorem inv_atK (m : (ℓ : Loc nD τ sig) → ℓ.ty.Contents (Elt Ideal)) (c : Dev nD) {A U : FVec Ideal S2304x2x16x512 .f32} (h0 : Inv A U 0 (entryContents preI m c)) :
    ∀ k ≤ 2304, Inv A U k (atK m k c)
  | 0, _ => h0
  | k + 1, hk => by
    have e : Agree (atK m (k + 1) c) (STEP (atK m k c)) := trip_agree (atK m k c)
    exact ((inv_atK m c h0 k (by omega)).step (by omega) (atK_ctr m c k)).congr e

end Cert.ReferenceIdeal.Lru

end
-- ==== Proof.LruRef.lean ====
/- The reference's convolution and gates at an index. -/
module

public import proofs.«01_k».proof.Proof.Gen.ReferenceIdeal.Run
public import proofs.«01_k».proof.Proof.LruSpec
public import Idealize.ShloMosaic.Lib.Pointwise
public import Idealize.ShloMosaic.Lib.StableHlo.RunRead

@[expose] public section

set_option maxRecDepth 16384

noncomputable section

namespace Cert.ReferenceIdeal.Lru

open Cert.ReferenceIdeal Cert.ReferenceIdeal.Gen Cert.ReferenceIdeal.Value
open Idealize.ShloMosaic Idealize.ShloMosaic.TcCoe Idealize.ShloMosaic.Tactic Idealize.ShloMosaic.StableHlo
open Cert.Lru

variable (W : Valuation τ sig (Elt Ideal))

/-- The recurrence's input column `d` of batch `b`, by position. -/
def zcol (z : Vec Ideal S16x2304x10880 .bf16) (b : Fin 16) (d : Fin 512) (p : ℕ) : EReal :=
  z (ix3 b (⟨p % 2304, by omega⟩ : Fin 2304) (⟨4096 + d.val, by have := d.isLt; omega⟩ : Fin 10880))

theorem zcol_at (z : Vec Ideal S16x2304x10880 .bf16) (b : Fin 16) (d : Fin 512) (p : ℕ) (h : p < 2304) (q : Fin 2304) (hq : q.val = p) (e : Fin 10880) (he : e.val = 4096 + d.val) :
    zcol z b d p = z (ix3 b q e) := by
  unfold zcol
  congr 2
  · apply Fin.ext; show p % 2304 = q.val; rw [Nat.mod_eq_of_lt h, hq]
  · apply Fin.ext; exact he.symm

/-- The convolution with its bias, of the arguments. -/
def cvR (z : Vec Ideal S16x2304x10880 .bf16) (w : Vec Ideal S4x512 .f32) (bi : Vec Ideal S512 .f32) (b : Fin 16) (r : ℕ) (d : Fin 512) : EReal :=
  cv (zcol z b d) (w (ix2 (0 : Fin 4) d)) (w (ix2 (1 : Fin 4) d)) (w (ix2 (2 : Fin 4) d)) (w (ix2 (3 : Fin 4) d)) (bi (ix1 d)) r

/-- A tap from its padded reading. -/
theorem tap_of (x : ℕ → EReal) (w : EReal) (r j : ℕ) (A : EReal) (h : (seg r j ∧ A = x (r + j - 2)) ∨ (¬ seg r j ∧ A = 0)) :
    A * w = tap x w r j := by
  unfold tap
  rcases h with ⟨h, e⟩ | ⟨h, e⟩
  · rw [if_pos h, e]
  · rw [if_neg h, e, zero_mul]

theorem u3_at (b : Fin 16) (r : Fin 256) (d : Fin 512) (p : ℕ) (h : p = r.val) : (upto hostOps0 W 8 (Proc.devRef .tc main_v3) : Vec Ideal S16x256x512 .f32) (ix3 b r d) = zcol (W (Proc.devRef .tc main_arg0)) b d p := by
  have hr := r.isLt
  after_reads_simp
  pointwise
  exact (zcol_at _ _ _ _ (by omega) _ (by subst h; rfl) _ rfl).symm
theorem u34_at (b : Fin 16) (r : Fin 2048) (d : Fin 512) (p : ℕ) (h : p = 256 + r.val) : (upto hostOps0 W 41 (Proc.devRef .tc main_v34) : Vec Ideal S16x2048x512 .f32) (ix3 b r d) = zcol (W (Proc.devRef .tc main_arg0)) b d p := by
  have hr := r.isLt
  after_reads_simp
  pointwise
  exact (zcol_at _ _ _ _ (by omega) _ (by subst h; rfl) _ rfl).symm
theorem u4_at (i) : (upto hostOps0 W 8 (Proc.devRef .tc main_v4) : Vec Ideal S16x2x512 .f32) i = (0 : EReal) := by
  after_reads_simp; pointwise
theorem u5_at (i) : (upto hostOps0 W 8 (Proc.devRef .tc main_v5) : Vec Ideal S16x1x512 .f32) i = (0 : EReal) := by
  after_reads_simp; pointwise
theorem u35_at (i) : (upto hostOps0 W 41 (Proc.devRef .tc main_v35) : Vec Ideal S16x2x512 .f32) i = (0 : EReal) := by
  after_reads_simp; pointwise
theorem u36_at (i) : (upto hostOps0 W 41 (Proc.devRef .tc main_v36) : Vec Ideal S16x1x512 .f32) i = (0 : EReal) := by
  after_reads_simp; pointwise

set_option maxHeartbeats 4000000 in
theorem v68_at (b : Fin 16) (r : Fin 2304) (d : Fin 512) :
    (after hostOps0 W (Proc.devRef .tc main_v68) : Vec Ideal S16x2304x512 .f32) (ix3 b r d)
      = cvR (W (Proc.devRef .tc main_arg0)) (W (Proc.devRef .tc main_arg1)) (W (Proc.devRef .tc main_arg2)) b r.val d := by
  have hr := r.isLt
  after_reads_simp
  pointwise
  after_reads_simp
  pointwise
  unfold cvR cv
  congr 1
  by_cases h : r.val < 256
  · rw [dif_pos h]
    refine congrArg₂ (· + ·) (congrArg₂ (· + ·) (congrArg₂ (· + ·) (tap_of _ _ _ _ _ ?_) (tap_of _ _ _ _ _ ?_)) (tap_of _ _ _ _ _ ?_)) (tap_of _ _ _ _ _ ?_)
    all_goals
      split_ifs
      all_goals first
        | exact Or.inr ⟨by unfold seg; omega, u4_at W _⟩
        | exact Or.inr ⟨by unfold seg; omega, u5_at W _⟩
        | exact Or.inl ⟨by unfold seg; omega, u3_at W _ _ _ _ (by first | rfl | omega | (dsimp only; omega))⟩
  · rw [dif_neg h]
    refine congrArg₂ (· + ·) (congrArg₂ (· + ·) (congrArg₂ (· + ·) (tap_of _ _ _ _ _ ?_) (tap_of _ _ _ _ _ ?_)) (tap_of _ _ _ _ _ ?_)) (tap_of _ _ _ _ _ ?_)
    all_goals
      split_ifs
      all_goals first
        | exact Or.inr ⟨by unfold seg; omega, u35_at W _⟩
        | exact Or.inr ⟨by unfold seg; omega, u36_at W _⟩
        | exact Or.inl ⟨by unfold seg; omega, u34_at W _ _ _ _ (by first | rfl | omega | (dsimp only; omega))⟩

end Cert.ReferenceIdeal.Lru

end
-- ==== Proof.LruRefGate.lean ====
/- The reference's gates at an index. -/
module

public import proofs.«01_k».proof.Proof.LruRef
public import proofs.«01_k».proof.Proof.LruSpec
public import Idealize.ShloMosaic.Lib.Pointwise
public import Idealize.ShloMosaic.Lib.StableHlo.RunRead

@[expose] public section

set_option maxRecDepth 16384

noncomputable section

namespace Cert.ReferenceIdeal.Lru

open Cert.ReferenceIdeal Cert.ReferenceIdeal.Gen Cert.ReferenceIdeal.Value
open Idealize.ShloMosaic Idealize.ShloMosaic.TcCoe Idealize.ShloMosaic.Tactic Idealize.ShloMosaic.StableHlo
open Cert.Lru

variable (W : Valuation τ sig (Elt Ideal))

/-- A gate of both directions before its sigmoid, of the convolved input. -/
def lin (w : FVec Ideal S2x8x64x64 .f32) (bi : FVec Ideal S2x512 .f32) (y : FVec Ideal S16x2304x512 .f32) : FVec Ideal S2x16x2304x512 .f32 :=
  addf (shapeCast S2x16x2304x512 (transpose S2x16x2304x8x64 [1, 3, 4, 0, 2] (Host.dotGeneral dot_S2x8x64x64_S16x2304x8x64_S8x2x64x16x2304_2_3_03_01_1_2 none w (shapeCast S16x2304x8x64 y shapeCasts_S16x2304x512_S16x2304x8x64)) transposes_S8x2x64x16x2304_S2x16x2304x8x64_1_3_4_0_2) shapeCasts_S2x16x2304x8x64_S2x16x2304x512)
    (broadcastInDim S2x16x2304x512 ![0, 1, 2, 3] bcast_S2x1x1x512_S2x16x2304x512_0_1_2_3 (broadcastInDim S2x1x1x512 ![0, 3] bcast_S2x512_S2x1x1x512_0_3 bi))

theorem lin_at (w : FVec Ideal S2x8x64x64 .f32) (bi : FVec Ideal S2x512 .f32) (y : FVec Ideal S16x2304x512 .f32) (q : Fin 2) (b : Fin 16) (r : Fin 2304) (d : Fin 512) :
    lin w bi y (ix4 q b r d) = ∑ x : Fin 64, w (ix4 q ⟨d.val / 64, by omega⟩ x ⟨d.val % 64, by omega⟩) * y (ix3 b r ⟨d.val / 64 * 64 + x.val, by omega⟩) + bi (ix2 q d) := by
  pointwise [lin]

theorem v75_eq : (after hostOps0 W (Proc.devRef .tc main_v75) : Vec Ideal S2x16x2304x512 .f32)
    = lin (W (Proc.devRef .tc main_arg3)) (W (Proc.devRef .tc main_arg4)) (after hostOps0 W (Proc.devRef .tc main_v68)) := by
  unfold lin
  after_reads_simp
  rfl
theorem v87_eq : (after hostOps0 W (Proc.devRef .tc main_v87) : Vec Ideal S2x16x2304x512 .f32)
    = lin (W (Proc.devRef .tc main_arg5)) (W (Proc.devRef .tc main_arg6)) (after hostOps0 W (Proc.devRef .tc main_v68)) := by
  unfold lin
  after_reads_simp
  rfl
/-- The sigmoid, written out. -/
def sig1 (y : FVec Ideal S2x16x2304x512 .f32) : FVec Ideal S2x16x2304x512 .f32 :=
  Host.divf (broadcastInDim S2x16x2304x512 ![] bcast_S_S2x16x2304x512 (constant S_ .f32 0x3F800000#32))
    (addf (broadcastInDim S2x16x2304x512 ![] bcast_S_S2x16x2304x512 (constant S_ .f32 0x3F800000#32)) (Host.exp (Host.negf y)))
theorem sig1_at (y : FVec Ideal S2x16x2304x512 .f32) (q : Fin 2) (b : Fin 16) (r : Fin 2304) (d : Fin 512) :
    sig1 y (ix4 q b r d) = Ideal.logistic (y (ix4 q b r d)) := by
  pointwise [sig1]
  rfl
theorem v81_eq : (after hostOps0 W (Proc.devRef .tc main_v81) : Vec Ideal S2x16x2304x512 .f32)
    = sig1 (after hostOps0 W (Proc.devRef .tc main_v75)) := by
  unfold sig1
  after_reads_simp
theorem v93_eq : (after hostOps0 W (Proc.devRef .tc main_v93) : Vec Ideal S2x16x2304x512 .f32)
    = sig1 (after hostOps0 W (Proc.devRef .tc main_v87)) := by
  unfold sig1
  after_reads_simp

end Cert.ReferenceIdeal.Lru

end
-- ==== Proof.LruRefValue.lean ====
/- The reference's result at an index, of the arguments. -/
module

public import proofs.«01_k».proof.Proof.LruRefOut
public import proofs.«01_k».proof.Proof.LruRefLoop
public import proofs.«01_k».proof.Proof.LruRefGate

@[expose] public section

set_option maxRecDepth 16384

noncomputable section

namespace Cert.ReferenceIdeal.Lru

open Cert.ReferenceIdeal Cert.ReferenceIdeal.Gen Cert.ReferenceIdeal.Value
open Idealize.ShloMosaic Idealize.ShloMosaic.TcCoe Idealize.ShloMosaic.Tactic Idealize.ShloMosaic.StableHlo
open Cert.Lru

/-- A gate before its sigmoid: the block of 64 convolved inputs times its weights, plus the bias. -/
def linR (z : FVec Ideal S16x2304x10880 .bf16) (w : FVec Ideal S4x512 .f32) (bi : FVec Ideal S512 .f32)
    (g : FVec Ideal S2x8x64x64 .f32) (gb : FVec Ideal S2x512 .f32) (q : Fin 2) (b : Fin 16) (d : Fin 512) (r : ℕ) : EReal :=
  ∑ x : Fin 64, g (ix4 q ⟨d.val / 64, by omega⟩ x ⟨d.val % 64, by omega⟩) * cvR z w bi b r ⟨d.val / 64 * 64 + x.val, by omega⟩ + gb (ix2 q d)

/-- The decay of direction `q` at a row. -/
def aR (z : FVec Ideal S16x2304x10880 .bf16) (w : FVec Ideal S4x512 .f32) (bi : FVec Ideal S512 .f32)
    (wa : FVec Ideal S2x8x64x64 .f32) (ba lam : FVec Ideal S2x512 .f32) (q : Fin 2) (b : Fin 16) (d : Fin 512) (r : ℕ) : EReal :=
  decay (Ideal.logistic (linR z w bi wa ba q b d r)) (lam (ix2 q d))

/-- The update of direction `q` at a row. -/
def uR (z : FVec Ideal S16x2304x10880 .bf16) (w : FVec Ideal S4x512 .f32) (bi : FVec Ideal S512 .f32)
    (wa : FVec Ideal S2x8x64x64 .f32) (ba : FVec Ideal S2x512 .f32) (wi : FVec Ideal S2x8x64x64 .f32) (bb lam : FVec Ideal S2x512 .f32) (q : Fin 2) (b : Fin 16) (d : Fin 512) (r : ℕ) : EReal :=
  update (aR z w bi wa ba lam q b d r) (Ideal.logistic (linR z w bi wi bb q b d r)) (cvR z w bi b r d)

/-- The result, of the arguments: the gated sum of the two directions' states. -/
def outR (z : FVec Ideal S16x2304x10880 .bf16) (w : FVec Ideal S4x512 .f32) (bi : FVec Ideal S512 .f32)
    (wa : FVec Ideal S2x8x64x64 .f32) (ba : FVec Ideal S2x512 .f32) (wi : FVec Ideal S2x8x64x64 .f32) (bb lam : FVec Ideal S2x512 .f32) (b : Fin 16) (r : Fin 2304) (d : Fin 512) : EReal :=
  gelu (z (ix3 b r ⟨4608 + d.val, by omega⟩))
    * (chain (aR z w bi wa ba lam 0 b d) (uR z w bi wa ba wi bb lam 0 b d) (r.val + 1)
      + chain (fun n => aR z w bi wa ba lam 1 b d (pos n)) (fun n => uR z w bi wa ba wi bb lam 1 b d (pos n)) (pos r.val + 1))

theorem two_f32 : Ideal.ofBits .f32 0x40000000#32 = ((2 : ℝ) : EReal) := by
  simp [Ideal.ofBits, Ideal.ieee, -EReal.coe_mul]
  norm_num

/-- One minus the square of an exponential is minus `exp (2 L) - 1`, for every extended real `L`. -/
theorem one_sub_sq (L : EReal) : -(Ideal.exp (Ideal.ofBits .f32 0x40000000#32 * L) - 1) = 1 - Ideal.exp L * Ideal.exp L := by
  rw [two_f32]
  induction L with
  | bot =>
    rw [EReal.coe_mul_bot_of_pos (by norm_num)]
    show -((0 : EReal) - 1) = 1 - 0 * 0
    simp
  | top =>
    rw [EReal.coe_mul_top_of_pos (by norm_num)]
    show -((⊤ : EReal) - 1) = 1 - ⊤ * ⊤
    rw [EReal.top_mul_top, ← EReal.coe_one, EReal.top_sub_coe, EReal.neg_top]
    rfl
  | coe l =>
    rw [← EReal.coe_mul, Ideal.exp_coe, Ideal.exp_coe, ← EReal.coe_one, ← EReal.coe_mul, ← EReal.coe_sub, ← EReal.coe_sub, ← EReal.coe_neg]
    refine congrArg _ ?_
    rw [← Real.exp_add, two_mul]
    ring

variable (W : Valuation τ sig (Elt Ideal))

/-- The recurrence's gate times minus eight. -/
def scaleV (y : FVec Ideal S2x16x2304x512 .f32) : FVec Ideal S2x16x2304x512 .f32 :=
  mulf (broadcastInDim S2x16x2304x512 ![] bcast_S_S2x16x2304x512 (constant S_ .f32 0xC1000000#32)) y

theorem v95_eq : (after hostOps0 W (Proc.devRef .tc main_v95) : FVec Ideal S2x16x2304x512 .f32) = scaleV (after hostOps0 W (Proc.devRef .tc main_v81)) := by
  unfold scaleV
  after_reads_simp

theorem v95_at (q : Fin 2) (b : Fin 16) (r : Fin 2304) (d : Fin 512) :
    (after hostOps0 W (Proc.devRef .tc main_v95) : FVec Ideal S2x16x2304x512 .f32) (ix4 q b r d)
      = Ideal.ofBits .f32 0xC1000000#32 * Ideal.logistic (linR (W (Proc.devRef .tc main_arg0)) (W (Proc.devRef .tc main_arg1)) (W (Proc.devRef .tc main_arg2)) (W (Proc.devRef .tc main_arg3)) (W (Proc.devRef .tc main_arg4)) q b d r.val) := by
  rw [v95_eq, v81_eq, v75_eq]
  refine Eq.trans (b := Ideal.ofBits .f32 0xC1000000#32 * sig1 (lin (W (Proc.devRef .tc main_arg3)) (W (Proc.devRef .tc main_arg4)) (after hostOps0 W (Proc.devRef .tc main_v68))) (ix4 q b r d)) rfl ?_
  rw [sig1_at, lin_at]
  unfold linR
  refine congrArg (fun y => Ideal.ofBits .f32 0xC1000000#32 * Ideal.logistic (y + _)) (Finset.sum_congr rfl fun x _ => congrArg₂ (· * ·) rfl (v68_at W b r _))

theorem v93_at (q : Fin 2) (b : Fin 16) (r : Fin 2304) (d : Fin 512) :
    (after hostOps0 W (Proc.devRef .tc main_v93) : FVec Ideal S2x16x2304x512 .f32) (ix4 q b r d)
      = Ideal.logistic (linR (W (Proc.devRef .tc main_arg0)) (W (Proc.devRef .tc main_arg1)) (W (Proc.devRef .tc main_arg2)) (W (Proc.devRef .tc main_arg5)) (W (Proc.devRef .tc main_arg6)) q b d r.val) := by
  rw [v93_eq, v87_eq, sig1_at, lin_at]
  unfold linR
  refine congrArg (fun y => Ideal.logistic (y + _)) (Finset.sum_congr rfl fun x _ => congrArg₂ (· * ·) rfl (v68_at W b r _))

/-- An entry's negation. -/
def negAt (l : FVec Ideal S2x512 .f32) (q : Fin 2) (d : Fin 512) : EReal := -l (ix2 q d)

theorem v97_at (q : Fin 2) (d : Fin 512) :
    (after hostOps0_1 (after hostOps0 W) (Proc.devRef .tc main_v97) : FVec Ideal S2x512 .f32) (ix2 q d)
      = softplus (negAt (W (Proc.devRef .tc main_arg7)) q d) := by
  rw [v97_eq, sp_at]
  after_reads_simp
  rfl

theorem keep95 : after hostOps0_1 W (Proc.devRef .tc main_v95) = W (Proc.devRef .tc main_v95) := by after_reads_simp
theorem keep93 : after hostOps0_1 W (Proc.devRef .tc main_v93) = W (Proc.devRef .tc main_v93) := by after_reads_simp
theorem keep68 : after hostOps0_1 W (Proc.devRef .tc main_v68) = W (Proc.devRef .tc main_v68) := by after_reads_simp

theorem aW_eq (q : Fin 2) (b : Fin 16) (d : Fin 512) (r : ℕ) (hr : r < 2304) : aW (after hostOps0_1 (after hostOps0 W)) q b d r
    = aR (W (Proc.devRef .tc main_arg0)) (W (Proc.devRef .tc main_arg1)) (W (Proc.devRef .tc main_arg2)) (W (Proc.devRef .tc main_arg3)) (W (Proc.devRef .tc main_arg4)) (W (Proc.devRef .tc main_arg7)) q b d r := by
  unfold aW aV aR decay
  rw [keep95, v97_at]
  simp only [Nat.mod_eq_of_lt hr]
  rw [v95_at]
  rfl

theorem uW_eq (q : Fin 2) (b : Fin 16) (d : Fin 512) (r : ℕ) (hr : r < 2304) : uW (after hostOps0_1 (after hostOps0 W)) q b d r
    = uR (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) q b d r := by
  unfold uW uV uR update aR decay
  rw [keep95, keep93, keep68, v97_at]
  simp only [Nat.mod_eq_of_lt hr]
  rw [v95_at, one_sub_sq, v93_at]
  exact congrArg₂ (· * ·) rfl (congrArg₂ (· * ·) rfl (v68_at W b ⟨r, hr⟩ d))

variable (m : (ℓ : Loc nD τ sig) → ℓ.ty.Contents (Elt Ideal)) (c : Dev nD)

theorem entry_eq : entryContents preI m c = tail (after hostOps0_1 (after hostOps0 (launchContents m c))) := rfl

theorem entry_s (q : Fin 2) (b : Fin 16) (d : Fin 512) : (tail W (Proc.devRef .tc main_v139_3) : FVec Ideal S2x16x512 .f32) (ix3 q b d) = (0 : EReal) := by
  unfold tail
  after_reads_simp
  simp only [id_eq]
  pointwise

theorem v2_keep (k : ℕ) : atK m k c (Proc.devRef .tc main_v2) = entryContents preI m c (Proc.devRef .tc main_v2) := by
  induction k with
  | zero => rfl
  | succ k ih =>
    rw [← ih]
    show afterL bodyI (after condOps (atK m k c)) (Proc.devRef .tc main_v2) = _
    generalize atK m k c = X
    simp only [afterL_cons, afterL_nil]
    after_reads_simp

theorem v2_at (b : Fin 16) (r : Fin 2304) (d : Fin 512) : (tail (after hostOps0_1 (after hostOps0 W)) (Proc.devRef .tc main_v2) : FVec Ideal S16x2304x512 .f32) (ix3 b r d)
    = (W (Proc.devRef .tc main_arg0) : FVec Ideal S16x2304x10880 .bf16) (ix3 b r ⟨4608 + d.val, by omega⟩) := by
  unfold tail
  after_reads_simp
  pointwise

theorem cond_keep (X : Valuation τ sig (Elt Ideal)) : after condOps X (Proc.devRef .tc main_v2) = X (Proc.devRef .tc main_v2) ∧ after condOps X (Proc.devRef .tc main_v139_4) = X (Proc.devRef .tc main_v139_4) := by
  constructor <;> after_reads_simp

theorem result_at (b : Fin 16) (r : Fin 2304) (d : Fin 512) :
    (finalContents condOps preI bodyI postI 2304 m c (Proc.devRef .tc main_v165) : Vec Ideal S16x2304x512 .bf16) (ix3 b r d)
      = outR (launchContents m c (Proc.devRef .tc main_arg0)) (launchContents m c (Proc.devRef .tc main_arg1)) (launchContents m c (Proc.devRef .tc main_arg2)) (launchContents m c (Proc.devRef .tc main_arg3)) (launchContents m c (Proc.devRef .tc main_arg4)) (launchContents m c (Proc.devRef .tc main_arg5)) (launchContents m c (Proc.devRef .tc main_arg6)) (launchContents m c (Proc.devRef .tc main_arg7)) b r d := by
  have e : finalContents condOps preI bodyI postI 2304 m c = post (after condOps (atK m 2304 c)) := rfl
  have hI := inv_atK m c (A := entryContents preI m c (Proc.devRef .tc main_v139_0)) (U := entryContents preI m c (Proc.devRef .tc main_v139_1))
    ⟨rfl, rfl, fun q b d => entry_s _ q b d, fun n q b d h => absurd h (Nat.not_lt_zero _)⟩ 2304 (le_refl _)
  rw [e, v165_at, (cond_keep _).1, (cond_keep _).2, v2_keep]
  unfold outV outR
  have hp := pos_lt r.val r.isLt
  refine congrArg₂ (fun x y => gelu x * y) (v2_at (launchContents m c) b r d) (congrArg₂ (· + ·) ((hI.o r 0 b d r.isLt).trans ?_) ((hI.o ⟨pos r.val, hp⟩ 1 b d hp).trans ?_))
  · refine chain_congr (fun n hn => ?_) (fun n hn => ?_) _ (le_refl _)
    · have hn' : n < 2304 := by omega
      unfold rowV
      simp only [Nat.mod_eq_of_lt hn']
      exact (v139_0_fwd _ ⟨n, hn'⟩ b d).trans (aW_eq _ 0 b d n hn')
    · have hn' : n < 2304 := by omega
      unfold rowV
      simp only [Nat.mod_eq_of_lt hn']
      exact (v139_1_fwd _ ⟨n, hn'⟩ b d).trans (uW_eq _ 0 b d n hn')
  · refine chain_congr (fun n hn => ?_) (fun n hn => ?_) _ (le_refl _)
    · have hn' : n < 2304 := by omega
      unfold rowV
      simp only [Nat.mod_eq_of_lt hn']
      exact (v139_0_bwd _ ⟨n, hn'⟩ b d).trans (aW_eq _ 1 b d _ (pos_lt _ hn'))
    · have hn' : n < 2304 := by omega
      unfold rowV
      simp only [Nat.mod_eq_of_lt hn']
      exact (v139_1_bwd _ ⟨n, hn'⟩ b d).trans (uW_eq _ 1 b d _ (pos_lt _ hn'))

end Cert.ReferenceIdeal.Lru

end
-- ==== Proof.LruModel.lean ====
/- What one grid point of the recurrence computes, as functions of its input blocks: the decay and the
   update of each chunk of 256 rows in both directions, the two chains of states, and the block of
   outputs. -/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.WritesUnit
public import Idealize.ShloMosaic.Lib.Pointwise.Index
public import Idealize.ShloMosaic.Lib.Pipeline.FrameBody
public import Idealize.ShloMosaic.Lib.Tactic

@[expose] public section

set_option maxRecDepth 16384

noncomputable section

namespace Cert.KernelIdeal.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The trips of the chunk loop, by number. -/
theorem trips1 : k0_t1_loop.trips = 9 := by decide +kernel
theorem trips2 : k0_t2_loop.trips = 256 := by decide +kernel
theorem trips3 : k0_t3_loop.trips = 9 := by decide +kernel

/-- Trip `n` of the chunk loop. -/
def kAt (n : ℕ) : Fin k0_t1_loop.trips := ⟨n % 9, by rw [trips1]; exact Nat.mod_lt _ (by decide)⟩

/-- Row `r` of a chunk, as a block of one row. -/
def rowOf (X : FVec F S256x512 .f32) (r : ℕ) : FVec F S1x512 .f32 :=
  fun y => X (ix2 ⟨r % 256, Nat.mod_lt _ (by decide)⟩ (y (1 : Fin 2)))

section Chunk

variable (x1 : Vec F S1x2304x512 .bf16) (x3 : Vec F S4x512 .f32) (x4 : Vec F S1x512 .f32) (x5 : Vec F S2x512x1024 .bf16) (x6 : Vec F S2x1x1024 .f32) (x7 : Vec F S2x1x512 .f32)

/-- The convolved rows of the chunk of trip `k`, read forwards. -/
def convF (k : Fin k0_t1_loop.trips) : FVec F S256x512 .f32 :=
  k0_pay11 x3 (k0_pay8 (View.ld x1 (Rect.unit (s := S1x2304x512) (k0_off1 k) S1x16x512.size (k0_off1_inb k)))
      (View.ld x1 (Rect.unit (s := S1x2304x512) (k0_off2 k) S1x256x512.size (k0_off2_inb k)))
      (View.ld x1 (Rect.unit (s := S1x2304x512) (k0_off3 k) S1x16x512.size (k0_off3_inb k))))
    (k0_pay9 0#32 1#32 k)
    (Scalar.select (Scalar.cmpi .slt (Scalar.muli (Scf.iv 0#32 1#32 k) 256#32) 256#32) 256#32 2304#32)
    (k0_pay10 0#32 1#32 k) x4

/-- The input gate of the forward direction on that chunk. -/
def gateIF (k : Fin k0_t1_loop.trips) : FVec F S256x512 .f32 :=
  k0_pay13 x3 (k0_pay8 (View.ld x1 (Rect.unit (s := S1x2304x512) (k0_off1 k) S1x16x512.size (k0_off1_inb k)))
      (View.ld x1 (Rect.unit (s := S1x2304x512) (k0_off2 k) S1x256x512.size (k0_off2_inb k)))
      (View.ld x1 (Rect.unit (s := S1x2304x512) (k0_off3 k) S1x16x512.size (k0_off3_inb k))))
    (k0_pay9 0#32 1#32 k)
    (Scalar.select (Scalar.cmpi .slt (Scalar.muli (Scf.iv 0#32 1#32 k) 256#32) 256#32) 256#32 2304#32)
    (k0_pay10 0#32 1#32 k) x4
    (View.ld x5 (Rect.unit (s := S2x512x1024) ![0, 0, 0] S1x512x1024.size inb_S2x512x1024_S1x512x1024_0_0_0))
    (View.ld x6 (Rect.unit (s := S2x1x1024) ![0, 0, 0] S1x1x1024.size inb_S2x1x1024_S1x1x1024_0_0_0))

/-- Minus eight times the recurrence gate of the forward direction on that chunk. -/
def gateAF (k : Fin k0_t1_loop.trips) : FVec F S256x512 .f32 :=
  k0_pay14 x3 (k0_pay8 (View.ld x1 (Rect.unit (s := S1x2304x512) (k0_off1 k) S1x16x512.size (k0_off1_inb k)))
      (View.ld x1 (Rect.unit (s := S1x2304x512) (k0_off2 k) S1x256x512.size (k0_off2_inb k)))
      (View.ld x1 (Rect.unit (s := S1x2304x512) (k0_off3 k) S1x16x512.size (k0_off3_inb k))))
    (k0_pay9 0#32 1#32 k)
    (Scalar.select (Scalar.cmpi .slt (Scalar.muli (Scf.iv 0#32 1#32 k) 256#32) 256#32) 256#32 2304#32)
    (k0_pay10 0#32 1#32 k) x4
    (View.ld x5 (Rect.unit (s := S2x512x1024) ![0, 0, 0] S1x512x1024.size inb_S2x512x1024_S1x512x1024_0_0_0))
    (View.ld x6 (Rect.unit (s := S2x1x1024) ![0, 0, 0] S1x1x1024.size inb_S2x1x1024_S1x1x1024_0_0_0))

/-- The decay parameter of the forward direction. -/
def lamF : FVec F S1x512 .f32 :=
  k0_pay15 (View.ld x7 (Rect.unit (s := S2x1x512) ![0, 0, 0] S1x1x512.size inb_S2x1x512_S1x1x512_0_0_0))

/-- The decays of the forward direction on the chunk of trip `k`. -/
def aF (k : Fin k0_t1_loop.trips) : FVec F S256x512 .f32 := k0_pay17 (gateAF x1 x3 x4 x5 x6 k) (lamF x7)

/-- The updates of the forward direction on that chunk. -/
def uF (k : Fin k0_t1_loop.trips) : FVec F S256x512 .f32 :=
  k0_pay18 (convF x1 x3 x4 k) (gateIF x1 x3 x4 x5 x6 k) (gateAF x1 x3 x4 x5 x6 k) (lamF x7)

/-- The convolution (without its bias) of the chunk the backward direction visits at trip `k`. -/
def preB (k : Fin k0_t1_loop.trips) : FVec F S256x512 .f32 :=
  k0_pay19 (Scalar.muli (Scalar.select (Scalar.cmpi .slt (Scf.iv 0#32 1#32 k) 1#32) (Scalar.subi 0#32 (Scf.iv 0#32 1#32 k))
      (Scalar.subi 9#32 (Scf.iv 0#32 1#32 k))) 256#32) x3
    (View.ld x1 (Rect.unit (s := S1x2304x512) (k0_off4 k) S1x16x512.size (k0_off4_inb k)))
    (View.ld x1 (Rect.unit (s := S1x2304x512) (k0_off5 k) S1x256x512.size (k0_off5_inb k)))
    (View.ld x1 (Rect.unit (s := S1x2304x512) (k0_off6 k) S1x16x512.size (k0_off6_inb k)))

/-- The decays of the backward direction on that chunk. -/
def aB (k : Fin k0_t1_loop.trips) : FVec F S256x512 .f32 :=
  k0_pay24 (preB x1 x3 k) x4
    (View.ld x5 (Rect.unit (s := S2x512x1024) ![1, 0, 0] S1x512x1024.size inb_S2x512x1024_S1x512x1024_1_0_0))
    (View.ld x6 (Rect.unit (s := S2x1x1024) ![1, 0, 0] S1x1x1024.size inb_S2x1x1024_S1x1x1024_1_0_0))
    (View.ld x7 (Rect.unit (s := S2x1x512) ![1, 0, 0] S1x1x512.size inb_S2x1x512_S1x1x512_1_0_0))

/-- The updates of the backward direction on that chunk. -/
def uB (k : Fin k0_t1_loop.trips) : FVec F S256x512 .f32 :=
  k0_pay2 (k0_pay20 (preB x1 x3 k) x4)
    (k0_pay22 (preB x1 x3 k) x4
      (View.ld x5 (Rect.unit (s := S2x512x1024) ![1, 0, 0] S1x512x1024.size inb_S2x512x1024_S1x512x1024_1_0_0))
      (View.ld x6 (Rect.unit (s := S2x1x1024) ![1, 0, 0] S1x1x1024.size inb_S2x1x1024_S1x1x1024_1_0_0)))
    (k0_pay23 (preB x1 x3 k) x4
      (View.ld x5 (Rect.unit (s := S2x512x1024) ![1, 0, 0] S1x512x1024.size inb_S2x512x1024_S1x512x1024_1_0_0))
      (View.ld x6 (Rect.unit (s := S2x1x1024) ![1, 0, 0] S1x1x1024.size inb_S2x1x1024_S1x1x1024_1_0_0))
      (View.ld x7 (Rect.unit (s := S2x1x512) ![1, 0, 0] S1x1x512.size inb_S2x1x512_S1x1x512_1_0_0)))

/-- The state of the forward direction after `n` rows. -/
def hF : ℕ → FVec F S1x512 .f32
  | 0 => k0_pay1
  | n + 1 => k0_pay3 (hF n) (rowOf (aF x1 x3 x4 x5 x6 x7 (kAt (n / 256))) (n % 256))
      (rowOf (uF x1 x3 x4 x5 x6 x7 (kAt (n / 256))) (n % 256))

/-- The state of the backward direction after `n` rows. -/
def hB : ℕ → FVec F S1x512 .f32
  | 0 => k0_pay1
  | n + 1 => k0_pay4 (hB n) (rowOf (aB x1 x3 x4 x5 x6 x7 (kAt (n / 256))) (255 - n % 256))
      (rowOf (uB x1 x3 x4 x5 x6 x7 (kAt (n / 256))) (255 - n % 256))

/-- The number of the backward direction's step that visits row `r`: the first 256 rows from the last to
    the first, then the others from the last to the first. -/
def posB (r : ℕ) : ℕ := if r < 256 then 255 - r else 2559 - r

/-- The forward states of the block, row by row. -/
def stF : FVec F S2304x512 .f32 :=
  fun y => hF x1 x3 x4 x5 x6 x7 ((y (0 : Fin 2)).val + 1) (ix2 (0 : Fin 1) (y (1 : Fin 2)))

/-- The backward states of the block, row by row. -/
def stB : FVec F S2304x512 .f32 :=
  fun y => hB x1 x3 x4 x5 x6 x7 (posB (y (0 : Fin 2)).val + 1) (ix2 (0 : Fin 1) (y (1 : Fin 2)))

/-- The output rows of trip `k` of the last loop. -/
def outAt (x2 : Vec F S1x2304x512 .bf16) (k : Fin k0_t3_loop.trips) : FVec F S1x256x512 .bf16 :=
  k0_pay7 (View.ld (stF x1 x3 x4 x5 x6 x7) (Rect.unit (s := S2304x512) (k0_off11 k) S256x512.size (k0_off11_inb k)))
    (View.ld (stB x1 x3 x4 x5 x6 x7) (Rect.unit (s := S2304x512) (k0_off11 k) S256x512.size (k0_off11_inb k)))
    (View.ld x2 (Rect.unit (s := S1x2304x512) (k0_off12 k) S1x256x512.size (k0_off12_inb k)))

/-- The block of outputs of one grid point. -/
def outBlk (x2 : Vec F S1x2304x512 .bf16) : Vec F S1x2304x512 .bf16 :=
  fun y => outAt x1 x3 x4 x5 x6 x7 x2
      ⟨(y (1 : Fin 3)).val / 256, by rw [trips3]; exact Nat.div_lt_of_lt_mul (y (1 : Fin 3)).isLt⟩
    (ix3 (0 : Fin 1) ⟨(y (1 : Fin 3)).val % 256, Nat.mod_lt _ (by decide)⟩ (y (2 : Fin 3)))

end Chunk

end Cert.KernelIdeal.Lru

end
-- ==== Proof.LruTrip.lean ====
/- The row loop of the recurrence: what its 256 trips leave in the two buffers of states. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.LruModel
public import Idealize.ShloMosaic.Lib.Pipeline.ValueKit.Tiles
public import Idealize.ShloMosaic.Lib.Pipeline.FrameBody
public import Idealize.ShloMosaic.Lib.Tactic

@[expose] public section

set_option maxRecDepth 16384

noncomputable section

namespace Cert.KernelIdeal.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first row of the chunk the backward direction visits at trip `k`. -/
def baseB (k : ℕ) : ℕ := if k = 0 then 0 else 256 * (9 - k)

set_option maxHeartbeats 4000000 in
/-- The row the backward direction writes, in closed form. -/
theorem off10_eq : ∀ (k : Fin k0_t1_loop.trips) (t : Fin k0_t2_loop.trips), k0_off10 k t = ![baseB k.val + (255 - t.val), 0] := by
  decide +kernel

/-- A load of one row of a chunk is that row. -/
theorem ld_row (X : Vec F S256x512 .f32) (off : Fin 2 → ℕ) (n : ℕ) (h : off = ![n, 0]) (hn : n < 256) (inb) :
    View.ld X (Rect.unit (s := S256x512) off ![1, 512] inb) = rowOf (F := F) X n := by
  subst h
  funext y
  refine View.ld_unit_apply_of _ _ _ _ _ _ fun a => ?_
  match a with
  | ⟨0, _⟩ =>
    have h0 : (y (0 : Fin 2)).val = 0 := Nat.lt_one_iff.1 (y (0 : Fin 2)).isLt
    show n % 256 = n + (y (0 : Fin 2)).val
    omega
  | ⟨1, _⟩ =>
    show (y (1 : Fin 2)).val = 0 + (y (1 : Fin 2)).val
    omega

/-- What a buffer holds after one more row is stored: that row, and elsewhere what it held. -/
theorem read_row (v : View sig .tc .vmem S2304x512 .f32) (f : v.ty.Contents (Elt F)) (off : Fin 2 → ℕ) (n : ℕ)
    (h : off = ![n, 0]) (inb) (w : Vec F S1x512 .f32) (L : List (View.Piece (Elt F) S2304x512 .f32)) (y : S2304x512.Idx) :
    v.read (Elt F) (v.writes (Elt F) f ((⟨Rect.unit (s := S2304x512) off ![1, 512] inb, w⟩ : View.Piece (Elt F) S2304x512 .f32) :: L)) y
      = if (y (0 : Fin 2)).val = n then w (ix2 (0 : Fin 1) (y (1 : Fin 2))) else v.read (Elt F) (v.writes (Elt F) f L) y := by
  split
  · rename_i hy
    exact View.read_writes_cons_rows_of_mem v f (o := n) inb w L y (ix2 (0 : Fin 1) (y (1 : Fin 2))) h (by rw [hy]; rfl) rfl
  · rename_i hy
    exact View.read_writes_cons_rows_of_not_mem v f (o := n) (W := 1) inb w L y h rfl (by omega)

variable (c : Dev nD) (i : grid0.Coords) (arg1 : Memref sig .tc .vmem S1x2304x512 .bf16) (harg1 : arg1.IsWhole)
    (arg2 : Memref sig .tc .vmem S1x2304x512 .bf16) (harg2 : arg2.IsWhole)
    (arg3 : Memref sig .tc .vmem S4x512 .f32) (harg3 : arg3.IsWhole)
    (arg4 : Memref sig .tc .vmem S1x512 .f32) (harg4 : arg4.IsWhole)
    (arg5 : Memref sig .tc .vmem S2x512x1024 .bf16) (harg5 : arg5.IsWhole)
    (arg6 : Memref sig .tc .vmem S2x1x1024 .f32) (harg6 : arg6.IsWhole)
    (arg7 : Memref sig .tc .vmem S2x1x512 .f32) (harg7 : arg7.IsWhole)
    (arg8 : Memref sig .tc .vmem S1x2304x512 .bf16) (harg8 : arg8.IsWhole)
    (arg9 : Memref sig .tc .vmem S256x512 .f32) (harg9 : arg9.IsWhole)
    (arg10 : Memref sig .tc .vmem S256x512 .f32) (harg10 : arg10.IsWhole)
    (arg11 : Memref sig .tc .vmem S256x512 .f32) (harg11 : arg11.IsWhole)
    (arg12 : Memref sig .tc .vmem S256x512 .f32) (harg12 : arg12.IsWhole)
    (arg13 : Memref sig .tc .vmem S2304x512 .f32) (harg13 : arg13.IsWhole)
    (arg14 : Memref sig .tc .vmem S2304x512 .f32) (harg14 : arg14.IsWhole)
  (k : Fin k0_t1_loop.trips) (X9 : BufTy.Contents (Elt F) arg9.view.ty) (X10 : BufTy.Contents (Elt F) arg10.view.ty) (X11 : BufTy.Contents (Elt F) arg11.view.ty) (X12 : BufTy.Contents (Elt F) arg12.view.ty)

/-- One trip steps the two states by the rows it reads. -/
theorem tripR_eq (t : Fin k0_t2_loop.trips) (acc : FVec F S1x512 .f32 × FVec F S1x512 .f32) :
    tripR_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 k X9 X10 X11 X12 t acc
      = (k0_pay3 acc.1 (rowOf (arg9.view.read (Elt F) X9) t.val) (rowOf (arg10.view.read (Elt F) X10) t.val),
         k0_pay4 acc.2 (rowOf (arg11.view.read (Elt F) X11) (255 - t.val)) (rowOf (arg12.view.read (Elt F) X12) (255 - t.val))) := by
  have ht : t.val < 256 := Nat.lt_of_lt_of_le t.isLt k0_t2_abs.2.1
  unfold tripR_k0_t2 trip_k0_t2
  dsimp only
  simp only [View.readAt_eq_ld]
  rw [ld_row _ _ _ (k0_off7_eq t) ht, ld_row _ _ _ (k0_off7_eq t) ht, ld_row _ _ _ (k0_off8_eq t) (by omega),
    ld_row _ _ _ (k0_off8_eq t) (by omega)]

/-- One trip writes the new states: the forward one at the row it reached, -/
theorem tripL1_eq (t : Fin k0_t2_loop.trips) (acc : FVec F S1x512 .f32 × FVec F S1x512 .f32) :
    (tripL_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 k X9 X10 X11 X12 t acc).1
      = [⟨Rect.unit (s := S2304x512) (k0_off9 k t) ![1, 512] (k0_off9_inb k t),
          (tripR_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 k X9 X10 X11 X12 t acc).1⟩] := by
  unfold tripL_k0_t2 tripR_k0_t2 trip_k0_t2
  dsimp only
  unfold k0_pay5
  simp only [shapeCast_self]

/-- the backward one at the row it reached. -/
theorem tripL2_eq (t : Fin k0_t2_loop.trips) (acc : FVec F S1x512 .f32 × FVec F S1x512 .f32) :
    (tripL_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 k X9 X10 X11 X12 t acc).2
      = [⟨Rect.unit (s := S2304x512) (k0_off10 k t) ![1, 512] (k0_off10_inb k t),
          (tripR_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 k X9 X10 X11 X12 t acc).2⟩] := by
  unfold tripL_k0_t2 tripR_k0_t2 trip_k0_t2
  dsimp only
  unfold k0_pay6
  simp only [shapeCast_self]

/-- The pieces of the forward buffer after one more row: that row's state in front. -/
theorem st_piece1 (init : FVec F S1x512 .f32 × FVec F S1x512 .f32) (t : Fin k0_t2_loop.trips) :
    (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 k X9 X10 X11 X12 init (t.val + 1)).2.1
      = ⟨Rect.unit (s := S2304x512) (k0_off9 k t) ![1, 512] (k0_off9_inb k t), (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 k X9 X10 X11 X12 init (t.val + 1)).1.1⟩ :: (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 k X9 X10 X11 X12 init t.val).2.1 := by
  rw [st_k0_t2_succ]
  exact congrArg (· ++ (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 k X9 X10 X11 X12 init t.val).2.1) (tripL1_eq c i arg1 harg1 arg2 harg2 arg3 harg3 arg4 harg4 arg5 harg5 arg6 harg6 arg7 harg7 arg8 harg8 arg9 harg9 arg10 harg10 arg11 harg11 arg12 harg12 arg13 harg13 arg14 harg14 k X9 X10 X11 X12 t _)

/-- The pieces of the backward buffer after one more row: that row's state in front. -/
theorem st_piece2 (init : FVec F S1x512 .f32 × FVec F S1x512 .f32) (t : Fin k0_t2_loop.trips) :
    (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 k X9 X10 X11 X12 init (t.val + 1)).2.2
      = ⟨Rect.unit (s := S2304x512) (k0_off10 k t) ![1, 512] (k0_off10_inb k t), (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 k X9 X10 X11 X12 init (t.val + 1)).1.2⟩ :: (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 k X9 X10 X11 X12 init t.val).2.2 := by
  rw [st_k0_t2_succ]
  exact congrArg (· ++ (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 k X9 X10 X11 X12 init t.val).2.2) (tripL2_eq c i arg1 harg1 arg2 harg2 arg3 harg3 arg4 harg4 arg5 harg5 arg6 harg6 arg7 harg7 arg8 harg8 arg9 harg9 arg10 harg10 arg11 harg11 arg12 harg12 arg13 harg13 arg14 harg14 k X9 X10 X11 X12 t _)

/-- The carried pair after one more row. -/
theorem st_next (init : FVec F S1x512 .f32 × FVec F S1x512 .f32) (t : Fin k0_t2_loop.trips) :
    (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 k X9 X10 X11 X12 init (t.val + 1)).1
      = (k0_pay3 (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 k X9 X10 X11 X12 init t.val).1.1 (rowOf (arg9.view.read (Elt F) X9) t.val) (rowOf (arg10.view.read (Elt F) X10) t.val),
         k0_pay4 (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 k X9 X10 X11 X12 init t.val).1.2 (rowOf (arg11.view.read (Elt F) X11) (255 - t.val)) (rowOf (arg12.view.read (Elt F) X12) (255 - t.val))) := by
  rw [st_k0_t2_succ]
  exact tripR_eq c i arg1 harg1 arg2 harg2 arg3 harg3 arg4 harg4 arg5 harg5 arg6 harg6 arg7 harg7 arg8 harg8 arg9 harg9 arg10 harg10 arg11 harg11 arg12 harg12 arg13 harg13 arg14 harg14 k X9 X10 X11 X12 t _

variable (x1 : Vec F S1x2304x512 .bf16) (x3 : Vec F S4x512 .f32) (x4 : Vec F S1x512 .f32) (x5 : Vec F S2x512x1024 .bf16) (x6 : Vec F S2x1x1024 .f32) (x7 : Vec F S2x1x512 .f32)
  (h9 : arg9.view.read (Elt F) X9 = aF x1 x3 x4 x5 x6 x7 k) (h10 : arg10.view.read (Elt F) X10 = uF x1 x3 x4 x5 x6 x7 k)
  (h11 : arg11.view.read (Elt F) X11 = aB x1 x3 x4 x5 x6 x7 k) (h12 : arg12.view.read (Elt F) X12 = uB x1 x3 x4 x5 x6 x7 k)
  (init : FVec F S1x512 .f32 × FVec F S1x512 .f32)
  (hi : init = (hF x1 x3 x4 x5 x6 x7 (256 * k.val), hB x1 x3 x4 x5 x6 x7 (256 * k.val)))

include h9 h10 h11 h12 hi

/-- The carried pair before row `j` is the two states. -/
theorem st_acc : ∀ j : ℕ, j ≤ 256 →
    (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 k X9 X10 X11 X12 init j).1
      = (hF x1 x3 x4 x5 x6 x7 (256 * k.val + j), hB x1 x3 x4 x5 x6 x7 (256 * k.val + j))
  | 0, _ => hi
  | j + 1, hj => by
    have hk : k.val < 9 := Nat.lt_of_lt_of_le k.isLt k0_t1_abs.2.1
    have hk' : kAt ((256 * k.val + j) / 256) = k := Fin.ext (by show (256 * k.val + j) / 256 % 9 = k.val; omega)
    rw [st_next c i arg1 harg1 arg2 harg2 arg3 harg3 arg4 harg4 arg5 harg5 arg6 harg6 arg7 harg7 arg8 harg8 arg9 harg9 arg10 harg10 arg11 harg11 arg12 harg12 arg13 harg13 arg14 harg14 k X9 X10 X11 X12 init ⟨j, by rw [trips2]; omega⟩, st_acc j (by omega), h9, h10, h11, h12]
    show _ = (hF x1 x3 x4 x5 x6 x7 (256 * k.val + j + 1), hB x1 x3 x4 x5 x6 x7 (256 * k.val + j + 1))
    rw [hF, hB, hk', show (256 * k.val + j) % 256 = j by omega]

/-- Before row `j` the forward buffer holds the states of the rows done in this chunk. -/
theorem st_fwd (f : BufTy.Contents (Elt F) arg13.view.ty) (y : S2304x512.Idx) (j : ℕ) (hj : j ≤ 256) :
    arg13.view.read (Elt F) (arg13.view.writes (Elt F) f (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 k X9 X10 X11 X12 init j).2.1) y
      = if 256 * k.val ≤ (y (0 : Fin 2)).val ∧ (y (0 : Fin 2)).val < 256 * k.val + j then stF x1 x3 x4 x5 x6 x7 y
        else arg13.view.read (Elt F) f y := by
  induction j with
  | zero => rw [if_neg (by omega)]; rfl
  | succ j ih =>
    rw [st_piece1 c i arg1 harg1 arg2 harg2 arg3 harg3 arg4 harg4 arg5 harg5 arg6 harg6 arg7 harg7 arg8 harg8 arg9 harg9 arg10 harg10 arg11 harg11 arg12 harg12 arg13 harg13 arg14 harg14 k X9 X10 X11 X12 init ⟨j, by rw [trips2]; omega⟩,
      read_row arg13.view f _ (256 * k.val + j) (k0_off9_eq k _), ih (by omega),
      st_acc c i arg1 harg1 arg2 harg2 arg3 harg3 arg4 harg4 arg5 harg5 arg6 harg6 arg7 harg7 arg8 harg8 arg9 harg9 arg10 harg10 arg11 harg11 arg12 harg12 arg13 harg13 arg14 harg14 k X9 X10 X11 X12 x1 x3 x4 x5 x6 x7 h9 h10 h11 h12 init hi (j + 1) hj]
    by_cases hy : (y (0 : Fin 2)).val = 256 * k.val + j
    · rw [if_pos hy, if_pos (by omega)]
      unfold stF
      rw [hy, Nat.add_assoc]
    · rw [if_neg hy]
      exact if_congr (by omega) rfl rfl

/-- Before row `j` the backward buffer holds the states of the rows done in this chunk. -/
theorem st_bwd (f : BufTy.Contents (Elt F) arg14.view.ty) (y : S2304x512.Idx) (j : ℕ) (hj : j ≤ 256) :
    arg14.view.read (Elt F) (arg14.view.writes (Elt F) f (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 k X9 X10 X11 X12 init j).2.2) y
      = if 256 * k.val ≤ posB (y (0 : Fin 2)).val ∧ posB (y (0 : Fin 2)).val < 256 * k.val + j then stB x1 x3 x4 x5 x6 x7 y
        else arg14.view.read (Elt F) f y := by
  induction j with
  | zero => rw [if_neg (by omega)]; rfl
  | succ j ih =>
    have hk : k.val < 9 := Nat.lt_of_lt_of_le k.isLt k0_t1_abs.2.1
    have hb : (y (0 : Fin 2)).val < 2304 := (y (0 : Fin 2)).isLt
    have hp : posB (y (0 : Fin 2)).val = 256 * k.val + j ↔ (y (0 : Fin 2)).val = baseB k.val + (255 - j) := by
      unfold posB baseB; split <;> split <;> omega
    rw [st_piece2 c i arg1 harg1 arg2 harg2 arg3 harg3 arg4 harg4 arg5 harg5 arg6 harg6 arg7 harg7 arg8 harg8 arg9 harg9 arg10 harg10 arg11 harg11 arg12 harg12 arg13 harg13 arg14 harg14 k X9 X10 X11 X12 init ⟨j, by rw [trips2]; omega⟩,
      read_row arg14.view f _ (baseB k.val + (255 - j)) (off10_eq k _), ih (by omega),
      st_acc c i arg1 harg1 arg2 harg2 arg3 harg3 arg4 harg4 arg5 harg5 arg6 harg6 arg7 harg7 arg8 harg8 arg9 harg9 arg10 harg10 arg11 harg11 arg12 harg12 arg13 harg13 arg14 harg14 k X9 X10 X11 X12 x1 x3 x4 x5 x6 x7 h9 h10 h11 h12 init hi (j + 1) hj]
    by_cases hy : posB (y (0 : Fin 2)).val = 256 * k.val + j
    · rw [if_pos (hp.1 hy), if_pos (by omega)]
      unfold stB
      rw [hy, Nat.add_assoc]
    · rw [if_neg (mt hp.2 hy)]
      exact if_congr (by omega) rfl rfl

end Cert.KernelIdeal.Lru

end
-- ==== Proof.LruConv.lean ====
/- The convolution of one chunk of rows, read at a row and a column: four taps over the rows of the chunk's
   own segment, zero outside it. -/
module

public import proofs.«01_k».proof.Proof.LruModel
public import proofs.«01_k».proof.Proof.LruTrip
public import proofs.«01_k».proof.Proof.LruSpec
public import Idealize.ShloMosaic.Lib.Pointwise
public import Idealize.ShloMosaic.Lib.Pipeline.ValueKit.Tiles

@[expose] public section

set_option maxRecDepth 16384

noncomputable section

namespace Cert.KernelIdeal.Lru

open Cert.KernelIdeal Cert.KernelIdeal.Gen
open Idealize.ShloMosaic Idealize.ShloMosaic.TcCoe Idealize.ShloMosaic.Tactic

open Cert.Lru

theorem off1_eq : ∀ k : Fin k0_t1_loop.trips, k0_off1 k = ![0, 256 * k.val - 16, 0] := by decide +kernel
theorem off2_eq : ∀ k : Fin k0_t1_loop.trips, k0_off2 k = ![0, 256 * k.val, 0] := by decide +kernel
theorem off3_eq : ∀ k : Fin k0_t1_loop.trips, k0_off3 k = ![0, min (256 * k.val + 256) 2288, 0] := by decide +kernel

theorem off4_eq : ∀ k : Fin k0_t1_loop.trips, k0_off4 k = ![0, baseB k.val - 16, 0] := by decide +kernel
theorem off5_eq : ∀ k : Fin k0_t1_loop.trips, k0_off5 k = ![0, baseB k.val, 0] := by decide +kernel
theorem off6_eq : ∀ k : Fin k0_t1_loop.trips, k0_off6 k = ![0, min (baseB k.val + 256) 2288, 0] := by decide +kernel

/-- Row `i` of a chunk with sixteen rows on each side, the chunk starting at row `b`, lies in the chunk's segment. -/
def inseg (b i : ℕ) : Bool :=
  if b < 256 then decide (16 ≤ b + i ∧ b + i < 272) else decide (272 ≤ b + i ∧ b + i < 2320)

/-- The mask over a chunk's rows as the words compute it, from the chunk's first row. -/
def maskW (w : BitVec 32) (i : ℕ) : BitVec 1 :=
  IntOp.andi
    (IntOp.cmpi .sge (IntOp.addi (Scalar.subi w 16#32) (BitVec.ofNat 32 i)) (Scalar.select (Scalar.cmpi .slt w 256#32) 0#32 256#32))
    (IntOp.cmpi .slt (IntOp.addi (Scalar.subi w 16#32) (BitVec.ofNat 32 i)) (Scalar.select (Scalar.cmpi .slt w 256#32) 256#32 2304#32))

set_option maxHeartbeats 4000000 in
theorem maskF_eq : ∀ (k : Fin k0_t1_loop.trips) (i : Fin 288),
    maskW (Scalar.muli (Scf.iv 0#32 1#32 k) 256#32) i.val = BitVec.ofBool (inseg (256 * k.val) i.val) := by
  decide +kernel

set_option maxHeartbeats 4000000 in
theorem maskB_eq : ∀ (k : Fin k0_t1_loop.trips) (i : Fin 288),
    maskW (Scalar.muli (Scalar.select (Scalar.cmpi .slt (Scf.iv 0#32 1#32 k) 1#32) (Scalar.subi 0#32 (Scf.iv 0#32 1#32 k))
      (Scalar.subi 9#32 (Scf.iv 0#32 1#32 k))) 256#32) i.val = BitVec.ofBool (inseg (baseB k.val) i.val) := by
  decide +kernel

/-- Column `d` of the block, by row number. -/
def col (x1 : Vec Ideal S1x2304x512 .bf16) (d : Fin 512) (p : ℕ) : EReal :=
  x1 (ix3 (0 : Fin 1) ⟨p % 2304, Nat.mod_lt _ (by decide)⟩ d)

/-- A load of rows of the block, at a row and a column. -/
theorem ld_rows (x1 : Vec Ideal S1x2304x512 .bf16) {n : ℕ} (off : Fin 3 → ℕ) (a : ℕ) (h : off = ![0, a, 0]) (inb) (i : Fin n) (d : Fin 512)
    (ha : a + i.val < 2304) :
    View.ld x1 (Rect.unit (s := S1x2304x512) off ![1, n, 512] inb) (ix3 (0 : Fin 1) i d) = col x1 d (a + i.val) := by
  subst h
  refine View.ld_unit_apply_of _ _ _ _ _ _ fun q => ?_
  match q with
  | ⟨0, _⟩ => rfl
  | ⟨1, _⟩ => show (a + i.val) % 2304 = a + i.val; omega
  | ⟨2, _⟩ => show d.val = 0 + d.val; omega

/-- The three loads one after the other, at a row and a column. -/
theorem pay8_at (v17 : Vec Ideal S1x16x512 .bf16) (v22 : Vec Ideal S1x256x512 .bf16) (v26 : Vec Ideal S1x16x512 .bf16)
    (t : Fin 288) (d : Fin 512) : k0_pay8 (F := Ideal) v17 v22 v26 (ix2 t d)
      = if h : t.val < 16 then v17 (ix3 (0 : Fin 1) ⟨t.val, h⟩ d)
        else if h' : t.val - 16 < 256 then v22 (ix3 (0 : Fin 1) ⟨t.val - 16, h'⟩ d)
        else v26 (ix3 (0 : Fin 1) ⟨t.val - 16 - 256, by have := t.isLt; omega⟩ d) := by
  pointwise [k0_pay8]

/-- The chunk with sixteen rows on each side, at a row of its segment. -/
theorem halo_at (x1 : Vec Ideal S1x2304x512 .bf16) (b : ℕ) (hb : b ≤ 2048) (h16 : b % 256 = 0) (o1 o2 o3 : Fin 3 → ℕ)
    (h1 : o1 = ![0, b - 16, 0]) (h2 : o2 = ![0, b, 0]) (h3 : o3 = ![0, min (b + 256) 2288, 0]) (i1 i2 i3)
    (i : Fin 288) (d : Fin 512) (hi : inseg b i.val = true) :
    k0_pay8 (F := Ideal) (View.ld x1 (Rect.unit (s := S1x2304x512) o1 S1x16x512.size i1))
      (View.ld x1 (Rect.unit (s := S1x2304x512) o2 S1x256x512.size i2))
      (View.ld x1 (Rect.unit (s := S1x2304x512) o3 S1x16x512.size i3)) (ix2 i d) = col x1 d (b + i.val - 16) := by
  have hs : (b < 256 ∧ 16 ≤ b + i.val ∧ b + i.val < 272) ∨ (256 ≤ b ∧ 272 ≤ b + i.val ∧ b + i.val < 2320) := by
    unfold inseg at hi
    split_ifs at hi with h <;> simp only [decide_eq_true_eq] at hi <;> omega
  rw [pay8_at]
  split_ifs with c1 c2
  · refine (ld_rows x1 o1 (b - 16) h1 i1 ⟨i.val, c1⟩ d ?_).trans (congrArg (col x1 d) ?_) <;> dsimp only <;> omega
  · refine (ld_rows x1 o2 b h2 i2 ⟨i.val - 16, c2⟩ d ?_).trans (congrArg (col x1 d) ?_) <;> dsimp only <;> omega
  · have := i.isLt
    refine (ld_rows x1 o3 _ h3 i3 ⟨i.val - 16 - 256, by omega⟩ d ?_).trans (congrArg (col x1 d) ?_) <;> dsimp only <;> omega

/-- One tap of a chunk's convolution: the masked row times the weight. -/
theorem tap_at (x : ℕ → EReal) (b t j : ℕ) (hb : b % 256 = 0) (hb' : b ≤ 2048) (ht : t < 256) (hj : j < 4) (m : BitVec 1)
    (hm : m = BitVec.ofBool (inseg b (14 + j + t))) (v w : EReal) (hv : inseg b (14 + j + t) = true → v = x (b + (14 + j + t) - 16)) :
    Scalar.select m (v * w) 0 = tap x w (b + t) j := by
  have hs : inseg b (14 + j + t) = true ↔ seg (b + t) j := by
    unfold inseg seg
    split_ifs with h <;> simp only [decide_eq_true_eq] <;> omega
  subst hm
  unfold tap
  by_cases h : seg (b + t) j
  · rw [if_pos h, hv (hs.2 h), hs.2 h, Scalar.select_ofBool, if_pos rfl]
    congr 2
    omega
  · have h' : inseg b (14 + j + t) = false := by
      cases hq : inseg b (14 + j + t) with
      | true => exact absurd (hs.1 hq) h
      | false => rfl
    rw [if_neg h, h', Scalar.select_ofBool, if_neg Bool.false_ne_true]

theorem base_mod (k : Fin k0_t1_loop.trips) : baseB k.val % 256 = 0 := by unfold baseB; split_ifs <;> omega
theorem base_le (k : Fin k0_t1_loop.trips) : baseB k.val ≤ 2048 := by unfold baseB; split_ifs <;> omega
theorem fwd_le (k : Fin k0_t1_loop.trips) : 256 * k.val ≤ 2048 := by have h : k.val < 9 := trips1 ▸ k.isLt; omega

/-- The forward direction's convolution. -/
theorem convF_at (x1 : Vec Ideal S1x2304x512 .bf16) (x3 : Vec Ideal S4x512 .f32) (x4 : Vec Ideal S1x512 .f32) (k : Fin k0_t1_loop.trips)
    (t : Fin 256) (d : Fin 512) :
    convF (F := Ideal) x1 x3 x4 k (ix2 t d)
      = cv (col x1 d) (x3 (ix2 (0 : Fin 4) d)) (x3 (ix2 (1 : Fin 4) d)) (x3 (ix2 (2 : Fin 4) d)) (x3 (ix2 (3 : Fin 4) d))
          (x4 (ix2 (0 : Fin 1) d)) (256 * k.val + t.val) := by
  have hk := fwd_le k
  unfold convF cv
  pointwise [k0_pay11, k0_pay10, k0_pay9]
  have key : ∀ (j : ℕ) (hj : j < 4) (w : EReal), _ := fun j hj w =>
    tap_at (col x1 d) (256 * k.val) t.val j (by omega) hk t.isLt hj _ (maskF_eq k ⟨14 + j + t.val, by have := t.isLt; omega⟩) _ w
      (halo_at x1 (256 * k.val) hk (by omega) _ _ _ (off1_eq k) (off2_eq k) (off3_eq k) (k0_off1_inb k) (k0_off2_inb k) (k0_off3_inb k)
        ⟨14 + j + t.val, by have := t.isLt; omega⟩ d)
  exact congrArg₂ (· + ·) (congrArg₂ (· + ·) (congrArg₂ (· + ·) (congrArg₂ (· + ·) (key 0 (by decide) _) (key 1 (by decide) _)) (key 2 (by decide) _)) (key 3 (by decide) _)) rfl

/-- The backward direction's convolution. -/
theorem convB_at (x1 : Vec Ideal S1x2304x512 .bf16) (x3 : Vec Ideal S4x512 .f32) (x4 : Vec Ideal S1x512 .f32) (k : Fin k0_t1_loop.trips)
    (t : Fin 256) (d : Fin 512) :
    k0_pay20 (F := Ideal) (preB x1 x3 k) x4 (ix2 t d)
      = cv (col x1 d) (x3 (ix2 (0 : Fin 4) d)) (x3 (ix2 (1 : Fin 4) d)) (x3 (ix2 (2 : Fin 4) d)) (x3 (ix2 (3 : Fin 4) d))
          (x4 (ix2 (0 : Fin 1) d)) (baseB k.val + t.val) := by
  have hk := base_le k
  have hm := base_mod k
  unfold preB cv
  have hp : ∀ (w : BitVec 32) a b c, k0_pay19 (F := Ideal) w x3 a b c (ix2 t d)
      = Scalar.select (maskW w (14 + 0 + t.val)) (k0_pay8 a b c (ix2 ⟨14 + 0 + t.val, by have := t.isLt; omega⟩ d) * x3 (ix2 (0 : Fin 4) d)) 0
        + Scalar.select (maskW w (14 + 1 + t.val)) (k0_pay8 a b c (ix2 ⟨14 + 1 + t.val, by have := t.isLt; omega⟩ d) * x3 (ix2 (1 : Fin 4) d)) 0
        + Scalar.select (maskW w (14 + 2 + t.val)) (k0_pay8 a b c (ix2 ⟨14 + 2 + t.val, by have := t.isLt; omega⟩ d) * x3 (ix2 (2 : Fin 4) d)) 0
        + Scalar.select (maskW w (14 + 3 + t.val)) (k0_pay8 a b c (ix2 ⟨14 + 3 + t.val, by have := t.isLt; omega⟩ d) * x3 (ix2 (3 : Fin 4) d)) 0 := by
    intro w a b c
    pointwise [k0_pay19, k0_pay8]
    rfl
  pointwise [k0_pay20]
  rw [hp]
  have key : ∀ (j : ℕ) (hj : j < 4) (w : EReal), _ := fun j hj w =>
    tap_at (col x1 d) (baseB k.val) t.val j hm hk t.isLt hj _ (maskB_eq k ⟨14 + j + t.val, by have := t.isLt; omega⟩) _ w
      (halo_at x1 (baseB k.val) hk (by omega) _ _ _ (off4_eq k) (off5_eq k) (off6_eq k) (k0_off4_inb k) (k0_off5_inb k) (k0_off6_inb k)
        ⟨14 + j + t.val, by have := t.isLt; omega⟩ d)
  exact congrArg₂ (· + ·) (congrArg₂ (· + ·) (congrArg₂ (· + ·) (congrArg₂ (· + ·) (key 0 (by decide) _) (key 1 (by decide) _)) (key 2 (by decide) _)) (key 3 (by decide) _)) rfl

end Cert.KernelIdeal.Lru

end
-- ==== Proof.LruBlock.lean ====
/- One grid point's block of outputs at a row and a column: the gelu of the gate times the sum of the two chains
   of states, over the block's decays and updates. -/
module

public import proofs.«01_k».proof.Proof.LruConv

@[expose] public section

set_option maxRecDepth 16384

noncomputable section

namespace Cert.KernelIdeal.Lru

open Cert.KernelIdeal Cert.KernelIdeal.Gen
open Idealize.ShloMosaic Idealize.ShloMosaic.TcCoe Idealize.ShloMosaic.Tactic

open Cert.Lru

section Block

variable (x1 : Vec Ideal S1x2304x512 .bf16) (x3 : Vec Ideal S4x512 .f32) (x4 : Vec Ideal S1x512 .f32) (x5 : Vec Ideal S2x512x1024 .bf16) (x6 : Vec Ideal S2x1x1024 .f32) (x7 : Vec Ideal S2x1x512 .f32)

/-- The convolved input at row `r`. -/
def cvB (r : ℕ) (d : Fin 512) : EReal :=
  cv (col x1 d) (x3 (ix2 (0 : Fin 4) d)) (x3 (ix2 (1 : Fin 4) d)) (x3 (ix2 (2 : Fin 4) d)) (x3 (ix2 (3 : Fin 4) d)) (x4 (ix2 (0 : Fin 1) d)) r

/-- The gates' linear map of direction `q`: the recurrence gate's columns first, then the input gate's. -/
def linB (q : Fin 2) (r : ℕ) (e : Fin 1024) : EReal :=
  ∑ x : Fin 512, cvB x1 x3 x4 r x * x5 (ix3 q x e) + x6 (ix3 q (0 : Fin 1) e)

/-- The decay of direction `q`. -/
def aBl (q : Fin 2) (d : Fin 512) (r : ℕ) : EReal :=
  decay (Ideal.logistic (linB x1 x3 x4 x5 x6 q r ⟨d.val, by have := d.isLt; omega⟩)) (x7 (ix3 q (0 : Fin 1) d))

/-- The update of direction `q`. -/
def uBl (q : Fin 2) (d : Fin 512) (r : ℕ) : EReal :=
  update (aBl x1 x3 x4 x5 x6 x7 q d r) (Ideal.logistic (linB x1 x3 x4 x5 x6 q r ⟨512 + d.val, by have := d.isLt; omega⟩)) (cvB x1 x3 x4 r d)

theorem ld5 (q : Fin 2) (off : Fin 3 → ℕ) (h : off = ![q.val, 0, 0]) (inb) (x : Fin 512) (e : Fin 1024) :
    View.ld x5 (Rect.unit (s := S2x512x1024) off S1x512x1024.size inb) (ix3 (0 : Fin 1) x e) = x5 (ix3 q x e) := by
  subst h
  refine View.ld_unit_apply_of _ _ _ _ _ _ fun a => ?_
  match a with
  | ⟨0, _⟩ => rfl
  | ⟨1, _⟩ => exact (Nat.zero_add _).symm
  | ⟨2, _⟩ => exact (Nat.zero_add _).symm

theorem ld6 (q : Fin 2) (off : Fin 3 → ℕ) (h : off = ![q.val, 0, 0]) (inb) (e : Fin 1024) :
    View.ld x6 (Rect.unit (s := S2x1x1024) off S1x1x1024.size inb) (ix3 (0 : Fin 1) (0 : Fin 1) e) = x6 (ix3 q (0 : Fin 1) e) := by
  subst h
  refine View.ld_unit_apply_of _ _ _ _ _ _ fun a => ?_
  match a with
  | ⟨0, _⟩ => rfl
  | ⟨1, _⟩ => rfl
  | ⟨2, _⟩ => exact (Nat.zero_add _).symm

theorem ld7 (q : Fin 2) (off : Fin 3 → ℕ) (h : off = ![q.val, 0, 0]) (inb) (d : Fin 512) :
    View.ld x7 (Rect.unit (s := S2x1x512) off S1x1x512.size inb) (ix3 (0 : Fin 1) (0 : Fin 1) d) = x7 (ix3 q (0 : Fin 1) d) := by
  subst h
  refine View.ld_unit_apply_of _ _ _ _ _ _ fun a => ?_
  match a with
  | ⟨0, _⟩ => rfl
  | ⟨1, _⟩ => rfl
  | ⟨2, _⟩ => exact (Nat.zero_add _).symm

/-- The decay as the kernel computes it. -/
theorem pay17_at (v83 : FVec Ideal S256x512 .f32) (v85 : FVec Ideal S1x512 .f32) (t : Fin 256) (d : Fin 512) :
    k0_pay16 (F := Ideal) v83 v85 (ix2 t d) = Ideal.exp (v83 (ix2 t d) * softplus (-v85 (ix2 (0 : Fin 1) d))) := by
  pointwise [k0_pay16]
  rw [if_neg (by simp), zero_sub, zero_sub]
  rfl

/-- A column of the gates' linear map, of the first half or the second. -/
theorem pay14_at (v9 : Vec Ideal S4x512 .f32) (v29 : FVec Ideal S288x512 .f32) (v33 : IVec S288x1 32) (v37 : BitVec 32) (v39 : IVec S288x1 1)
    (v66 : Vec Ideal S1x512 .f32) (v71 : Vec Ideal S1x512x1024 .bf16) (v74 : Vec Ideal S1x1x1024 .f32) (t : Fin 256) (d : Fin 512) :
    k0_pay14 (F := Ideal) v9 v29 v33 v37 v39 v66 v71 v74 (ix2 t d)
      = Ideal.ofBits .f32 0xC1000000#32 * Ideal.logistic (∑ x : Fin 512, k0_pay11 (F := Ideal) v9 v29 v33 v37 v39 v66 (ix2 t x) * v71 (ix3 (0 : Fin 1) x ⟨d.val, by have := d.isLt; omega⟩)
          + v74 (ix3 (0 : Fin 1) (0 : Fin 1) ⟨d.val, by have := d.isLt; omega⟩)) := by
  pointwise [k0_pay14, k0_pay12]

theorem pay13_at (v9 : Vec Ideal S4x512 .f32) (v29 : FVec Ideal S288x512 .f32) (v33 : IVec S288x1 32) (v37 : BitVec 32) (v39 : IVec S288x1 1)
    (v66 : Vec Ideal S1x512 .f32) (v71 : Vec Ideal S1x512x1024 .bf16) (v74 : Vec Ideal S1x1x1024 .f32) (t : Fin 256) (d : Fin 512) :
    k0_pay13 (F := Ideal) v9 v29 v33 v37 v39 v66 v71 v74 (ix2 t d)
      = Ideal.logistic (∑ x : Fin 512, k0_pay11 (F := Ideal) v9 v29 v33 v37 v39 v66 (ix2 t x) * v71 (ix3 (0 : Fin 1) x ⟨512 + d.val, by have := d.isLt; omega⟩)
          + v74 (ix3 (0 : Fin 1) (0 : Fin 1) ⟨512 + d.val, by have := d.isLt; omega⟩)) := by
  pointwise [k0_pay13, k0_pay12]

theorem pay18_at (v69 v81 v83 : FVec Ideal S256x512 .f32) (v85 : FVec Ideal S1x512 .f32) (t : Fin 256) (d : Fin 512) :
    k0_pay18 (F := Ideal) v69 v81 v83 v85 (ix2 t d)
      = update (k0_pay16 (F := Ideal) v83 v85 (ix2 t d)) (v81 (ix2 t d)) (v69 (ix2 t d)) := by
  pointwise [k0_pay18]
  rfl

theorem pay2_at (v178 v190 v213 : FVec Ideal S256x512 .f32) (t : Fin 256) (d : Fin 512) :
    k0_pay2 (F := Ideal) v178 v190 v213 (ix2 t d) = update (v213 (ix2 t d)) (v190 (ix2 t d)) (v178 (ix2 t d)) := by
  pointwise [k0_pay2]
  rfl

theorem pay15_at (v84 : Vec Ideal S1x1x512 .f32) (d : Fin 512) : k0_pay15 (F := Ideal) v84 (ix2 (0 : Fin 1) d) = v84 (ix3 (0 : Fin 1) (0 : Fin 1) d) := by
  pointwise [k0_pay15]

theorem pay17_eq (v83 : FVec Ideal S256x512 .f32) (v85 : FVec Ideal S1x512 .f32) : k0_pay17 (F := Ideal) v83 v85 = k0_pay16 v83 v85 := by
  unfold k0_pay17; exact shapeCast_self _ _

theorem pay24_eq (v174 : FVec Ideal S256x512 .f32) (v175 : Vec Ideal S1x512 .f32) (v180 : Vec Ideal S1x512x1024 .bf16)
    (v183 : Vec Ideal S1x1x1024 .f32) (v193 : Vec Ideal S1x1x512 .f32) : k0_pay24 (F := Ideal) v174 v175 v180 v183 v193 = k0_pay23 v174 v175 v180 v183 v193 := by
  unfold k0_pay24; exact shapeCast_self _ _

theorem pay22_at (v174 : FVec Ideal S256x512 .f32) (v175 : Vec Ideal S1x512 .f32) (v180 : Vec Ideal S1x512x1024 .bf16)
    (v183 : Vec Ideal S1x1x1024 .f32) (t : Fin 256) (d : Fin 512) :
    k0_pay22 (F := Ideal) v174 v175 v180 v183 (ix2 t d)
      = Ideal.logistic (∑ x : Fin 512, k0_pay20 (F := Ideal) v174 v175 (ix2 t x) * v180 (ix3 (0 : Fin 1) x ⟨512 + d.val, by have := d.isLt; omega⟩)
          + v183 (ix3 (0 : Fin 1) (0 : Fin 1) ⟨512 + d.val, by have := d.isLt; omega⟩)) := by
  pointwise [k0_pay22, k0_pay21]

theorem pay23_at (v174 : FVec Ideal S256x512 .f32) (v175 : Vec Ideal S1x512 .f32) (v180 : Vec Ideal S1x512x1024 .bf16)
    (v183 : Vec Ideal S1x1x1024 .f32) (v193 : Vec Ideal S1x1x512 .f32) (t : Fin 256) (d : Fin 512) :
    k0_pay23 (F := Ideal) v174 v175 v180 v183 v193 (ix2 t d)
      = decay (Ideal.logistic (∑ x : Fin 512, k0_pay20 (F := Ideal) v174 v175 (ix2 t x) * v180 (ix3 (0 : Fin 1) x ⟨d.val, by have := d.isLt; omega⟩)
          + v183 (ix3 (0 : Fin 1) (0 : Fin 1) ⟨d.val, by have := d.isLt; omega⟩))) (v193 (ix3 (0 : Fin 1) (0 : Fin 1) d)) := by
  pointwise [k0_pay23, k0_pay21]
  rw [if_neg (by simp), zero_sub, zero_sub]
  rfl

theorem aF_at (k : Fin k0_t1_loop.trips) (t : Fin 256) (d : Fin 512) :
    aF (F := Ideal) x1 x3 x4 x5 x6 x7 k (ix2 t d) = aBl x1 x3 x4 x5 x6 x7 0 d (256 * k.val + t.val) := by
  unfold aF gateAF lamF
  rw [pay17_eq, pay17_at, pay14_at, pay15_at, ld6 x6 0 ![0, 0, 0] rfl, ld7 x7 0 ![0, 0, 0] rfl]
  unfold aBl decay linB cvB
  refine congrArg Ideal.exp (congrArg (· * _) (congrArg (_ * ·) (congrArg Ideal.logistic (congrArg (· + _) ?_))))
  exact Finset.sum_congr rfl fun x _ => congrArg₂ (· * ·) (convF_at x1 x3 x4 k t x) (ld5 x5 0 _ rfl _ x _)

theorem uF_at (k : Fin k0_t1_loop.trips) (t : Fin 256) (d : Fin 512) :
    uF (F := Ideal) x1 x3 x4 x5 x6 x7 k (ix2 t d) = uBl x1 x3 x4 x5 x6 x7 0 d (256 * k.val + t.val) := by
  have ha := aF_at x1 x3 x4 x5 x6 x7 k t d
  unfold aF at ha
  rw [pay17_eq] at ha
  unfold uF gateIF
  rw [pay18_at, ha, convF_at, pay13_at, ld6 x6 0 ![0, 0, 0] rfl]
  unfold uBl linB cvB
  refine congrArg (fun z => update _ z _) (congrArg Ideal.logistic (congrArg (· + _) ?_))
  exact Finset.sum_congr rfl fun x _ => congrArg₂ (· * ·) (convF_at x1 x3 x4 k t x) (ld5 x5 0 _ rfl _ x _)

theorem aB_at (k : Fin k0_t1_loop.trips) (t : Fin 256) (d : Fin 512) :
    aB (F := Ideal) x1 x3 x4 x5 x6 x7 k (ix2 t d) = aBl x1 x3 x4 x5 x6 x7 1 d (baseB k.val + t.val) := by
  unfold aB
  rw [pay24_eq, pay23_at, ld6 x6 1 ![1, 0, 0] rfl, ld7 x7 1 ![1, 0, 0] rfl]
  unfold aBl decay linB cvB
  refine congrArg Ideal.exp (congrArg (· * _) (congrArg (_ * ·) (congrArg Ideal.logistic (congrArg (· + _) ?_))))
  exact Finset.sum_congr rfl fun x _ => congrArg₂ (· * ·) (convB_at x1 x3 x4 k t x) (ld5 x5 1 _ rfl _ x _)

theorem uB_at (k : Fin k0_t1_loop.trips) (t : Fin 256) (d : Fin 512) :
    uB (F := Ideal) x1 x3 x4 x5 x6 x7 k (ix2 t d) = uBl x1 x3 x4 x5 x6 x7 1 d (baseB k.val + t.val) := by
  have ha := aB_at x1 x3 x4 x5 x6 x7 k t d
  unfold aB at ha
  rw [pay24_eq] at ha
  unfold uB
  rw [pay2_at, ha, convB_at, pay22_at, ld6 x6 1 ![1, 0, 0] rfl]
  unfold uBl linB cvB
  refine congrArg (fun z => update _ z _) (congrArg Ideal.logistic (congrArg (· + _) ?_))
  exact Finset.sum_congr rfl fun x _ => congrArg₂ (· * ·) (convB_at x1 x3 x4 k t x) (ld5 x5 1 _ rfl _ x _)

/-- The forward chain of states. -/
theorem hF_at (d : Fin 512) : ∀ n ≤ 2304, hF (F := Ideal) x1 x3 x4 x5 x6 x7 n (ix2 (0 : Fin 1) d)
    = chain (aBl x1 x3 x4 x5 x6 x7 0 d) (uBl x1 x3 x4 x5 x6 x7 0 d) n := by
  intro n
  induction n with
  | zero => intro _; unfold hF; pointwise [k0_pay1]; rfl
  | succ n ih =>
    intro h
    have hk : 256 * (kAt (n / 256)).val + n % 256 = n := by
      show 256 * (n / 256 % 9) + n % 256 = n
      omega
    have e1 : rowOf (F := Ideal) (aF x1 x3 x4 x5 x6 x7 (kAt (n / 256))) (n % 256) (ix2 (0 : Fin 1) d) = aBl x1 x3 x4 x5 x6 x7 0 d n := by
      unfold rowOf
      refine (aF_at x1 x3 x4 x5 x6 x7 (kAt (n / 256)) ⟨n % 256 % 256, Nat.mod_lt _ (by decide)⟩ d).trans (congrArg _ ?_)
      dsimp only
      rw [Nat.mod_mod]; exact hk
    have e2 : rowOf (F := Ideal) (uF x1 x3 x4 x5 x6 x7 (kAt (n / 256))) (n % 256) (ix2 (0 : Fin 1) d) = uBl x1 x3 x4 x5 x6 x7 0 d n := by
      unfold rowOf
      refine (uF_at x1 x3 x4 x5 x6 x7 (kAt (n / 256)) ⟨n % 256 % 256, Nat.mod_lt _ (by decide)⟩ d).trans (congrArg _ ?_)
      dsimp only
      rw [Nat.mod_mod]; exact hk
    unfold hF chain
    pointwise [k0_pay3]
    rw [e1, e2, ih (by omega)]

/-- The backward chain of states. -/
theorem hB_at (d : Fin 512) : ∀ n ≤ 2304, hB (F := Ideal) x1 x3 x4 x5 x6 x7 n (ix2 (0 : Fin 1) d)
    = chain (fun s => aBl x1 x3 x4 x5 x6 x7 1 d (pos s)) (fun s => uBl x1 x3 x4 x5 x6 x7 1 d (pos s)) n := by
  intro n
  induction n with
  | zero => intro _; unfold hB; pointwise [k0_pay1]; rfl
  | succ n ih =>
    intro h
    have hk : baseB (kAt (n / 256)).val + (255 - n % 256) = pos n := by
      show baseB (n / 256 % 9) + (255 - n % 256) = pos n
      unfold baseB pos
      split_ifs <;> omega
    have e1 : rowOf (F := Ideal) (aB x1 x3 x4 x5 x6 x7 (kAt (n / 256))) (255 - n % 256) (ix2 (0 : Fin 1) d) = aBl x1 x3 x4 x5 x6 x7 1 d (pos n) := by
      unfold rowOf
      refine (aB_at x1 x3 x4 x5 x6 x7 (kAt (n / 256)) ⟨(255 - n % 256) % 256, Nat.mod_lt _ (by decide)⟩ d).trans (congrArg _ ?_)
      dsimp only
      rw [Nat.mod_eq_of_lt (by omega : 255 - n % 256 < 256)]; exact hk
    have e2 : rowOf (F := Ideal) (uB x1 x3 x4 x5 x6 x7 (kAt (n / 256))) (255 - n % 256) (ix2 (0 : Fin 1) d) = uBl x1 x3 x4 x5 x6 x7 1 d (pos n) := by
      unfold rowOf
      refine (uB_at x1 x3 x4 x5 x6 x7 (kAt (n / 256)) ⟨(255 - n % 256) % 256, Nat.mod_lt _ (by decide)⟩ d).trans (congrArg _ ?_)
      dsimp only
      rw [Nat.mod_eq_of_lt (by omega : 255 - n % 256 < 256)]; exact hk
    unfold hB chain
    pointwise [k0_pay4]
    rw [e1, e2, ih (by omega)]

theorem off11_eq : ∀ k : Fin k0_t3_loop.trips, k0_off11 k = ![256 * k.val, 0] := by decide +kernel
theorem off12_eq : ∀ k : Fin k0_t3_loop.trips, k0_off12 k = ![0, 256 * k.val, 0] := by decide +kernel

theorem pay7_at (v69 v83 : FVec Ideal S256x512 .f32) (v85 : Vec Ideal S1x256x512 .bf16) (t : Fin 256) (d : Fin 512) :
    k0_pay7 (F := Ideal) v69 v83 v85 (ix3 (0 : Fin 1) t d)
      = gelu (v85 (ix3 (0 : Fin 1) t d)) * (v69 (ix2 t d) + v83 (ix2 t d)) := by
  pointwise [k0_pay7]
  unfold gelu
  rw [mul_assoc (v85 (ix3 (0 : Fin 1) t d)) (v85 (ix3 (0 : Fin 1) t d)) (v85 (ix3 (0 : Fin 1) t d))]

/-- A load of rows of the states, at a row and a column. -/
theorem ld_states (X : Vec Ideal S2304x512 .f32) (off : Fin 2 → ℕ) (a : ℕ) (h : off = ![a, 0]) (inb) (i : Fin 256) (d : Fin 512)
    (r : Fin 2304) (hr : r.val = a + i.val) :
    View.ld X (Rect.unit (s := S2304x512) off S256x512.size inb) (ix2 i d) = X (ix2 r d) := by
  subst h
  refine View.ld_unit_apply_of _ _ _ _ _ _ fun q => ?_
  match q with
  | ⟨0, _⟩ => exact hr
  | ⟨1, _⟩ => exact (Nat.zero_add _).symm

/-- The block of outputs at a row and a column. -/
theorem outBlk_at (x2 : Vec Ideal S1x2304x512 .bf16) (r : Fin 2304) (d : Fin 512) :
    outBlk (F := Ideal) x1 x3 x4 x5 x6 x7 x2 (ix3 (0 : Fin 1) r d)
      = gelu (x2 (ix3 (0 : Fin 1) r d))
        * (chain (aBl x1 x3 x4 x5 x6 x7 0 d) (uBl x1 x3 x4 x5 x6 x7 0 d) (r.val + 1)
          + chain (fun s => aBl x1 x3 x4 x5 x6 x7 1 d (pos s)) (fun s => uBl x1 x3 x4 x5 x6 x7 1 d (pos s)) (pos r.val + 1)) := by
  have hr := r.isLt
  unfold outBlk outAt
  refine (pay7_at _ _ _ ⟨r.val % 256, Nat.mod_lt _ (by decide)⟩ d).trans ?_
  have hk : r.val = 256 * (r.val / 256) + r.val % 256 := by omega
  rw [ld_states _ _ _ (off11_eq _) _ ⟨r.val % 256, Nat.mod_lt _ (by decide)⟩ d r hk,
    ld_states _ _ _ (off11_eq _) _ ⟨r.val % 256, Nat.mod_lt _ (by decide)⟩ d r hk]
  refine congrArg₂ (· * ·) (congrArg gelu ?_) (congrArg₂ (· + ·) ?_ ?_)
  · refine (ld_rows x2 _ _ (off12_eq _) _ ⟨r.val % 256, Nat.mod_lt _ (by decide)⟩ d ?_).trans ?_
    · show 256 * (r.val / 256) + r.val % 256 < 2304
      omega
    · unfold col
      congr 2
      apply Fin.ext
      show (256 * (r.val / 256) + r.val % 256) % 2304 = r.val
      omega
  · exact hF_at x1 x3 x4 x5 x6 x7 d (r.val + 1) (by omega)
  · exact hB_at x1 x3 x4 x5 x6 x7 d (pos r.val + 1) (by have := pos_lt r.val hr; omega)

end Block

end Cert.KernelIdeal.Lru

end
-- ==== Proof.LruBody.lean ====
/- One grid point of the recurrence: the chunk loop's invariant, its step, and the run of the body. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.LruTrip
public import Idealize.ShloMosaic.Lib.VecWindow
public import Idealize.ShloMosaic.Lib.Pipeline.FrameBody
public import Idealize.ShloMosaic.Lib.Tactic

@[expose] public section

set_option maxRecDepth 16384

noncomputable section

namespace Cert.KernelIdeal.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg1 : Memref sig .tc .vmem S1x2304x512 .bf16) (harg1 : arg1.IsWhole)
    (arg2 : Memref sig .tc .vmem S1x2304x512 .bf16) (harg2 : arg2.IsWhole)
    (arg3 : Memref sig .tc .vmem S4x512 .f32) (harg3 : arg3.IsWhole)
    (arg4 : Memref sig .tc .vmem S1x512 .f32) (harg4 : arg4.IsWhole)
    (arg5 : Memref sig .tc .vmem S2x512x1024 .bf16) (harg5 : arg5.IsWhole)
    (arg6 : Memref sig .tc .vmem S2x1x1024 .f32) (harg6 : arg6.IsWhole)
    (arg7 : Memref sig .tc .vmem S2x1x512 .f32) (harg7 : arg7.IsWhole)
    (arg8 : Memref sig .tc .vmem S1x2304x512 .bf16) (harg8 : arg8.IsWhole)
    (arg9 : Memref sig .tc .vmem S256x512 .f32) (harg9 : arg9.IsWhole)
    (arg10 : Memref sig .tc .vmem S256x512 .f32) (harg10 : arg10.IsWhole)
    (arg11 : Memref sig .tc .vmem S256x512 .f32) (harg11 : arg11.IsWhole)
    (arg12 : Memref sig .tc .vmem S256x512 .f32) (harg12 : arg12.IsWhole)
    (arg13 : Memref sig .tc .vmem S2304x512 .f32) (harg13 : arg13.IsWhole)
    (arg14 : Memref sig .tc .vmem S2304x512 .f32) (harg14 : arg14.IsWhole)
  (x1 : Vec F S1x2304x512 .bf16) (x2 : Vec F S1x2304x512 .bf16) (x3 : Vec F S4x512 .f32) (x4 : Vec F S1x512 .f32) (x5 : Vec F S2x512x1024 .bf16) (x6 : Vec F S2x1x1024 .f32) (x7 : Vec F S2x1x512 .f32)

/-- The forward buffer holds the states of the first `n` rows. -/
def FwdTo (n : ℕ) (g : Vec F S2304x512 .f32) : Prop :=
  ∀ y : S2304x512.Idx, (y (0 : Fin 2)).val < n → g y = stF x1 x3 x4 x5 x6 x7 y

/-- The backward buffer holds the states of the first `n` rows visited. -/
def BwdTo (n : ℕ) (g : Vec F S2304x512 .f32) : Prop :=
  ∀ y : S2304x512.Idx, posB (y (0 : Fin 2)).val < n → g y = stB x1 x3 x4 x5 x6 x7 y

/-- What holds before trip `k` of the chunk loop: the inputs as they were, the chunk buffers at anything, the
    two state buffers filled up to the rows done, and the two states carried. -/
abbrev inv (k : ℕ) (acc : FVec F S1x512 .f32 × FVec F S1x512 .f32) : sProp 𝕄 :=
  iprop((arg1.view.loc (c : Thread nD τ) ↦[arg1.view.set]{fullShare} (harg1.unread x1)) ∗ (arg2.view.loc (c : Thread nD τ) ↦[arg2.view.set]{fullShare} (harg2.unread x2)) ∗ (arg3.view.loc (c : Thread nD τ) ↦[arg3.view.set]{fullShare} (harg3.unread x3)) ∗ (arg4.view.loc (c : Thread nD τ) ↦[arg4.view.set]{fullShare} (harg4.unread x4)) ∗ (arg5.view.loc (c : Thread nD τ) ↦[arg5.view.set]{fullShare} (harg5.unread x5)) ∗ (arg6.view.loc (c : Thread nD τ) ↦[arg6.view.set]{fullShare} (harg6.unread x6)) ∗ (arg7.view.loc (c : Thread nD τ) ↦[arg7.view.set]{fullShare} (harg7.unread x7)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f))
   ∗ (∃ f, (arg13.view.loc (c : Thread nD τ) ↦[arg13.view.set]{fullShare} f) ∗ ⌜FwdTo x1 x3 x4 x5 x6 x7 (256 * k) (arg13.view.read (Elt F) f)⌝) ∗ (∃ f, (arg14.view.loc (c : Thread nD τ) ↦[arg14.view.set]{fullShare} f) ∗ ⌜BwdTo x1 x3 x4 x5 x6 x7 (256 * k) (arg14.view.read (Elt F) f)⌝)
   ∗ ⌜acc = (hF x1 x3 x4 x5 x6 x7 (256 * k), hB x1 x3 x4 x5 x6 x7 (256 * k))⌝)

set_option maxHeartbeats 4000000 in
/-- One trip of the chunk loop keeps it. -/
theorem step (E : Set ℕ) (k : Fin k0_t1_loop.trips) (acc : FVec F S1x512 .f32 × FVec F S1x512 .f32) :
   inv (F := F) c arg1 harg1 arg2 harg2 arg3 harg3 arg4 harg4 arg5 harg5 arg6 harg6 arg7 harg7 arg9 arg10 arg11 arg12 arg13 arg14 x1 x2 x3 x4 x5 x6 x7 k.val acc ⊢ wp frame (wpE (defs₀ (F := F)) Variants.none (c : Thread nD τ) none) E
     (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 k acc) (inv (F := F) c arg1 harg1 arg2 harg2 arg3 harg3 arg4 harg4 arg5 harg5 arg6 harg6 arg7 harg7 arg9 arg10 arg11 arg12 arg13 arg14 x1 x2 x3 x4 x5 x6 x7 (k.val + 1)) := by
  unfold k0_t1_body
  simp only [k0_part1_eq_skeleton, k0_part2_eq_skeleton, k0_part3_eq_skeleton, k0_part4_eq_skeleton, k0_part5_eq_skeleton]
  iintro ⟨H1, H2, H3, H4, H5, H6, H7, ⟨%f9, H9⟩, ⟨%f10, H10⟩, ⟨%f11, H11⟩, ⟨%f12, H12⟩, ⟨%f13, H13, %h13⟩, ⟨%f14, H14, %h14⟩, %hacc⟩
  sl_exec
  sl_step
  have t2 : Scf.trips k0_t2_loop.lb k0_t2_loop.ub k0_t2_loop.st = 256 := trips2
  have z3 : View.ld x3 (Rect.unit (s := S4x512) ![0, 0] S4x512.size inb_S4x512_S4x512_0_0) = x3 :=
    View.ld_unit_zero (by decide) _ _
  have z4 : View.ld x4 (Rect.unit (s := S1x512) ![0, 0] S1x512.size inb_S1x512_S1x512_0_0) = x4 :=
    View.ld_unit_zero (by decide) _ _
  have e9 : arg9.view.read (Elt F) (arg9.view.writes (Elt F) arg9.view.junk (step.sl.H9_1 arg1 harg1 arg3 harg3 arg4 harg4 arg5 harg5 arg6 harg6 arg7 harg7 x1 x3 x4 x5 x6 x7 k)) = aF x1 x3 x4 x5 x6 x7 k := by
    unfold step.sl.H9_1
    refine (View.read_writes_full _ _ _ _ _).trans ?_
    sl_unfold_words
    simp only [View.readAt_eq_ld, Memref.IsWhole.read_unread, z3, z4]
    rfl
  have e10 : arg10.view.read (Elt F) (arg10.view.writes (Elt F) arg10.view.junk (step.sl.H10_1 arg1 harg1 arg3 harg3 arg4 harg4 arg5 harg5 arg6 harg6 arg7 harg7 x1 x3 x4 x5 x6 x7 k)) = uF x1 x3 x4 x5 x6 x7 k := by
    unfold step.sl.H10_1
    refine (View.read_writes_full _ _ _ _ _).trans ?_
    sl_unfold_words
    simp only [View.readAt_eq_ld, Memref.IsWhole.read_unread, z3, z4]
    rfl
  have e11 : arg11.view.read (Elt F) (arg11.view.writes (Elt F) arg11.view.junk (step.sl.H11_1 arg1 harg1 arg3 harg3 arg4 harg4 arg5 harg5 arg6 harg6 arg7 harg7 x1 x3 x4 x5 x6 x7 k)) = aB x1 x3 x4 x5 x6 x7 k := by
    unfold step.sl.H11_1
    refine (View.read_writes_full _ _ _ _ _).trans ?_
    sl_unfold_words
    simp only [View.readAt_eq_ld, Memref.IsWhole.read_unread, z3, z4]
    rfl
  have e12 : arg12.view.read (Elt F) (arg12.view.writes (Elt F) arg12.view.junk (step.sl.H12_1 arg1 harg1 arg3 harg3 arg4 harg4 arg5 harg5 arg6 harg6 arg7 harg7 x1 x3 x4 x5 x6 x7 k)) = uB x1 x3 x4 x5 x6 x7 k := by
    unfold step.sl.H12_1
    refine (View.read_writes_full _ _ _ _ _).trans ?_
    sl_unfold_words
    simp only [View.readAt_eq_ld, Memref.IsWhole.read_unread, z3, z4]
    rfl
  have hst := st_acc c i arg1 harg1 arg2 harg2 arg3 harg3 arg4 harg4 arg5 harg5 arg6 harg6 arg7 harg7 arg8 harg8 arg9 harg9 arg10 harg10 arg11 harg11 arg12 harg12 arg13 harg13 arg14 harg14 k _ _ _ _ x1 x3 x4 x5 x6 x7 e9 e10 e11 e12 (acc.1, acc.2) hacc 256 le_rfl
  have hfw := fun f y => st_fwd c i arg1 harg1 arg2 harg2 arg3 harg3 arg4 harg4 arg5 harg5 arg6 harg6 arg7 harg7 arg8 harg8 arg9 harg9 arg10 harg10 arg11 harg11 arg12 harg12 arg13 harg13 arg14 harg14 k _ _ _ _ x1 x3 x4 x5 x6 x7 e9 e10 e11 e12 (acc.1, acc.2) hacc f y 256 le_rfl
  have hbw := fun f y => st_bwd c i arg1 harg1 arg2 harg2 arg3 harg3 arg4 harg4 arg5 harg5 arg6 harg6 arg7 harg7 arg8 harg8 arg9 harg9 arg10 harg10 arg11 harg11 arg12 harg12 arg13 harg13 arg14 harg14 k _ _ _ _ x1 x3 x4 x5 x6 x7 e9 e10 e11 e12 (acc.1, acc.2) hacc f y 256 le_rfl
  simp only [t2]
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexists _; iexact H9
  isplitl [H10]; · iexists _; iexact H10
  isplitl [H11]; · iexists _; iexact H11
  isplitl [H12]; · iexists _; iexact H12
  isplitl [H13]
  · iexists _; isplitl [H13]; · iexact H13
    ipureintro
    intro y hy
    rw [hfw]
    split
    · rfl
    · exact h13 y (by omega)
  isplitl [H14]
  · iexists _; isplitl [H14]; · iexact H14
    ipureintro
    intro y hy
    rw [hbw]
    split
    · rfl
    · exact h14 y (by omega)
  ipureintro
  rw [hst, Nat.mul_succ]

end Cert.KernelIdeal.Lru

end
-- ==== Proof.LruRun.lean ====
/- The run of the recurrence's body on one grid point: it leaves `outBlk` in the output block. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.LruBody
public import Idealize.ShloMosaic.Lib.VecWindow
public import Idealize.ShloMosaic.Lib.Pipeline.FrameBody
public import Idealize.ShloMosaic.Lib.Tactic

@[expose] public section

set_option maxRecDepth 16384

noncomputable section

namespace Cert.KernelIdeal.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg1 : Memref sig .tc .vmem S1x2304x512 .bf16) (harg1 : arg1.IsWhole)
    (arg2 : Memref sig .tc .vmem S1x2304x512 .bf16) (harg2 : arg2.IsWhole)
    (arg3 : Memref sig .tc .vmem S4x512 .f32) (harg3 : arg3.IsWhole)
    (arg4 : Memref sig .tc .vmem S1x512 .f32) (harg4 : arg4.IsWhole)
    (arg5 : Memref sig .tc .vmem S2x512x1024 .bf16) (harg5 : arg5.IsWhole)
    (arg6 : Memref sig .tc .vmem S2x1x1024 .f32) (harg6 : arg6.IsWhole)
    (arg7 : Memref sig .tc .vmem S2x1x512 .f32) (harg7 : arg7.IsWhole)
    (arg8 : Memref sig .tc .vmem S1x2304x512 .bf16) (harg8 : arg8.IsWhole)
    (arg9 : Memref sig .tc .vmem S256x512 .f32) (harg9 : arg9.IsWhole)
    (arg10 : Memref sig .tc .vmem S256x512 .f32) (harg10 : arg10.IsWhole)
    (arg11 : Memref sig .tc .vmem S256x512 .f32) (harg11 : arg11.IsWhole)
    (arg12 : Memref sig .tc .vmem S256x512 .f32) (harg12 : arg12.IsWhole)
    (arg13 : Memref sig .tc .vmem S2304x512 .f32) (harg13 : arg13.IsWhole)
    (arg14 : Memref sig .tc .vmem S2304x512 .f32) (harg14 : arg14.IsWhole)

/-- What the output holds after one more block of rows is stored: those rows, and elsewhere what it held. -/
theorem read_rows (v : View sig .tc .vmem S1x2304x512 .bf16) (f : v.ty.Contents (Elt F)) (off : Fin 3 → ℕ) (n : ℕ)
    (h : off = ![0, 256 * n, 0]) (inb) (w : Vec F S1x256x512 .bf16) (L : List (View.Piece (Elt F) S1x2304x512 .bf16)) (y : S1x2304x512.Idx) :
    v.read (Elt F) (v.writes (Elt F) f ((⟨Rect.unit (s := S1x2304x512) off ![1, 256, 512] inb, w⟩ : View.Piece (Elt F) S1x2304x512 .bf16) :: L)) y
      = if (y (1 : Fin 3)).val / 256 = n then
          w (ix3 (0 : Fin 1) (⟨(y (1 : Fin 3)).val % 256, Nat.mod_lt _ (by decide)⟩ : Fin 256) (y (2 : Fin 3)))
        else v.read (Elt F) (v.writes (Elt F) f L) y := by
  split
  · rename_i hy
    refine View.read_writes_cons_unit_of_mem v f inb w L y
      (ix3 (0 : Fin 1) (⟨(y (1 : Fin 3)).val % 256, Nat.mod_lt _ (by decide)⟩ : Fin 256) (y (2 : Fin 3))) h fun a => ?_
    match a with
    | ⟨0, _⟩ => exact Nat.lt_one_iff.1 (y (0 : Fin 3)).isLt
    | ⟨1, _⟩ => show (y (1 : Fin 3)).val = 256 * n + (y (1 : Fin 3)).val % 256; omega
    | ⟨2, _⟩ => show (y (2 : Fin 3)).val = 0 + (y (2 : Fin 3)).val; omega
  · rename_i hy
    refine View.read_writes_cons_unit_of_not_mem v f inb w L y h (1 : Fin 3) ?_
    show (y (1 : Fin 3)).val < 256 * n ∨ 256 * n + 256 ≤ (y (1 : Fin 3)).val
    omega

section Out

variable (X2 : BufTy.Contents (Elt F) arg2.view.ty) (X13 : BufTy.Contents (Elt F) arg13.view.ty) (X14 : BufTy.Contents (Elt F) arg14.view.ty)
  (x1 : Vec F S1x2304x512 .bf16) (x2 : Vec F S1x2304x512 .bf16) (x3 : Vec F S4x512 .f32) (x4 : Vec F S1x512 .f32) (x5 : Vec F S2x512x1024 .bf16) (x6 : Vec F S2x1x1024 .f32) (x7 : Vec F S2x1x512 .f32)
  (h2 : arg2.view.read (Elt F) X2 = x2) (h13 : arg13.view.read (Elt F) X13 = stF x1 x3 x4 x5 x6 x7 (F := F)) (h14 : arg14.view.read (Elt F) X14 = stB x1 x3 x4 x5 x6 x7 (F := F))

include h2 h13 h14

/-- A trip of the last loop writes its rows of the output. -/
theorem tripL3_eq (k : Fin k0_t3_loop.trips) :
    tripL_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X2 X13 X14 k
      = [⟨Rect.unit (s := S1x2304x512) (k0_off12 k) ![1, 256, 512] (k0_off12_inb k), outAt x1 x3 x4 x5 x6 x7 x2 k⟩] := by
  unfold tripL_k0_t3 trip_k0_t3
  dsimp only
  simp only [View.readAt_eq_ld, h2, h13, h14]
  rfl

/-- Before trip `n` the output holds the rows of the trips before. -/
theorem out_upto (f : BufTy.Contents (Elt F) arg8.view.ty) (y : S1x2304x512.Idx) (n : ℕ) (hn : n ≤ 9) (hy : (y (1 : Fin 3)).val < 256 * n) :
    arg8.view.read (Elt F) (arg8.view.writes (Elt F) f (pb_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X2 X13 X14 n)) y = outBlk x1 x3 x4 x5 x6 x7 x2 y := by
  induction n with
  | zero => omega
  | succ n ih =>
    rw [pb_k0_t3_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X2 X13 X14 ⟨n, by rw [trips3]; omega⟩,
      tripL3_eq c i arg1 harg1 arg2 harg2 arg3 harg3 arg4 harg4 arg5 harg5 arg6 harg6 arg7 harg7 arg8 harg8 arg9 harg9 arg10 harg10 arg11 harg11 arg12 harg12 arg13 harg13 arg14 harg14 X2 X13 X14 x1 x2 x3 x4 x5 x6 x7 h2 h13 h14, List.singleton_append]
    rw [read_rows arg8.view f _ n (k0_off12_eq _)]
    split
    · rename_i hr
      have hd : (⟨(y (1 : Fin 3)).val / 256, by rw [trips3]; omega⟩ : Fin k0_t3_loop.trips) = ⟨n, by rw [trips3]; omega⟩ :=
        Fin.ext hr
      unfold outBlk
      rw [hd]
    · exact ih (by omega) (by omega)

end Out

variable (x1 : Vec F S1x2304x512 .bf16) (x2 : Vec F S1x2304x512 .bf16) (x3 : Vec F S4x512 .f32) (x4 : Vec F S1x512 .f32) (x5 : Vec F S2x512x1024 .bf16) (x6 : Vec F S2x1x1024 .f32) (x7 : Vec F S2x1x512 .f32)

set_option maxHeartbeats 4000000 in
/-- The body, on whole staging buffers: the inputs stay, the output block ends at `outBlk`. -/
theorem kernelRun (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (outBlk x1 x3 x4 x5 x6 x7 x2) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none (c : Thread nD τ) none) E (cc0_rglru i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_rglru_eq_skeleton]; unfold cc0_rglru_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_for (inv (F := F) c arg1 harg1 arg2 harg2 arg3 harg3 arg4 harg4 arg5 harg5 arg6 harg6 arg7 harg7 arg9 arg10 arg11 arg12 arg13 arg14 x1 x2 x3 x4 x5 x6 x7) $$ [H1 H2 H3 H4 H5 H6 H7 H9 H10 H11 H12 H13 H14]
  · exact fun k acc => step c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7 E k acc
  · unfold inv
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H9]; · iexists _; iexact H9
    isplitl [H10]; · iexists _; iexact H10
    isplitl [H11]; · iexists _; iexact H11
    isplitl [H12]; · iexists _; iexact H12
    isplitl [H13]
    · iexists _; isplitl [H13]; · iexact H13
      ipureintro; intro y hy; exact absurd hy (Nat.not_lt_zero _)
    isplitl [H14]
    · iexists _; isplitl [H14]; · iexact H14
      ipureintro; intro y hy; exact absurd hy (Nat.not_lt_zero _)
    ipureintro; rfl
  · have t1 : Scf.trips k0_t1_loop.lb k0_t1_loop.ub k0_t1_loop.st = 9 := trips1
    have t3 : Scf.trips k0_t3_loop.lb k0_t3_loop.ub k0_t3_loop.st = 9 := trips3
    rw [t1]
    iintro %acc ⟨H1, H2, H3, H4, H5, H6, H7, ⟨%g9, H9⟩, ⟨%g10, H10⟩, ⟨%g11, H11⟩, ⟨%g12, H12⟩, ⟨%g13, H13, %h13⟩, ⟨%g14, H14, %h14⟩, %hacc⟩
    have r13 : arg13.view.read (Elt F) g13 = stF x1 x3 x4 x5 x6 x7 := funext fun y => h13 y (y (0 : Fin 2)).isLt
    have r14 : arg14.view.read (Elt F) g14 = stB x1 x3 x4 x5 x6 x7 := funext fun y => h14 y (by
      have hb : (y (0 : Fin 2)).val < 2304 := (y (0 : Fin 2)).isLt
      unfold posB; split <;> omega)
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro
      rw [t3]
      exact funext fun y => out_upto c i arg1 harg1 arg2 harg2 arg3 harg3 arg4 harg4 arg5 harg5 arg6 harg6 arg7 harg7 arg8 harg8 arg9 harg9 arg10 harg10 arg11 harg11 arg12 harg12 arg13 harg13 arg14 harg14 _ g13 g14 x1 x2 x3 x4 x5 x6 x7 (harg2.read_unread _) r13 r14 _ y 9 le_rfl (y (1 : Fin 3)).isLt
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    isplitl [H13]
    · iexists _; iexists _; isplitr; swap; · iexact H13
      ipureintro; rfl
    iexists _; iexists _; isplitr; swap; · iexact H14
    ipureintro; rfl

end Cert.KernelIdeal.Lru

end
-- ==== Proof.LruLaunch.lean ====
/- The launch of the recurrence: the proof data of its pipeline, the body obligation, the run, and the
   frame, for any float operations. -/
module

public import proofs.«01_k».proof.Proof.LruRun
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in the output block at point `t`. -/
def blockAfter (c : Dev nD) (t : Fin cfg0.N) : Vec F S1x2304x512 .bf16 :=
  outBlk (F := F) (X0_0 m c t) (iblk m c 2 t) (iblk m c 3 t) (iblk m c 4 t) (iblk m c 5 t) (iblk m c 6 t) (X0_1 m c t)

/-- The proof data of the pipeline: the arrays as the region finds them, each input's block in place after the
    body, the output's block at `blockAfter`. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => blockAfter m c t
    | ⟨_ + 8, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = blockAfter m c t := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The pipeline's invariant with the six scratch buffers as memrefs held at some contents. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t))

set_option maxHeartbeats 2000000 in
/-- The body at any point: the inputs' buffers hold their blocks, so the run of the body applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold blockAfter
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (kernelRun c (grid0.coords t) _ _ _ _ _ _ _ _ _ _ _ _ _ _ _ _ _ _ _ _ _ _ _ _ _ _ _ _ (X0_0 m c t) (X0_1 m c t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: it ends with the arrays at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: the argument arrays end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Lru

end
-- ==== Proof.LruArray.lean ====
/- The result array of the kernel's run, block by block, and what each input block holds of its array. -/
module

public import proofs.«01_k».proof.Proof.LruLaunch
public import proofs.«01_k».proof.Proof.LruBlock
public import Idealize.ShloMosaic.Lib.Pipeline.ValueKit.Point

@[expose] public section

set_option maxRecDepth 16384

noncomputable section

namespace Cert.KernelIdeal.Lru

open Cert.KernelIdeal Cert.KernelIdeal.Gen
open Idealize.ShloMosaic Idealize.ShloMosaic.TcCoe Idealize.ShloMosaic.Tactic

open Idealize.ShloMosaic.Pipeline (Dat)

variable (m : (ℓ : Loc nD τ sig) → Buf (Elt Ideal) ℓ) (c : Dev nD)

/-- The block indices of the windows at each grid point. -/
theorem idx0 : ∀ t : Fin cfg0.N, win0_0.index t = ![t.val, 0, 8] := (by decide +kernel : ∀ t : Fin grid0.N, _)
theorem idx1 : ∀ t : Fin cfg0.N, win0_1.index t = ![t.val, 0, 9] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![t.val, 0, 0] := (by decide +kernel : ∀ t : Fin grid0.N, _)

/-- The result array: batch `b`'s rows are what the body leaves at point `b`. -/
def result : Vec Ideal S16x2304x512 .bf16 := fun i =>
  blockAfter m c ⟨(i 0).val, (i 0).isLt⟩ (ix3 (0 : Fin 1) (⟨(i 1).val, (i 1).isLt⟩ : Fin 2304) (⟨(i 2).val, (i 2).isLt⟩ : Fin 512))

/-- After the run the output array is `result`. -/
theorem arrAt_eq : (dats m 0 c).arrAt 7 cfg0.N = result m c := by
  refine (dats m 0 c).arrAt_eq_of_covers 7 _ (by decide +kernel) fun t hf y => ?_
  blk_simp
  rw [after0_7]
  unfold result
  have e : ∀ (t' : Fin cfg0.N) (y' : S1x2304x512.Idx), t = t' → y = y' → blockAfter m c t y = blockAfter m c t' y' := by
    rintro _ _ rfl rfl; rfl
  apply e
  · apply Fin.ext
    blk_simp [idx7 t]
  · blk_ext [idx7 t]

/-- What the input blocks hold. -/
theorem at0 (t : Fin cfg0.N) (r : Fin 2304) (d : Fin 512) :
    X0_0 m c t (ix3 (0 : Fin 1) r d) = m ((c : Thread nD τ).loc main_arg0) (ix3 (⟨t.val, t.isLt⟩ : Fin 16) r (⟨4096 + d.val, by have := d.isLt; omega⟩ : Fin 10880)) := by
  unfold X0_0 Pipeline.Window.fill
  rw [dif_pos (moved0_0 t _)]
  rw [← V_main_arg0 m c]
  blk_simp [iblk]
  congr 1
  blk_ext [idx0 t]
theorem at1 (t : Fin cfg0.N) (r : Fin 2304) (d : Fin 512) :
    X0_1 m c t (ix3 (0 : Fin 1) r d) = m ((c : Thread nD τ).loc main_arg0) (ix3 (⟨t.val, t.isLt⟩ : Fin 16) r (⟨4608 + d.val, by have := d.isLt; omega⟩ : Fin 10880)) := by
  unfold X0_1 Pipeline.Window.fill
  rw [dif_pos (moved0_1 t _)]
  rw [← V_main_arg0 m c]
  blk_simp [iblk]
  congr 1
  blk_ext [idx1 t]
theorem at2 (t : Fin cfg0.N) : (iblk m c 2 t : Vec Ideal S4x512 .f32) = m ((c : Thread nD τ).loc main_arg1) := by
  rw [← V_main_arg1 m c]
  funext j
  blk_simp [iblk]
  congr 1
  blk_ext [idx2 t]
theorem at3 (t : Fin cfg0.N) : (iblk m c 3 t : Vec Ideal S1x512 .f32) = V m c main_v77 := by
  funext j
  blk_simp [iblk]
  congr 1
  blk_ext [idx3 t]
theorem at4 (t : Fin cfg0.N) : (iblk m c 4 t : Vec Ideal S2x512x1024 .bf16) = V m c main_v61 := by
  funext j
  blk_simp [iblk]
  congr 1
  blk_ext [idx4 t]
theorem at5 (t : Fin cfg0.N) : (iblk m c 5 t : Vec Ideal S2x1x1024 .f32) = V m c main_v76 := by
  funext j
  blk_simp [iblk]
  congr 1
  blk_ext [idx5 t]
theorem at6 (t : Fin cfg0.N) : (iblk m c 6 t : Vec Ideal S2x1x512 .f32) = V m c main_v78 := by
  funext j
  blk_simp [iblk]
  congr 1
  blk_ext [idx6 t]

end Cert.KernelIdeal.Lru

end
-- ==== Proof.LruHost.lean ====
/- What the host code before the kernel leaves in the arrays the kernel reads: the dense gate weights, and the biases laid out for the kernel. -/
module

public import proofs.«01_k».proof.Proof.LruLaunch
public import Idealize.ShloMosaic.Lib.Pointwise
public import Idealize.ShloMosaic.Lib.StableHlo.RunRead

@[expose] public section

set_option maxRecDepth 16384

noncomputable section

namespace Cert.KernelIdeal.Lru

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

theorem V77_at (d : Fin 512) : (V m c main_v77 : Vec Ideal S1x512 .f32) (ix2 (0 : Fin 1) d) = m ((c : Thread nD τ).loc main_arg2) (ix1 d) := by
  have e : (V m c main_v77 : Vec Ideal S1x512 .f32) = broadcastInDim S1x512 ![1] bcast_S512_S1x512_1 (m ((c : Thread nD τ).loc main_arg2) : Vec Ideal S512 .f32) := by
    show StableHlo.after hostOps0 _ _ = _
    after_reads_simp
  rw [e]
  pointwise
theorem V78_at (q : Fin 2) (d : Fin 512) : (V m c main_v78 : Vec Ideal S2x1x512 .f32) (ix3 q (0 : Fin 1) d) = m ((c : Thread nD τ).loc main_arg7) (ix2 q d) := by
  have e : (V m c main_v78 : Vec Ideal S2x1x512 .f32) = broadcastInDim S2x1x512 ![0, 2] bcast_S2x512_S2x1x512_0_2 (m ((c : Thread nD τ).loc main_arg7) : Vec Ideal S2x512 .f32) := by
    show StableHlo.after hostOps0 _ _ = _
    after_reads_simp
  rw [e]
  pointwise
/-- The gates' biases, direction by direction: the recurrence gate's, then the input gate's. -/
theorem V76_lo (q : Fin 2) (d : Fin 512) : (V m c main_v76 : Vec Ideal S2x1x1024 .f32) (ix3 q (0 : Fin 1) (⟨d.val, by have := d.isLt; omega⟩ : Fin 1024))
    = m ((c : Thread nD τ).loc main_arg4) (ix2 q d) := by
  have hd := d.isLt
  show StableHlo.after hostOps0 (fun b => m (c, b)) (Proc.devRef .tc main_v76) _ = _
  after_reads_simp
  pointwise
  after_reads_simp
  pointwise
  fin_cases q
  · rw [dif_pos (by decide)]; rfl
  · rw [dif_neg (by decide)]; rfl
theorem V76_hi (q : Fin 2) (d : Fin 512) : (V m c main_v76 : Vec Ideal S2x1x1024 .f32) (ix3 q (0 : Fin 1) (⟨512 + d.val, by have := d.isLt; omega⟩ : Fin 1024))
    = m ((c : Thread nD τ).loc main_arg6) (ix2 q d) := by
  have hd := d.isLt
  have hn : ¬ (512 + d.val < 512) := by omega
  have he : (512 + d.val) - 512 = d.val := by omega
  show StableHlo.after hostOps0 (fun b => m (c, b)) (Proc.devRef .tc main_v76) _ = _
  after_reads_simp
  pointwise
  after_reads_simp
  pointwise
  fin_cases q
  · rw [dif_pos (by decide)]; rfl
  · rw [dif_neg (by decide)]; rfl

/-- The block-diagonal flag: one where the two block numbers agree. -/
theorem flag_at (a b : ℕ) (ha : a < 8) (hb : b < 8) :
    (FloatOps.uitofp (F := Ideal) FTy.f32 (IntOp.cmpi CmpIPredicate.eq (IntOp.addi (BitVec.ofNat 32 a) 0#32) (BitVec.ofNat 32 b)) : EReal)
    = if a = b then 1 else 0 := by
  have e : IntOp.cmpi CmpIPredicate.eq (IntOp.addi (BitVec.ofNat 32 a) 0#32) (BitVec.ofNat 32 b) = BitVec.ofBool (decide (a = b)) := by
    have h : ∀ a' b' : Fin 8, IntOp.cmpi CmpIPredicate.eq (IntOp.addi (BitVec.ofNat 32 a'.val) 0#32) (BitVec.ofNat 32 b'.val) = BitVec.ofBool (decide (a'.val = b'.val)) := by
      decide +kernel
    exact h ⟨a, ha⟩ ⟨b, hb⟩
  rw [e]
  by_cases h : a = b
  · simp only [h, decide_true, if_true]
    show (((1 : ℕ) : ℝ) : EReal) = 1
    norm_num
  · simp only [h, decide_false, if_false]
    show (((0 : ℕ) : ℝ) : EReal) = 0
    norm_num

/-- The dense gate weights: block-diagonal, the recurrence gate's columns first, then the input gate's. -/
theorem V61_lo (q : Fin 2) (x d : Fin 512) : (V m c main_v61 : Vec Ideal S2x512x1024 .bf16) (ix3 q x (⟨d.val, by have := d.isLt; omega⟩ : Fin 1024))
    = (if x.val / 64 = d.val / 64 then (1 : EReal) else 0) * (m ((c : Thread nD τ).loc main_arg3) (ix4 q (⟨x.val / 64, by have := x.isLt; omega⟩ : Fin 8) (⟨x.val % 64, by omega⟩ : Fin 64) (⟨d.val % 64, by omega⟩ : Fin 64)) : EReal) := by
  have hd := d.isLt
  have hx := x.isLt
  rw [← flag_at (x.val / 64) (d.val / 64) (by omega) (by omega)]
  show StableHlo.after hostOps0 (fun b => m (c, b)) (Proc.devRef .tc main_v61) _ = _
  after_reads_simp
  pointwise
  after_reads_simp
  pointwise
  after_reads_simp
  pointwise
  fin_cases q
  · rw [dif_pos (by decide)]; rfl
  · rw [dif_neg (by decide)]; rfl
theorem V61_hi (q : Fin 2) (x d : Fin 512) : (V m c main_v61 : Vec Ideal S2x512x1024 .bf16) (ix3 q x (⟨512 + d.val, by have := d.isLt; omega⟩ : Fin 1024))
    = (if x.val / 64 = d.val / 64 then (1 : EReal) else 0) * (m ((c : Thread nD τ).loc main_arg5) (ix4 q (⟨x.val / 64, by have := x.isLt; omega⟩ : Fin 8) (⟨x.val % 64, by omega⟩ : Fin 64) (⟨d.val % 64, by omega⟩ : Fin 64)) : EReal) := by
  have hd := d.isLt
  have hx := x.isLt
  have hn : ¬ (512 + d.val < 512) := by omega
  have he : (512 + d.val) - 512 = d.val := by omega
  rw [← flag_at (x.val / 64) (d.val / 64) (by omega) (by omega)]
  show StableHlo.after hostOps0 (fun b => m (c, b)) (Proc.devRef .tc main_v61) _ = _
  after_reads_simp
  pointwise
  after_reads_simp
  pointwise
  after_reads_simp
  pointwise
  fin_cases q
  · rw [dif_pos (by decide)]; rfl
  · rw [dif_neg (by decide)]; rfl

end Cert.KernelIdeal.Lru

end
-- ==== Proof.LruMatch.lean ====
/- The kernel's and the reference's results agree. -/
module

public import proofs.«01_k».proof.Proof.LruRefValue
public import proofs.«01_k».proof.Proof.LruBlock
public import proofs.«01_k».proof.Proof.LruArray
public import proofs.«01_k».proof.Proof.LruHost

@[expose] public section

set_option maxRecDepth 16384

noncomputable section

namespace Cert.KernelIdeal.Lru

open Cert.KernelIdeal Cert.KernelIdeal.Gen
open Idealize.ShloMosaic Idealize.ShloMosaic.TcCoe Idealize.ShloMosaic.Tactic
open Cert.Lru Cert.ReferenceIdeal.Lru

/-- A sum over 512 with weights that vanish off a block of 64 is the sum over the block. -/
theorem sum_block (y g : Fin 512 → EReal) (d : Fin 512) :
    ∑ x : Fin 512, y x * ((if x.val / 64 = d.val / 64 then (1 : EReal) else 0) * g x)
      = ∑ k : Fin 64, g ⟨d.val / 64 * 64 + k.val, by omega⟩ * y ⟨d.val / 64 * 64 + k.val, by omega⟩ := by
  symm
  refine Fintype.sum_of_injective (fun k : Fin 64 => (⟨d.val / 64 * 64 + k.val, by omega⟩ : Fin 512)) ?_ _ _ ?_ ?_
  · intro a b e
    have := congrArg Fin.val e
    exact Fin.ext (by dsimp only at this; omega)
  · intro x hx
    rw [if_neg, zero_mul, mul_zero]
    intro e
    exact hx ⟨⟨x.val % 64, by omega⟩, Fin.ext (by dsimp only; omega)⟩
  · intro k
    rw [if_pos (by dsimp only; omega), one_mul, mul_comm]

variable (x1 x2 : Vec Ideal S1x2304x512 .bf16) (x3 : Vec Ideal S4x512 .f32) (x4 : Vec Ideal S1x512 .f32) (x5 : Vec Ideal S2x512x1024 .bf16) (x6 : Vec Ideal S2x1x1024 .f32) (x7 : Vec Ideal S2x1x512 .f32)
variable (z : FVec Ideal S16x2304x10880 .bf16) (w : FVec Ideal S4x512 .f32) (bi : FVec Ideal S512 .f32) (wa : FVec Ideal S2x8x64x64 .f32) (ba : FVec Ideal S2x512 .f32) (wi : FVec Ideal S2x8x64x64 .f32) (bb lam : FVec Ideal S2x512 .f32) (b : Fin 16)

/-- What the kernel's blocks are, of the arguments. -/
structure Blocks : Prop where
  h1 : ∀ (r : Fin 2304) (d : Fin 512), x1 (ix3 (0 : Fin 1) r d) = z (ix3 b r (⟨4096 + d.val, by omega⟩ : Fin 10880))
  h2 : ∀ (r : Fin 2304) (d : Fin 512), x2 (ix3 (0 : Fin 1) r d) = z (ix3 b r (⟨4608 + d.val, by omega⟩ : Fin 10880))
  h3 : x3 = w
  h4 : ∀ d : Fin 512, x4 (ix2 (0 : Fin 1) d) = bi (ix1 d)
  h5l : ∀ (q : Fin 2) (x d : Fin 512), x5 (ix3 q x (⟨d.val, by omega⟩ : Fin 1024)) = (if x.val / 64 = d.val / 64 then (1 : EReal) else 0) * wa (ix4 q (⟨x.val / 64, by omega⟩ : Fin 8) (⟨x.val % 64, by omega⟩ : Fin 64) (⟨d.val % 64, by omega⟩ : Fin 64))
  h5h : ∀ (q : Fin 2) (x d : Fin 512), x5 (ix3 q x (⟨512 + d.val, by omega⟩ : Fin 1024)) = (if x.val / 64 = d.val / 64 then (1 : EReal) else 0) * wi (ix4 q (⟨x.val / 64, by omega⟩ : Fin 8) (⟨x.val % 64, by omega⟩ : Fin 64) (⟨d.val % 64, by omega⟩ : Fin 64))
  h6l : ∀ (q : Fin 2) (d : Fin 512), x6 (ix3 q (0 : Fin 1) (⟨d.val, by omega⟩ : Fin 1024)) = ba (ix2 q d)
  h6h : ∀ (q : Fin 2) (d : Fin 512), x6 (ix3 q (0 : Fin 1) (⟨512 + d.val, by omega⟩ : Fin 1024)) = bb (ix2 q d)
  h7 : ∀ (q : Fin 2) (d : Fin 512), x7 (ix3 q (0 : Fin 1) d) = lam (ix2 q d)

variable {x1 x2 x3 x4 x5 x6 x7 z w bi wa ba wi bb lam b}
variable (H : Blocks x1 x2 x3 x4 x5 x6 x7 z w bi wa ba wi bb lam b)
include H

theorem cvB_eq (r : ℕ) (d : Fin 512) : cvB x1 x3 x4 r d = cvR z w bi b r d := by
  unfold cvB cvR
  rw [H.h3, H.h4]
  have e : col x1 d = zcol z b d := by
    funext p
    exact H.h1 _ d
  rw [e]

theorem weight_eq (g : FVec Ideal S2x8x64x64 .f32) (q : Fin 2) (d : Fin 512) (k : Fin 64) (X : ℕ) (hX : X = d.val / 64 * 64 + k.val) (h8 : X / 64 < 8) :
    g (ix4 q (⟨X / 64, h8⟩ : Fin 8) (⟨X % 64, by omega⟩ : Fin 64) (⟨d.val % 64, by omega⟩ : Fin 64))
      = g (ix4 q (⟨d.val / 64, by omega⟩ : Fin 8) k (⟨d.val % 64, by omega⟩ : Fin 64)) := by
  have e1 : (⟨X / 64, h8⟩ : Fin 8) = ⟨d.val / 64, by omega⟩ := Fin.ext (by dsimp only; omega)
  have e2 : (⟨X % 64, by omega⟩ : Fin 64) = k := Fin.ext (by dsimp only; omega)
  rw [e1, e2]

theorem lin_lo (q : Fin 2) (d : Fin 512) (r : ℕ) : linB x1 x3 x4 x5 x6 q r (⟨d.val, by omega⟩ : Fin 1024) = linR z w bi wa ba q b d r := by
  unfold linB linR
  refine congrArg₂ (· + ·) (Eq.trans (Finset.sum_congr rfl fun x _ => congrArg₂ (· * ·) (cvB_eq H r x) (H.h5l q x d)) ?_) (H.h6l q d)
  refine (sum_block (fun x => cvR z w bi b r x) _ d).trans (Finset.sum_congr rfl fun k _ => congrArg₂ (· * ·) (weight_eq H wa q d k _ rfl _) rfl)

theorem lin_hi (q : Fin 2) (d : Fin 512) (r : ℕ) : linB x1 x3 x4 x5 x6 q r (⟨512 + d.val, by omega⟩ : Fin 1024) = linR z w bi wi bb q b d r := by
  unfold linB linR
  refine congrArg₂ (· + ·) (Eq.trans (Finset.sum_congr rfl fun x _ => congrArg₂ (· * ·) (cvB_eq H r x) (H.h5h q x d)) ?_) (H.h6h q d)
  refine (sum_block (fun x => cvR z w bi b r x) _ d).trans (Finset.sum_congr rfl fun k _ => congrArg₂ (· * ·) (weight_eq H wi q d k _ rfl _) rfl)

theorem aBl_eq (q : Fin 2) (d : Fin 512) : aBl x1 x3 x4 x5 x6 x7 q d = aR z w bi wa ba lam q b d := by
  funext r
  unfold aBl aR
  rw [lin_lo H, H.h7]

theorem uBl_eq (q : Fin 2) (d : Fin 512) : uBl x1 x3 x4 x5 x6 x7 q d = uR z w bi wa ba wi bb lam q b d := by
  funext r
  unfold uBl uR
  rw [aBl_eq H, lin_hi H, cvB_eq H]

/-- The block the kernel leaves is the reference's result. -/
theorem block_eq (r : Fin 2304) (d : Fin 512) : outBlk (F := Ideal) x1 x3 x4 x5 x6 x7 x2 (ix3 (0 : Fin 1) r d) = outR z w bi wa ba wi bb lam b r d := by
  rw [outBlk_at, aBl_eq H, uBl_eq H, aBl_eq H, uBl_eq H, H.h2]
  rfl

omit H

/-- The kernel's result array, of the arguments. -/
theorem result_eq (m : (ℓ : Loc nD τ sig) → ℓ.ty.Contents (Elt Ideal)) (c : Dev nD) (b : Fin 16) (r : Fin 2304) (d : Fin 512) :
    ((dats m 0 c).arrAt 7 cfg0.N : Vec Ideal S16x2304x512 .bf16) (ix3 b r d)
      = outR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b r d := by
  rw [arrAt_eq]
  show blockAfter m c ⟨b.val, b.isLt⟩ (ix3 (0 : Fin 1) r d) = _
  unfold blockAfter
  refine block_eq ⟨fun r d => at0 m c _ r d, fun r d => at1 m c _ r d, at2 m c _, fun d => ?_, fun q x d => ?_, fun q x d => ?_, fun q d => ?_, fun q d => ?_, fun q d => ?_⟩ r d
  · rw [at3]; exact V77_at m c d
  · rw [at4]; exact V61_lo m c q x d
  · rw [at4]; exact V61_hi m c q x d
  · rw [at5]; exact V76_lo m c q d
  · rw [at5]; exact V76_hi m c q d
  · rw [at6]; exact V78_at m c q d

end Cert.KernelIdeal.Lru

end
-- ==== Proof.LruRefFrame.lean ====
/- The reference's recurrence leaves its arguments as they were. -/
module

public import proofs.«01_k».proof.Proof.LruRefValue

@[expose] public section

set_option maxRecDepth 16384

noncomputable section

namespace Cert.ReferenceIdeal.Lru

open Cert.ReferenceIdeal Cert.ReferenceIdeal.Gen Cert.ReferenceIdeal.Value
open Idealize.ShloMosaic Idealize.ShloMosaic.TcCoe Idealize.ShloMosaic.Tactic Idealize.ShloMosaic.StableHlo
open Cert.Lru

variable (m : (ℓ : Loc nD τ sig) → ℓ.ty.Contents (Elt Ideal)) (ρ : Dev nD → PrngReg) (c : Dev nD)

/-- A buffer that no operation of the loop writes is as at the loop's entry. -/
theorem atK_keep (b : Ref sig .tc) (h : ∀ X : Valuation τ sig (Elt Ideal), afterL bodyI (after condOps X) (Proc.devRef .tc b) = X (Proc.devRef .tc b)) (k : ℕ) :
    atK m k c (Proc.devRef .tc b) = entryContents preI m c (Proc.devRef .tc b) := by
  induction k with
  | zero => rfl
  | succ k ih => exact (h (atK m k c)).trans ih

theorem pre0 (W : Valuation τ sig (Elt Ideal)) : tail (after hostOps0_1 (after hostOps0 W)) (Proc.devRef .tc main_arg0) = W (Proc.devRef .tc main_arg0) := by
  unfold tail
  after_reads_simp
theorem loop0 (X : Valuation τ sig (Elt Ideal)) : afterL bodyI (after condOps X) (Proc.devRef .tc main_arg0) = X (Proc.devRef .tc main_arg0) := by
  simp only [afterL_cons, afterL_nil]
  after_reads_simp
theorem post0 (X : Valuation τ sig (Elt Ideal)) : post (after condOps X) (Proc.devRef .tc main_arg0) = X (Proc.devRef .tc main_arg0) := by
  unfold post
  after_reads_simp
theorem arg0 : finalContents condOps preI bodyI postI 2304 m c (Proc.devRef .tc main_arg0) = m ((c.tc : Thread nD τ).loc main_arg0) :=
  (post0 (atK m 2304 c)).trans ((atK_keep m c main_arg0 loop0 2304).trans (pre0 (launchContents m c)))

theorem pre1 (W : Valuation τ sig (Elt Ideal)) : tail (after hostOps0_1 (after hostOps0 W)) (Proc.devRef .tc main_arg1) = W (Proc.devRef .tc main_arg1) := by
  unfold tail
  after_reads_simp
theorem loop1 (X : Valuation τ sig (Elt Ideal)) : afterL bodyI (after condOps X) (Proc.devRef .tc main_arg1) = X (Proc.devRef .tc main_arg1) := by
  simp only [afterL_cons, afterL_nil]
  after_reads_simp
theorem post1 (X : Valuation τ sig (Elt Ideal)) : post (after condOps X) (Proc.devRef .tc main_arg1) = X (Proc.devRef .tc main_arg1) := by
  unfold post
  after_reads_simp
theorem arg1 : finalContents condOps preI bodyI postI 2304 m c (Proc.devRef .tc main_arg1) = m ((c.tc : Thread nD τ).loc main_arg1) :=
  (post1 (atK m 2304 c)).trans ((atK_keep m c main_arg1 loop1 2304).trans (pre1 (launchContents m c)))

theorem pre2 (W : Valuation τ sig (Elt Ideal)) : tail (after hostOps0_1 (after hostOps0 W)) (Proc.devRef .tc main_arg2) = W (Proc.devRef .tc main_arg2) := by
  unfold tail
  after_reads_simp
theorem loop2 (X : Valuation τ sig (Elt Ideal)) : afterL bodyI (after condOps X) (Proc.devRef .tc main_arg2) = X (Proc.devRef .tc main_arg2) := by
  simp only [afterL_cons, afterL_nil]
  after_reads_simp
theorem post2 (X : Valuation τ sig (Elt Ideal)) : post (after condOps X) (Proc.devRef .tc main_arg2) = X (Proc.devRef .tc main_arg2) := by
  unfold post
  after_reads_simp
theorem arg2 : finalContents condOps preI bodyI postI 2304 m c (Proc.devRef .tc main_arg2) = m ((c.tc : Thread nD τ).loc main_arg2) :=
  (post2 (atK m 2304 c)).trans ((atK_keep m c main_arg2 loop2 2304).trans (pre2 (launchContents m c)))

theorem pre3 (W : Valuation τ sig (Elt Ideal)) : tail (after hostOps0_1 (after hostOps0 W)) (Proc.devRef .tc main_arg3) = W (Proc.devRef .tc main_arg3) := by
  unfold tail
  after_reads_simp
theorem loop3 (X : Valuation τ sig (Elt Ideal)) : afterL bodyI (after condOps X) (Proc.devRef .tc main_arg3) = X (Proc.devRef .tc main_arg3) := by
  simp only [afterL_cons, afterL_nil]
  after_reads_simp
theorem post3 (X : Valuation τ sig (Elt Ideal)) : post (after condOps X) (Proc.devRef .tc main_arg3) = X (Proc.devRef .tc main_arg3) := by
  unfold post
  after_reads_simp
theorem arg3 : finalContents condOps preI bodyI postI 2304 m c (Proc.devRef .tc main_arg3) = m ((c.tc : Thread nD τ).loc main_arg3) :=
  (post3 (atK m 2304 c)).trans ((atK_keep m c main_arg3 loop3 2304).trans (pre3 (launchContents m c)))

theorem pre4 (W : Valuation τ sig (Elt Ideal)) : tail (after hostOps0_1 (after hostOps0 W)) (Proc.devRef .tc main_arg4) = W (Proc.devRef .tc main_arg4) := by
  unfold tail
  after_reads_simp
theorem loop4 (X : Valuation τ sig (Elt Ideal)) : afterL bodyI (after condOps X) (Proc.devRef .tc main_arg4) = X (Proc.devRef .tc main_arg4) := by
  simp only [afterL_cons, afterL_nil]
  after_reads_simp
theorem post4 (X : Valuation τ sig (Elt Ideal)) : post (after condOps X) (Proc.devRef .tc main_arg4) = X (Proc.devRef .tc main_arg4) := by
  unfold post
  after_reads_simp
theorem arg4 : finalContents condOps preI bodyI postI 2304 m c (Proc.devRef .tc main_arg4) = m ((c.tc : Thread nD τ).loc main_arg4) :=
  (post4 (atK m 2304 c)).trans ((atK_keep m c main_arg4 loop4 2304).trans (pre4 (launchContents m c)))

theorem pre5 (W : Valuation τ sig (Elt Ideal)) : tail (after hostOps0_1 (after hostOps0 W)) (Proc.devRef .tc main_arg5) = W (Proc.devRef .tc main_arg5) := by
  unfold tail
  after_reads_simp
theorem loop5 (X : Valuation τ sig (Elt Ideal)) : afterL bodyI (after condOps X) (Proc.devRef .tc main_arg5) = X (Proc.devRef .tc main_arg5) := by
  simp only [afterL_cons, afterL_nil]
  after_reads_simp
theorem post5 (X : Valuation τ sig (Elt Ideal)) : post (after condOps X) (Proc.devRef .tc main_arg5) = X (Proc.devRef .tc main_arg5) := by
  unfold post
  after_reads_simp
theorem arg5 : finalContents condOps preI bodyI postI 2304 m c (Proc.devRef .tc main_arg5) = m ((c.tc : Thread nD τ).loc main_arg5) :=
  (post5 (atK m 2304 c)).trans ((atK_keep m c main_arg5 loop5 2304).trans (pre5 (launchContents m c)))

theorem pre6 (W : Valuation τ sig (Elt Ideal)) : tail (after hostOps0_1 (after hostOps0 W)) (Proc.devRef .tc main_arg6) = W (Proc.devRef .tc main_arg6) := by
  unfold tail
  after_reads_simp
theorem loop6 (X : Valuation τ sig (Elt Ideal)) : afterL bodyI (after condOps X) (Proc.devRef .tc main_arg6) = X (Proc.devRef .tc main_arg6) := by
  simp only [afterL_cons, afterL_nil]
  after_reads_simp
theorem post6 (X : Valuation τ sig (Elt Ideal)) : post (after condOps X) (Proc.devRef .tc main_arg6) = X (Proc.devRef .tc main_arg6) := by
  unfold post
  after_reads_simp
theorem arg6 : finalContents condOps preI bodyI postI 2304 m c (Proc.devRef .tc main_arg6) = m ((c.tc : Thread nD τ).loc main_arg6) :=
  (post6 (atK m 2304 c)).trans ((atK_keep m c main_arg6 loop6 2304).trans (pre6 (launchContents m c)))

theorem pre7 (W : Valuation τ sig (Elt Ideal)) : tail (after hostOps0_1 (after hostOps0 W)) (Proc.devRef .tc main_arg7) = W (Proc.devRef .tc main_arg7) := by
  unfold tail
  after_reads_simp
theorem loop7 (X : Valuation τ sig (Elt Ideal)) : afterL bodyI (after condOps X) (Proc.devRef .tc main_arg7) = X (Proc.devRef .tc main_arg7) := by
  simp only [afterL_cons, afterL_nil]
  after_reads_simp
theorem post7 (X : Valuation τ sig (Elt Ideal)) : post (after condOps X) (Proc.devRef .tc main_arg7) = X (Proc.devRef .tc main_arg7) := by
  unfold post
  after_reads_simp
theorem arg7 : finalContents condOps preI bodyI postI 2304 m c (Proc.devRef .tc main_arg7) = m ((c.tc : Thread nD τ).loc main_arg7) :=
  (post7 (atK m 2304 c)).trans ((atK_keep m c main_arg7 loop7 2304).trans (pre7 (launchContents m c)))

/-- The run: the result at the fold, the arguments as they were. -/
theorem run_args : θ_run (defs (F := Ideal)) (onTc (τ := τ) (main (F := Ideal))) ⟨m, fun _ => 0, ρ⟩ (fun r => ∀ c : Dev nD,
    r.2.mem ((c.tc : Thread nD τ).loc main_v165) = finalContents condOps preI bodyI postI 2304 m c (Proc.devRef .tc main_v165) ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) :=
  (θ_run _ _ _).mono (fun _ h c => ⟨h c main_v165 rfl, (h c main_arg0 rfl).trans (arg0 m c), (h c main_arg1 rfl).trans (arg1 m c), (h c main_arg2 rfl).trans (arg2 m c), (h c main_arg3 rfl).trans (arg3 m c), (h c main_arg4 rfl).trans (arg4 m c), (h c main_arg5 rfl).trans (arg5 m c), (h c main_arg6 rfl).trans (arg6 m c), (h c main_arg7 rfl).trans (arg7 m c)⟩) (run_fold m ρ)

end Cert.ReferenceIdeal.Lru

end
-- ==== Proof.LruClaim.lean ====
/- The recurrence's claim: the kernel's and the reference's results are equal. -/
module

public import proofs.«01_k».proof.Defs
public import proofs.«01_k».proof.Proof.Gen.Kernel
public import proofs.«01_k».proof.Proof.LruMatch
public import proofs.«01_k».proof.Proof.LruRefFrame
public import proofs.«01_k».proof.Proof.LruLaunch

@[expose] public section

set_option maxRecDepth 16384

noncomputable section

namespace Cert.Proof

open Idealize.ShloMosaic Idealize.SL.Sem

attribute [local instance] Cert.Kernel.Gen.facts Cert.KernelIdeal.Gen.facts Cert.ReferenceIdeal.Gen.facts

/-- Two arrays of the result's shape that agree at every batch, row and column are equal. -/
theorem ext3 {n0 n1 n2 : ℕ} {α : Type} (x y : (⟨3, ![n0, n1, n2]⟩ : Shape).Idx → α) (h : ∀ (a : Fin n0) (b : Fin n1) (d : Fin n2), x (ix3 a b d) = y (ix3 a b d)) : x = y := by
  funext i
  have e : i = ix3 (i 0) (i 1) (i 2) := by
    funext a
    fin_cases a <;> rfl
  rw [e]
  exact h _ _ _

theorem lru_algebraic : Cert.algebraic_KernelIdeal_ReferenceIdeal := by
  intro m g m' g' _ hA
  refine ⟨fun c => (Cert.KernelIdeal.Lru.dats m 0 c).arrAt 7 Cert.KernelIdeal.cfg0.N, ?_, ?_⟩
  · exact (θ_run _ _ _).mono (fun r h c => ⟨(h.1 c).1 7, h.2 c⟩) (θ_run_and (Cert.KernelIdeal.Lru.run_main m g) (Cert.KernelIdeal.Lru.unchanged m g))
  · refine (θ_run _ _ _).mono (fun r h c => ⟨(h c).1.trans ?_, (h c).2⟩) (Cert.ReferenceIdeal.Lru.run_args m' g')
    refine ext3 _ _ fun b r d => ?_
    refine (Cert.ReferenceIdeal.Lru.result_at m' c b r d).trans (Eq.trans ?_ (Cert.KernelIdeal.Lru.result_eq m c b r d).symm)
    obtain ⟨h0, h1, h2, h3, h4, h5, h6, h7⟩ := hA c
    show Cert.ReferenceIdeal.Lru.outR (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) b r d = _
    rw [h0, h1, h2, h3, h4, h5, h6, h7]

/-- The frames of the recurrence's kernel and reference. -/
theorem lru_frame_ideal : Cert.quiescent_KernelIdeal := fun m ρ _ => Cert.KernelIdeal.Lru.frame (F := Ideal) m ρ
theorem lru_frame_reference : Cert.quiescent_ReferenceIdeal := fun m ρ _ =>
  (θ_run _ _ _).mono (fun r h => ⟨fun c => (h c).2, Idealize.ShloMosaic.sem_eq_zero_of_no_sems (by decide) r.2⟩) (Cert.ReferenceIdeal.Lru.run_args m ρ)

end Cert.Proof

end
-- ==== Proof.LruFrame.lean ====
/- The recurrence's claim: the kernel's and the reference's results are equal. -/
module
public import proofs.«01_k».proof.Proof.LruClaim

/-!
# The kernels' frames at the machine's floats

A program and its idealised form are the same text, so their mains and their body tables are
equal at the machine's floats; the frame proved for the idealised form, generic in the floats,
is then the frame of the program.
-/

@[expose] public section

namespace Cert.Proof

open Idealize.ShloMosaic Idealize.SL.Sem

attribute [local instance] Cert.Kernel.Gen.facts Cert.KernelIdeal.Gen.facts

set_option maxHeartbeats 4000000
set_option maxRecDepth 20000

/-- The recurrence's body table is its idealised form's. -/
theorem lru_bodies : Cert.Kernel.defs₀ (F := Bits) = Cert.KernelIdeal.defs₀ (F := Bits) := by
  unfold Cert.Kernel.defs₀ Cert.KernelIdeal.defs₀
  refine congrArg (Defs.onTc (τ := Cert.Kernel.τ) (sig := Cert.Kernel.sig) (Val := Elt Bits) (nD := Cert.Kernel.nD) (Λ := Cert.Kernel.Λ₀)) ?_
  funext l a
  match l, a with
  | ⟨0, _⟩, (t, s) => rfl
  | ⟨n + 1, h⟩, _ => exact absurd h (Nat.not_lt.2 (Nat.le_add_left _ _))

/-- The recurrence's label table is its idealised form's. -/
theorem lru_defs : Cert.Kernel.defs (F := Bits) = Cert.KernelIdeal.defs (F := Bits) :=
  congrArg (Pipeline.defs (Cert.Kernel.pcfgs (F := Bits))) lru_bodies

/-- The recurrence's main is its idealised form's. -/
theorem lru_main : Cert.Kernel.main (F := Bits) = Cert.KernelIdeal.main (F := Bits) := rfl

/-- The recurrence's kernel runs to its end from any arguments, leaving them as they were and
    every semaphore at zero. -/
theorem lru_frame_kernel : Cert.quiescent_Kernel := by
  intro m ρ _
  rw [lru_defs, lru_main]
  exact Cert.KernelIdeal.Lru.frame (F := Bits) m ρ

end Cert.Proof

end
-- ==== Proof.ConvFFNFrame.lean ====
/- The frames of the ConvFFN's kernel and reference. -/
module
public import proofs.«01_k».proof.Defs
public import proofs.«01_k».proof.Proof.Gen.Kernel2
public import proofs.«01_k».proof.Proof.Gen.Kernel2Ideal.Frame
public import proofs.«01_k».proof.Proof.Gen.Reference2Ideal.Run

/-!
# The frames of the ConvFFN

A program and its idealised form are the same text, so their mains and their body tables are
equal at the machine's floats; the frame of the idealised form, generic in the floats, is then
the frame of the program.
-/

@[expose] public section

namespace Cert.Proof

open Idealize.ShloMosaic Idealize.SL.Sem

attribute [local instance] Cert.Kernel2.Gen.facts Cert.Kernel2Ideal.Gen.facts Cert.Reference2Ideal.Gen.facts

set_option maxHeartbeats 4000000
set_option maxRecDepth 20000

/-- The ConvFFN's body table is its idealised form's. -/
theorem ffn_bodies : Cert.Kernel2.defs₀ (F := Bits) = Cert.Kernel2Ideal.defs₀ (F := Bits) := by
  unfold Cert.Kernel2.defs₀ Cert.Kernel2Ideal.defs₀
  refine congrArg (Defs.onTc (τ := Cert.Kernel2.τ) (sig := Cert.Kernel2.sig) (Val := Elt Bits) (nD := Cert.Kernel2.nD) (Λ := Cert.Kernel2.Λ₀)) ?_
  funext l a
  match l, a with
  | ⟨0, _⟩, (t, s) => rfl
  | ⟨n + 1, h⟩, _ => exact absurd h (Nat.not_lt.2 (Nat.le_add_left _ _))

/-- Its label table is its idealised form's. -/
theorem ffn_defs : Cert.Kernel2.defs (F := Bits) = Cert.Kernel2Ideal.defs (F := Bits) :=
  congrArg (Pipeline.defs (Cert.Kernel2.pcfgs (F := Bits))) ffn_bodies

/-- Its main is its idealised form's. -/
theorem ffn_main : Cert.Kernel2.main (F := Bits) = Cert.Kernel2Ideal.main (F := Bits) := rfl

/-- The kernel runs to its end from any arguments, leaving them as they were and every
    semaphore at zero. -/
theorem ffn_frame_kernel : Cert.quiescent_Kernel2 := by
  intro m ρ _
  rw [ffn_defs, ffn_main]
  exact Cert.Kernel2Ideal.Gen.frame (F := Bits) m ρ

/-- The same of the idealised form at the extended reals. -/
theorem ffn_frame_ideal : Cert.quiescent_Kernel2Ideal := fun m ρ _ => Cert.Kernel2Ideal.Gen.frame (F := Ideal) m ρ

/-- The same of the reference. -/
theorem ffn_frame_reference : Cert.quiescent_Reference2Ideal := fun m ρ _ =>
  (θ_run _ _ _).mono (fun r h => ⟨fun c => (h c).2, Idealize.ShloMosaic.sem_eq_zero_of_no_sems (by decide) r.2⟩) (Cert.Reference2Ideal.Value.run m ρ)

end Cert.Proof

end
-- ==== Proof.InProjFrame.lean ====
/- The frames of the in-projection's kernel and reference. -/
module
public import proofs.«01_k».proof.Defs
public import proofs.«01_k».proof.Proof.Gen.Kernel3
public import proofs.«01_k».proof.Proof.Gen.Kernel3Ideal.Frame
public import proofs.«01_k».proof.Proof.Gen.Reference3Ideal.Run

/-!
# The frames of the in-projection

A program and its idealised form are the same text, so their mains and their body tables are
equal at the machine's floats; the frame of the idealised form, generic in the floats, is then
the frame of the program.
-/

@[expose] public section

namespace Cert.Proof

open Idealize.ShloMosaic Idealize.SL.Sem

attribute [local instance] Cert.Kernel3.Gen.facts Cert.Kernel3Ideal.Gen.facts Cert.Reference3Ideal.Gen.facts

set_option maxHeartbeats 4000000
set_option maxRecDepth 20000

/-- The in-projection's body table is its idealised form's. -/
theorem inproj_bodies : Cert.Kernel3.defs₀ (F := Bits) = Cert.Kernel3Ideal.defs₀ (F := Bits) := by
  unfold Cert.Kernel3.defs₀ Cert.Kernel3Ideal.defs₀
  refine congrArg (Defs.onTc (τ := Cert.Kernel3.τ) (sig := Cert.Kernel3.sig) (Val := Elt Bits) (nD := Cert.Kernel3.nD) (Λ := Cert.Kernel3.Λ₀)) ?_
  funext l a
  match l, a with
  | ⟨0, _⟩, (t, s) => rfl
  | ⟨n + 1, h⟩, _ => exact absurd h (Nat.not_lt.2 (Nat.le_add_left _ _))

/-- Its label table is its idealised form's. -/
theorem inproj_defs : Cert.Kernel3.defs (F := Bits) = Cert.Kernel3Ideal.defs (F := Bits) :=
  congrArg (Pipeline.defs (Cert.Kernel3.pcfgs (F := Bits))) inproj_bodies

/-- Its main is its idealised form's. -/
theorem inproj_main : Cert.Kernel3.main (F := Bits) = Cert.Kernel3Ideal.main (F := Bits) := rfl

/-- The kernel runs to its end from any arguments, leaving them as they were and every
    semaphore at zero. -/
theorem inproj_frame_kernel : Cert.quiescent_Kernel3 := by
  intro m ρ _
  rw [inproj_defs, inproj_main]
  exact Cert.Kernel3Ideal.Gen.frame (F := Bits) m ρ

/-- The same of the idealised form at the extended reals. -/
theorem inproj_frame_ideal : Cert.quiescent_Kernel3Ideal := fun m ρ _ => Cert.Kernel3Ideal.Gen.frame (F := Ideal) m ρ

/-- The same of the reference. -/
theorem inproj_frame_reference : Cert.quiescent_Reference3Ideal := fun m ρ _ =>
  (θ_run _ _ _).mono (fun r h => ⟨fun c => (h c).2, Idealize.ShloMosaic.sem_eq_zero_of_no_sems (by decide) r.2⟩) (Cert.Reference3Ideal.Value.run m ρ)

end Cert.Proof

end
-- ==== Proof.MergeFrame.lean ====
/- The frames of the merge's kernel and reference. -/
module
public import proofs.«01_k».proof.Defs
public import proofs.«01_k».proof.Proof.Gen.Kernel4
public import proofs.«01_k».proof.Proof.Gen.Kernel4Ideal.Frame
public import proofs.«01_k».proof.Proof.Gen.Reference4Ideal.Run

/-!
# The frames of the merge

A program and its idealised form are the same text, so their mains and their body tables are
equal at the machine's floats; the frame of the idealised form, generic in the floats, is then
the frame of the program.
-/

@[expose] public section

namespace Cert.Proof

open Idealize.ShloMosaic Idealize.SL.Sem

attribute [local instance] Cert.Kernel4.Gen.facts Cert.Kernel4Ideal.Gen.facts Cert.Reference4Ideal.Gen.facts

set_option maxHeartbeats 4000000
set_option maxRecDepth 20000

/-- The merge's body table is its idealised form's. -/
theorem merge_bodies : Cert.Kernel4.defs₀ (F := Bits) = Cert.Kernel4Ideal.defs₀ (F := Bits) := by
  unfold Cert.Kernel4.defs₀ Cert.Kernel4Ideal.defs₀
  refine congrArg (Defs.onTc (τ := Cert.Kernel4.τ) (sig := Cert.Kernel4.sig) (Val := Elt Bits) (nD := Cert.Kernel4.nD) (Λ := Cert.Kernel4.Λ₀)) ?_
  funext l a
  match l, a with
  | ⟨0, _⟩, (t, s) => rfl
  | ⟨n + 1, h⟩, _ => exact absurd h (Nat.not_lt.2 (Nat.le_add_left _ _))

/-- Its label table is its idealised form's. -/
theorem merge_defs : Cert.Kernel4.defs (F := Bits) = Cert.Kernel4Ideal.defs (F := Bits) :=
  congrArg (Pipeline.defs (Cert.Kernel4.pcfgs (F := Bits))) merge_bodies

/-- Its main is its idealised form's. -/
theorem merge_main : Cert.Kernel4.main (F := Bits) = Cert.Kernel4Ideal.main (F := Bits) := rfl

/-- The kernel runs to its end from any arguments, leaving them as they were and every
    semaphore at zero. -/
theorem merge_frame_kernel : Cert.quiescent_Kernel4 := by
  intro m ρ _
  rw [merge_defs, merge_main]
  exact Cert.Kernel4Ideal.Gen.frame (F := Bits) m ρ

/-- The same of the idealised form at the extended reals. -/
theorem merge_frame_ideal : Cert.quiescent_Kernel4Ideal := fun m ρ _ => Cert.Kernel4Ideal.Gen.frame (F := Ideal) m ρ

/-- The same of the reference. -/
theorem merge_frame_reference : Cert.quiescent_Reference4Ideal := fun m ρ _ =>
  (θ_run _ _ _).mono (fun r h => ⟨fun c => (h c).2, Idealize.ShloMosaic.sem_eq_zero_of_no_sems (by decide) r.2⟩) (Cert.Reference4Ideal.Value.run m ρ)

end Cert.Proof

end
-- ==== Proof.Row.lean ====
/- The layer norm of a row, the residual around it, and the merge of the four branches, each as a function of one row. -/
module
public import Idealize.ShloMosaic.PureOps.Ideal

/-!
# Rows

What the norms, the residual and the merge do to one position's row of 1024 channels.
-/

@[expose] public section

noncomputable section

namespace Cert.Row

open Idealize.ShloMosaic

/-- The mean of a row. -/
def mean (f : Fin 1024 → EReal) : EReal := Ideal.div (∑ x, f x) (Ideal.ofBits FTy.f32 1149239296#32)

/-- The row normalised: its mean taken off, divided by the root of its variance plus a small constant. -/
def norm (f : Fin 1024 → EReal) (d : Fin 1024) : EReal :=
  (f d - mean f) * Ideal.rsqrt (Ideal.div (∑ x, (f x - mean f) * (f x - mean f)) (Ideal.ofBits FTy.f32 1149239296#32) + Ideal.ofBits FTy.f32 897988541#32)

/-- The residual: the row scaled, plus the gated update, normalised, with the norm's gain and bias. -/
def residual (h g y lg lb : Fin 1024 → EReal) (d : Fin 1024) : EReal :=
  norm (fun x => Ideal.ofBits FTy.f32 1068827891#32 * h x + g x * y x) d * lg d + lb d

/-- The row normalised, scaled and shifted. -/
def modulated (h sc sh : Fin 1024 → EReal) (d : Fin 1024) : EReal :=
  norm h d * (1 + sc d) + sh d

/-- The four branches' rows, each projected and gated, added and projected again. -/
def merged (z : Fin 4096 → EReal) (p0 p1 p2 p3 : Fin 512 → EReal) (wb : Fin 4 → Fin 512 → Fin 1024 → EReal)
    (wo : Fin 1024 → Fin 1024 → EReal) (d : Fin 1024) : EReal :=
  ∑ x : Fin 1024,
    (Ideal.logistic (z ⟨x.val, by omega⟩) * (∑ k, p0 k * wb 0 k x)
      + Ideal.logistic (z ⟨1024 + x.val, by omega⟩) * (∑ k, p1 k * wb 1 k x)
      + Ideal.logistic (z ⟨2048 + x.val, by omega⟩) * (∑ k, p2 k * wb 2 k x)
      + Ideal.logistic (z ⟨3072 + x.val, by omega⟩) * (∑ k, p3 k * wb 3 k x)) * wo x d

/-- The row at place `p` of a tile of 256 starting at `256 k` lies in the context exactly when `k = 0`. -/
theorem slt_context : ∀ (k : Fin 9) (p : Fin 256),
    IntOp.cmpi CmpIPredicate.slt (IntOp.addi (Scalar.muli (BitVec.ofNat 32 k.val) 256#32) (BitVec.ofNat 32 p.val)) 256#32
      = if k.val * 256 + p.val < 256 then 1#1 else 0#1 := by
  decide +kernel

end Cert.Row

end
-- ==== Proof.MergeBlock.lean ====
/- The merge's body: the tile it leaves, read at a row. -/
module
public import proofs.«01_k».proof.Proof.Gen.Kernel4Ideal.Value
public import proofs.«01_k».proof.Proof.Row
public import Idealize.ShloMosaic.Lib.Pointwise
public import Idealize.ShloMosaic.Lib.Pipeline.ValueKit.Point
public import Idealize.ShloMosaic.Lib.Pipeline.ValueKit.Acc
public import Idealize.ShloMosaic.Lib.Pipeline.ValueKit.Tiles

@[expose] public section

set_option maxHeartbeats 1000000

noncomputable section

namespace Cert.Kernel4Ideal.Merge

open Cert.Kernel4Ideal Cert.Kernel4Ideal.Gen
open Idealize.ShloMosaic Idealize.ShloMosaic.TcCoe

/-- The last payload is the residual of its row. -/
theorem pay1_at (v46 v62 v64 : FVec Ideal S256x1024 .f32) (v85 v89 : FVec Ideal S1x1024 .f32) (p : Fin 256) (d : Fin 1024) :
    k0_pay1 (F := Ideal) v46 v62 v64 v85 v89 (ix3 0 p d)
      = Row.residual (fun x => v64 (ix2 p x)) (fun x => v62 (ix2 p x)) (fun x => v46 (ix2 p x)) (fun x => v85 (ix2 0 x)) (fun x => v89 (ix2 0 x)) d := by
  pointwise [k0_pay1]
  rfl

/-- The gate of a row: the context's in the first tile, the latents' elsewhere. -/
theorem pay7_at (k : Fin 9) (v53 : FVec Ideal S1x1024 .f32) (v54 : FVec Ideal S1x1x1024 .f32) (p : Fin 256) (d : Fin 1024) :
    k0_pay7 (F := Ideal) (BitVec.ofNat 32 k.val) v53 v54 (ix2 p d) = if k.val * 256 + p.val < 256 then v53 (ix2 0 d) else v54 (ix3 0 0 d) := by
  pointwise [k0_pay7]
  rw [Row.slt_context]
  split_ifs <;> rfl

theorem pay8_at (v : FVec Ideal S1x256x1024 .f32) (p : Fin 256) (d : Fin 1024) :
    k0_pay8 (F := Ideal) v (ix2 p d) = v (ix3 0 p d) := by
  pointwise [k0_pay8]

/-- The payloads in between are the merge of the row. -/
theorem merged_at (z0 z1 z2 z3 : FVec Ideal S1x256x1024 .bf16) (b0 b1 b2 b3 : FVec Ideal S1x256x512 .bf16) (w0 w1 w2 w3 : FVec Ideal S1x512x1024 .bf16)
    (wo : FVec Ideal S1024x1024 .bf16) (p : Fin 256) (d : Fin 1024) :
    k0_pay6 (F := Ideal) (k0_pay2 z0 b0 w0 z1 b1 w1) (k0_pay3 z2) (k0_pay4 b2) (k0_pay5 w2) z3 b3 w3 wo (ix2 p d)
      = ∑ x : Fin 1024,
          (Ideal.logistic (z0 (ix3 0 p x)) * (∑ k, b0 (ix3 0 p k) * w0 (ix3 0 k x))
            + Ideal.logistic (z1 (ix3 0 p x)) * (∑ k, b1 (ix3 0 p k) * w1 (ix3 0 k x))
            + Ideal.logistic (z2 (ix3 0 p x)) * (∑ k, b2 (ix3 0 p k) * w2 (ix3 0 k x))
            + Ideal.logistic (z3 (ix3 0 p x)) * (∑ k, b3 (ix3 0 p k) * w3 (ix3 0 k x))) * wo (ix2 x d) := by
  pointwise [k0_pay6, k0_pay5, k0_pay4, k0_pay3, k0_pay2]

/-- What the loads of a part of the gates and of one branch's matrix read. -/
theorem ld_z (z : Vec Ideal S1x256x4096 .bf16) (o : ℕ) (h) (p : Fin 256) (x : Fin 1024) (hx : o + x.val < 4096) :
    (View.ld z (Rect.unit (s := S1x256x4096) ![0, 0, o] ![1, 256, 1024] h) : Vec Ideal S1x256x1024 .bf16) (ix3 0 p x) = z (ix3 0 p ⟨o + x.val, hx⟩) := by
  show z _ = z _
  congr 1
  blk_ext
  all_goals (rw [Rect.idx_unit_val]; simp)
theorem ld_w (w : Vec Ideal S4x512x1024 .bf16) (i : Fin 4) (h) (k : Fin 512) (x : Fin 1024) :
    (View.ld w (Rect.unit (s := S4x512x1024) ![i.val, 0, 0] ![1, 512, 1024] h) : Vec Ideal S1x512x1024 .bf16) (ix3 0 k x) = w (ix3 i k x) := by
  show w _ = w _
  congr 1
  blk_ext
  all_goals (rw [Rect.idx_unit_val]; simp)

theorem ld_w0 (w : Vec Ideal S4x512x1024 .bf16) (h) (k : Fin 512) (x : Fin 1024) :
    (View.ld w (Rect.unit (s := S4x512x1024) ![0, 0, 0] ![1, 512, 1024] h) : Vec Ideal S1x512x1024 .bf16) (ix3 0 k x) = w (ix3 0 k x) := ld_w w 0 h k x
theorem ld_w1 (w : Vec Ideal S4x512x1024 .bf16) (h) (k : Fin 512) (x : Fin 1024) :
    (View.ld w (Rect.unit (s := S4x512x1024) ![1, 0, 0] ![1, 512, 1024] h) : Vec Ideal S1x512x1024 .bf16) (ix3 0 k x) = w (ix3 1 k x) := ld_w w 1 h k x
theorem ld_w2 (w : Vec Ideal S4x512x1024 .bf16) (h) (k : Fin 512) (x : Fin 1024) :
    (View.ld w (Rect.unit (s := S4x512x1024) ![2, 0, 0] ![1, 512, 1024] h) : Vec Ideal S1x512x1024 .bf16) (ix3 0 k x) = w (ix3 2 k x) := ld_w w 2 h k x
theorem ld_w3 (w : Vec Ideal S4x512x1024 .bf16) (h) (k : Fin 512) (x : Fin 1024) :
    (View.ld w (Rect.unit (s := S4x512x1024) ![3, 0, 0] ![1, 512, 1024] h) : Vec Ideal S1x512x1024 .bf16) (ix3 0 k x) = w (ix3 3 k x) := ld_w w 3 h k x

variable (m : (ℓ : Loc nD τ sig) → Buf (Elt Ideal) ℓ)

/-- What the body leaves at point `t`, read at a row. -/
theorem out_at (c : Dev nD) (t : Fin cfg0.N) (k : Fin 9) (hk : k.val = (grid0.coords t 1).val) (p : Fin 256) (d : Fin 1024) :
    outsAt0 (F := Ideal) m c t (ix3 0 p d)
      = Row.residual (fun x => iblk m c 0 t (ix3 0 p x)) (fun x => if k.val * 256 + p.val < 256 then iblk m c 7 t (ix2 0 x) else iblk m c 6 t (ix3 0 0 x))
          (Row.merged (fun x => X0_5 m c t (ix3 0 p x)) (fun k => iblk m c 1 t (ix3 0 p k)) (fun k => iblk m c 2 t (ix3 0 p k)) (fun k => iblk m c 3 t (ix3 0 p k)) (fun k => iblk m c 4 t (ix3 0 p k))
            (fun i k x => iblk m c 8 t (ix3 i k x)) (fun x d => iblk m c 9 t (ix2 x d)))
          (fun x => iblk m c 10 t (ix2 0 x)) (fun x => iblk m c 11 t (ix2 0 x)) d := by
  unfold outsAt0
  frame_out
  rw [← hk]
  rw [pay1_at]
  simp only [pay7_at, pay8_at, merged_at]
  refine congrArg (fun y => Row.residual _ _ y _ _ d) (funext fun x => ?_)
  refine Finset.sum_congr rfl fun x' _ => ?_
  rw [ld_z _ 0 _ p x' (by omega), ld_z _ 1024 _ p x' (by omega), ld_z _ 2048 _ p x' (by omega), ld_z _ 3072 _ p x' (by omega)]
  simp only [Nat.zero_add]
  exact congrArg₂ (· * ·) (congrArg₂ (· + ·) (congrArg₂ (· + ·) (congrArg₂ (· + ·)
    (congrArg₂ (· * ·) rfl (Finset.sum_congr rfl fun k _ => congrArg₂ (· * ·) rfl (ld_w0 _ _ k x')))
    (congrArg₂ (· * ·) rfl (Finset.sum_congr rfl fun k _ => congrArg₂ (· * ·) rfl (ld_w1 _ _ k x'))))
    (congrArg₂ (· * ·) rfl (Finset.sum_congr rfl fun k _ => congrArg₂ (· * ·) rfl (ld_w2 _ _ k x'))))
    (congrArg₂ (· * ·) rfl (Finset.sum_congr rfl fun k _ => congrArg₂ (· * ·) rfl (ld_w3 _ _ k x')))) rfl
end Cert.Kernel4Ideal.Merge

end
-- ==== Proof.MergeArray.lean ====
/- The merge's result array, read at a position, and what its input blocks hold. -/
module
public import proofs.«01_k».proof.Proof.MergeBlock
public import Idealize.ShloMosaic.Lib.StableHlo.RunRead

@[expose] public section

set_option maxHeartbeats 1000000
set_option maxRecDepth 16384

noncomputable section

namespace Cert.Kernel4Ideal.Merge

open Cert.Kernel4Ideal Cert.Kernel4Ideal.Gen
open Idealize.ShloMosaic Idealize.ShloMosaic.TcCoe Idealize.ShloMosaic.Tactic

variable (m : (ℓ : Loc nD τ sig) → Buf (Elt Ideal) ℓ) (c : Dev nD)

/-- The block indices of the windows at each grid point: point `9 b + k` is tile `k` of batch `b`. -/
theorem idx0 : ∀ t : Fin cfg0.N, win0_0.index t = ![t.val / 9, t.val % 9, 0] := (by decide +kernel : ∀ t : Fin grid0.N, _)
theorem idx1 : ∀ t : Fin cfg0.N, win0_1.index t = ![t.val / 9, t.val % 9, 0] := (by decide +kernel : ∀ t : Fin grid0.N, _)
theorem idx2 : ∀ t : Fin cfg0.N, win0_2.index t = ![t.val / 9, t.val % 9, 0] := (by decide +kernel : ∀ t : Fin grid0.N, _)
theorem idx3 : ∀ t : Fin cfg0.N, win0_3.index t = ![t.val / 9, t.val % 9, 0] := (by decide +kernel : ∀ t : Fin grid0.N, _)
theorem idx4 : ∀ t : Fin cfg0.N, win0_4.index t = ![t.val / 9, t.val % 9, 0] := (by decide +kernel : ∀ t : Fin grid0.N, _)
theorem idx5 : ∀ t : Fin cfg0.N, win0_5.index t = ![t.val / 9, t.val % 9, 0] := (by decide +kernel : ∀ t : Fin grid0.N, _)
theorem idx6 : ∀ t : Fin cfg0.N, win0_6.index t = ![t.val / 9, 0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![t.val / 9, t.val % 9, 0] := (by decide +kernel : ∀ t : Fin grid0.N, _)
theorem coord : ∀ t : Fin cfg0.N, (grid0.coords t 1).val = t.val % 9 := (by decide +kernel : ∀ t : Fin grid0.N, _)
theorem lt_N (t : Fin cfg0.N) : t.val < 144 := t.isLt

/-- The batch and the tile of a grid point. -/
def bat (t : Fin cfg0.N) : Fin 16 := ⟨t.val / 9, by have := lt_N t; omega⟩
def tile (t : Fin cfg0.N) : Fin 9 := ⟨t.val % 9, by omega⟩
/-- The position of row `p` of tile `k`. -/
def pos (k : Fin 9) (p : Fin 256) : Fin 2304 := ⟨k.val * 256 + p.val, by omega⟩

/-- The prepared arrays are the arguments: the matrices with their casts, the norm's gain and bias as one row. -/
theorem V_v0 (i : Fin 4) (k : Fin 512) (x : Fin 1024) : (V m c main_v0 : FVec Ideal S4x512x1024 .bf16) (ix3 i k x) = (m ((c : Thread nD τ).loc main_arg8) : FVec Ideal S4x512x1024 .f32) (ix3 i k x) := by
  show (StableHlo.after hostOps0 (fun b => m (c, b)) (Proc.devRef .tc main_v0) : FVec Ideal S4x512x1024 .bf16) _ = _
  after_reads_simp
  pointwise
theorem V_v1 (k : Fin 1024) (x : Fin 1024) : (V m c main_v1 : FVec Ideal S1024x1024 .bf16) (ix2 k x) = (m ((c : Thread nD τ).loc main_arg9) : FVec Ideal S1024x1024 .f32) (ix2 k x) := by
  show (StableHlo.after hostOps0 (fun b => m (c, b)) (Proc.devRef .tc main_v1) : FVec Ideal S1024x1024 .bf16) _ = _
  after_reads_simp
  pointwise
theorem V_v2 (x : Fin 1024) : (V m c main_v2 : FVec Ideal S1x1024 .f32) (ix2 0 x) = (m ((c : Thread nD τ).loc main_arg10) : FVec Ideal S1024 .f32) (ix1 x) := by
  show (StableHlo.after hostOps0 (fun b => m (c, b)) (Proc.devRef .tc main_v2) : FVec Ideal S1x1024 .f32) _ = _
  after_reads_simp
  pointwise
theorem V_v3 (x : Fin 1024) : (V m c main_v3 : FVec Ideal S1x1024 .f32) (ix2 0 x) = (m ((c : Thread nD τ).loc main_arg11) : FVec Ideal S1024 .f32) (ix1 x) := by
  show (StableHlo.after hostOps0 (fun b => m (c, b)) (Proc.devRef .tc main_v3) : FVec Ideal S1x1024 .f32) _ = _
  after_reads_simp
  pointwise

/-- What the input blocks hold at row `p`. -/
theorem at0 (t : Fin cfg0.N) (p : Fin 256) (x : Fin 1024) : iblk m c 0 t (ix3 0 p x) = m ((c : Thread nD τ).loc main_arg0) (ix3 (bat t) (pos (tile t) p) x) := by
  rw [← V_main_arg0 m c]; blk_simp [iblk]; congr 1; blk_ext [idx0 t, bat, tile, pos]
theorem at1 (t : Fin cfg0.N) (p : Fin 256) (x : Fin 512) : iblk m c 1 t (ix3 0 p x) = m ((c : Thread nD τ).loc main_arg1) (ix3 (bat t) (pos (tile t) p) x) := by
  rw [← V_main_arg1 m c]; blk_simp [iblk]; congr 1; blk_ext [idx1 t, bat, tile, pos]
theorem at2 (t : Fin cfg0.N) (p : Fin 256) (x : Fin 512) : iblk m c 2 t (ix3 0 p x) = m ((c : Thread nD τ).loc main_arg2) (ix3 (bat t) (pos (tile t) p) x) := by
  rw [← V_main_arg2 m c]; blk_simp [iblk]; congr 1; blk_ext [idx2 t, bat, tile, pos]
theorem at3 (t : Fin cfg0.N) (p : Fin 256) (x : Fin 512) : iblk m c 3 t (ix3 0 p x) = m ((c : Thread nD τ).loc main_arg3) (ix3 (bat t) (pos (tile t) p) x) := by
  rw [← V_main_arg3 m c]; blk_simp [iblk]; congr 1; blk_ext [idx3 t, bat, tile, pos]
theorem at4 (t : Fin cfg0.N) (p : Fin 256) (x : Fin 512) : iblk m c 4 t (ix3 0 p x) = m ((c : Thread nD τ).loc main_arg4) (ix3 (bat t) (pos (tile t) p) x) := by
  rw [← V_main_arg4 m c]; blk_simp [iblk]; congr 1; blk_ext [idx4 t, bat, tile, pos]
theorem at5 (t : Fin cfg0.N) (p : Fin 256) (x : Fin 4096) : X0_5 m c t (ix3 0 p x) = m ((c : Thread nD τ).loc main_arg5) (ix3 (bat t) (pos (tile t) p) (⟨x.val, by omega⟩ : Fin 10880)) := by
  unfold X0_5 Pipeline.Window.fill
  rw [dif_pos (moved0_5 t _), ← V_main_arg5 m c]; blk_simp [iblk]; congr 1; blk_ext [idx5 t, bat, tile, pos]
theorem at6 (t : Fin cfg0.N) (x : Fin 1024) : iblk m c 6 t (ix3 0 0 x) = m ((c : Thread nD τ).loc main_arg6) (ix3 (bat t) 0 x) := by
  rw [← V_main_arg6 m c]; blk_simp [iblk]; congr 1; blk_ext [idx6 t, bat, tile, pos]
theorem at7 (t : Fin cfg0.N) (x : Fin 1024) : iblk m c 7 t (ix2 0 x) = m ((c : Thread nD τ).loc main_arg7) (ix2 0 x) := by
  rw [← V_main_arg7 m c]; blk_simp [iblk]; congr 1; blk_ext [idx7 t, bat, tile, pos]
theorem at8 (t : Fin cfg0.N) (i : Fin 4) (k : Fin 512) (x : Fin 1024) : iblk m c 8 t (ix3 i k x) = m ((c : Thread nD τ).loc main_arg8) (ix3 i k x) := by
  refine Eq.trans ?_ (V_v0 m c i k x); blk_simp [iblk]; congr 1; blk_ext [idx8 t]
theorem at9 (t : Fin cfg0.N) (k : Fin 1024) (x : Fin 1024) : iblk m c 9 t (ix2 k x) = m ((c : Thread nD τ).loc main_arg9) (ix2 k x) := by
  refine Eq.trans ?_ (V_v1 m c k x); blk_simp [iblk]; congr 1; blk_ext [idx9 t]
theorem at10 (t : Fin cfg0.N) (x : Fin 1024) : iblk m c 10 t (ix2 0 x) = m ((c : Thread nD τ).loc main_arg10) (ix1 x) := by
  refine Eq.trans ?_ (V_v2 m c x); blk_simp [iblk]; congr 1; blk_ext [idx10 t]
theorem at11 (t : Fin cfg0.N) (x : Fin 1024) : iblk m c 11 t (ix2 0 x) = m ((c : Thread nD τ).loc main_arg11) (ix1 x) := by
  refine Eq.trans ?_ (V_v3 m c x); blk_simp [iblk]; congr 1; blk_ext [idx11 t]

/-- The merge at batch `b`, position `r`, from the arrays. -/
def mergeAt (h : FVec Ideal S16x2304x1024 .f32) (b0 b1 b2 b3 : FVec Ideal S16x2304x512 .bf16) (z : FVec Ideal S16x2304x10880 .bf16) (gl : FVec Ideal S16x1x1024 .f32)
    (gc : FVec Ideal S1x1024 .f32) (wb : FVec Ideal S4x512x1024 .f32) (wo : FVec Ideal S1024x1024 .f32) (lg lb : FVec Ideal S1024 .f32)
    (b : Fin 16) (r : Fin 2304) (d : Fin 1024) : EReal :=
  Row.residual (fun x => h (ix3 b r x)) (fun x => if r.val < 256 then gc (ix2 0 x) else gl (ix3 b 0 x))
    (Row.merged (fun x => z (ix3 b r ⟨x.val, by omega⟩)) (fun k => b0 (ix3 b r k)) (fun k => b1 (ix3 b r k)) (fun k => b2 (ix3 b r k)) (fun k => b3 (ix3 b r k))
      (fun i k x => wb (ix3 i k x)) (fun x d => wo (ix2 x d)))
    (fun x => lg (ix1 x)) (fun x => lb (ix1 x)) d

/-- The merge from the kernel's arguments. -/
def mergeM (b : Fin 16) (r : Fin 2304) (d : Fin 1024) : EReal :=
  mergeAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) b r d

/-- What the body leaves at a point is the merge at its batch and position. -/
theorem block_at (t : Fin cfg0.N) (p : Fin 256) (d : Fin 1024) :
    outsAt0 (F := Ideal) m c t (ix3 0 p d)
      = mergeM m c (bat t) (pos (tile t) p) d := by
  rw [out_at m c t (tile t) (coord t).symm p d]
  unfold mergeM mergeAt
  simp only [at0, at1, at2, at3, at4, at5, at6, at7, at8, at9, at10, at11]
  rfl

/-- The result array at an index. -/
def result : Vec Ideal S16x2304x1024 .f32 := fun i =>
  mergeM m c (i 0) (i 1) (i 2)

theorem ix3_eta (y : S1x256x1024.Idx) : ∃ (p : Fin 256) (d : Fin 1024), y = ix3 0 p d :=
  ⟨y 1, y 2, by funext a; match a with | 0 => exact Subsingleton.elim (α := Fin 1) _ _ | 1 => rfl | 2 => rfl⟩

/-- After the run the output array is `result`. -/
theorem arrAt_eq : (dats m 0 c).arrAt 12 cfg0.N = result m c := by
  refine (dats m 0 c).arrAt_eq_of_covers 12 _ (by decide +kernel) fun t hf y => ?_
  blk_simp
  rw [after0_12]
  have e : ∀ (i : S16x2304x1024.Idx) (p : Fin 256) (d : Fin 1024), bat t = i 0 → pos (tile t) p = i 1 → d = i 2 →
      outsAt0 m c t (ix3 0 p d) = result m c i := by
    intro i p d h0 h1 h2
    rw [block_at, h0, h1, h2]
    rfl
  obtain ⟨p, d, rfl⟩ := ix3_eta y
  apply e
  · apply Fin.ext
    blk_simp [idx12 t, bat]
    rfl
  · apply Fin.ext
    blk_simp [idx12 t, tile, pos]
  · apply Fin.ext
    blk_simp [idx12 t]

end Cert.Kernel4Ideal.Merge

end
-- ==== Proof.MergeRef.lean ====
/- The merge's reference, read at a position. -/
module
public import proofs.«01_k».proof.Proof.Gen.Reference4Ideal.Run
public import proofs.«01_k».proof.Proof.MergeArray
public import Idealize.ShloMosaic.Lib.Pointwise

@[expose] public section

set_option maxHeartbeats 4000000

noncomputable section

namespace Cert.Reference4Ideal.Merge

open Cert.Reference4Ideal Cert.Reference4Ideal.Value
open Idealize.ShloMosaic Idealize.ShloMosaic.TcCoe

attribute [local instance] Cert.Reference4Ideal.Gen.facts

variable (m : (ℓ : Loc nD τ sig) → Buf (Elt Ideal) ℓ) (c : Dev nD)

/-- The reference's result is the merge at each batch and position. -/
theorem result_at (b : Fin 16) (r : Fin 2304) (d : Fin 1024) :
    (res_main_v99 (F := Ideal) m c : FVec Ideal S16x2304x1024 .f32) (ix3 b r d)
      = Cert.Kernel4Ideal.Merge.mergeAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) b r d := by
  unfold res_main_v99
  pointwise
  unfold Cert.Kernel4Ideal.Merge.mergeAt
  split
  · rename_i h
    rfl
  · rename_i h
    have e : ∀ hh, (⟨256 + (r.val - 256), hh⟩ : Fin 2304) = r := fun _ => Fin.ext (by simp only []; omega)
    simp only [e]
    rfl

end Cert.Reference4Ideal.Merge

end
-- ==== Proof.MergeClaim.lean ====
/- The merge's claim: the kernel's and the reference's results are equal. -/
module
public import proofs.«01_k».proof.Defs
public import proofs.«01_k».proof.Proof.MergeRef

@[expose] public section

set_option maxHeartbeats 4000000

noncomputable section

namespace Cert.Proof

open Idealize.ShloMosaic Idealize.SL.Sem

attribute [local instance] Cert.Kernel4Ideal.Gen.facts Cert.Reference4Ideal.Gen.facts

/-- The merge's kernel and reference leave equal results from equal arguments. -/
theorem merge_algebraic : Cert.algebraic_Kernel4Ideal_Reference4Ideal := by
  intro m g m' g' _ hA
  refine ⟨fun c => (Cert.Kernel4Ideal.Gen.dats m 0 c).arrAt 12 Cert.Kernel4Ideal.cfg0.N, Cert.Kernel4Ideal.Value.run_blocks m g, ?_⟩
  refine (θ_run _ _ _).mono (fun r h c => ⟨(h c).1.trans ?_, (h c).2⟩) (Cert.Reference4Ideal.Value.run m' g')
  refine Eq.trans ?_ (Cert.Kernel4Ideal.Merge.arrAt_eq m c).symm
  funext i
  obtain ⟨b, r, d, rfl⟩ : ∃ (b : Fin 16) (r : Fin 2304) (d : Fin 1024), i = ix3 b r d :=
    ⟨i 0, i 1, i 2, by funext a; match a with | 0 => rfl | 1 => rfl | 2 => rfl⟩
  refine (Cert.Reference4Ideal.Merge.result_at m' c b r d).trans ?_
  obtain ⟨h0, h1, h2, h3, h4, h5, h6, h7, h8, h9, h10, h11⟩ := hA c
  show Cert.Kernel4Ideal.Merge.mergeAt (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg10)) (m' ((c.tc : Thread Cert.Reference4Ideal.nD Cert.Reference4Ideal.τ).loc Cert.Reference4Ideal.main_arg11)) b r d = _
  rw [h0, h1, h2, h3, h4, h5, h6, h7, h8, h9, h10, h11]
  rfl

end Cert.Proof

end
-- ==== Proof.InProjBlock.lean ====
/- The input projection's body: the normalised rows it keeps and the tile it leaves. -/
module
public import proofs.«01_k».proof.Proof.Gen.Kernel3Ideal.Value
public import proofs.«01_k».proof.Proof.Row
public import Idealize.ShloMosaic.Lib.Pointwise
public import Idealize.ShloMosaic.Lib.Pipeline.ValueKit.Point
public import Idealize.ShloMosaic.Lib.Pipeline.ValueKit.Acc
public import Idealize.ShloMosaic.Lib.Pipeline.ValueKit.Tiles

@[expose] public section

set_option maxHeartbeats 1000000

noncomputable section

namespace Cert.Kernel3Ideal.InProj

open Cert.Kernel3Ideal Cert.Kernel3Ideal.Gen
open Idealize.ShloMosaic Idealize.ShloMosaic.TcCoe

/-- The row at place `p` of a tile of 1152 starting at `1152 k` lies in the context exactly when its position is below 256. -/
theorem slt_context : ∀ (k : Fin 2) (p : Fin 1152),
    IntOp.cmpi CmpIPredicate.slt (IntOp.addi (Scalar.muli (BitVec.ofNat 32 k.val) 1152#32) (BitVec.ofNat 32 p.val)) 256#32
      = if k.val * 1152 + p.val < 256 then 1#1 else 0#1 := by
  decide +kernel

/-- The product: a row of the kept rows times a column of the matrix's tile. -/
theorem pay2_at (x : Vec Ideal S1152x1024 .bf16) (w : Vec Ideal S1024x2176 .bf16) (p : Fin 1152) (n : Fin 2176) :
    k0_pay2 (F := Ideal) x w (ix3 0 p n) = ∑ k : Fin 1024, (x (ix2 p k) : EReal) * w (ix2 k n) := by
  pointwise [k0_pay2]

/-- The scale and the shift of a row: the context's or the latents'. -/
theorem pay4_at (k : Fin 2) (l : Vec Ideal S1x1x1024 .f32) (x : Vec Ideal S1x1024 .f32) (p : Fin 1152) (d : Fin 1024) :
    k0_pay4 (F := Ideal) (BitVec.ofNat 32 k.val) l x (ix2 p d) = if k.val * 1152 + p.val < 256 then x (ix2 0 d) else l (ix3 0 0 d) := by
  pointwise [k0_pay4, k0_pay3]
  rw [slt_context]
  split_ifs <;> rfl
theorem pay5_at (k : Fin 2) (l : Vec Ideal S1x1x1024 .f32) (x : Vec Ideal S1x1024 .f32) (p : Fin 1152) (d : Fin 1024) :
    k0_pay5 (F := Ideal) (BitVec.ofNat 32 k.val) l x (ix2 p d) = if k.val * 1152 + p.val < 256 then x (ix2 0 d) else l (ix3 0 0 d) := by
  pointwise [k0_pay5, k0_pay3]
  rw [slt_context]
  split_ifs <;> rfl

/-- The rows kept: each normalised, scaled and shifted. -/
theorem pay1_at (sc sh : FVec Ideal S1152x1024 .f32) (x : Vec Ideal S1x1152x1024 .f32) (p : Fin 1152) (d : Fin 1024) :
    k0_pay1 (F := Ideal) sc sh (k0_pay6 x) (k0_pay7 x) k0_pay8 (ix2 p d)
      = Row.modulated (fun y => x (ix3 0 p y)) (fun y => sc (ix2 p y)) (fun y => sh (ix2 p y)) d := by
  pointwise [k0_pay1, k0_pay6, k0_pay7, k0_pay8]
  rfl

variable (m : (ℓ : Loc nD τ sig) → Buf (Elt Ideal) ℓ)

/-- The first point of a tile keeps its rows modulated. -/
theorem kept_A (c : Dev nD) (t : Fin cfg0.N) (h0 : t.val % 5 = 0) (k : Fin 2) (hk : k.val = (grid0.coords t 1).val) (p : Fin 1152) (d : Fin 1024) :
    (outsAt0 (F := Ideal) m c t.val t.isLt).2 (ix2 p d)
      = Row.modulated (fun x => iblk m c 0 t (ix3 0 p x)) (fun x => if k.val * 1152 + p.val < 256 then iblk m c 4 t (ix2 0 x) else iblk m c 2 t (ix3 0 0 x))
          (fun x => if k.val * 1152 + p.val < 256 then iblk m c 3 t (ix2 0 x) else iblk m c 1 t (ix3 0 0 x)) d := by
  rw [outsAt0_A m c t h0]
  frame_out
  rw [← hk, pay1_at]
  simp only [pay4_at, pay5_at]

/-- The other points keep what the point before kept. -/
theorem kept_B (c : Dev nD) (t : Fin cfg0.N) (h0 : ¬t.val % 5 = 0) :
    (outsAt0 (F := Ideal) m c t.val t.isLt).2 = (outsAt0 (F := Ideal) m c (t.val - 1) (by have := t.isLt; omega)).2 := by
  rw [outsAt0_B m c t h0]
  rfl

/-- Every point leaves the product of the kept rows with the matrix's tile. -/
theorem out_at (c : Dev nD) (t : Fin cfg0.N) (p : Fin 1152) (n : Fin 2176) :
    (outsAt0 (F := Ideal) m c t.val t.isLt).1 (ix3 0 p n)
      = ∑ k : Fin 1024, ((outsAt0 (F := Ideal) m c t.val t.isLt).2 (ix2 p k) : EReal) * iblk m c 5 t (ix2 k n) := by
  by_cases h0 : t.val % 5 = 0
  · rw [outsAt0_A m c t h0]
    frame_out
    exact pay2_at _ _ p n
  · rw [kept_B m c t h0, outsAt0_B m c t h0]
    frame_out
    rw [pay2_at]
    refine Finset.sum_congr rfl fun k _ => congrArg (fun y : EReal => y * _) ?_
    exact congrFun (Memref.IsWhole.read_unread (Memref.isWhole_whole _) _) _

end Cert.Kernel3Ideal.InProj

end
-- ==== Proof.InProjCols.lean ====
/- Which column of the projection matrix each column of the projected inputs comes from. -/
module
public import Idealize.ShloMosaic.PureOps.Ideal

/-!
# The columns of the projected inputs

The 10880 columns of the projected inputs in the order the layer's calls read them, each as a column of the 10768
columns of the projection matrix. The last 112 are unused and hold zeros.
-/

@[expose] public section

noncomputable section

namespace Cert.Cols

/-- Column `x` of 512 columns that hold, for each of four heads, 64 columns of q and 64 of k, where q starts at `o` and k at `o + 256`. -/
def head (o x : ℕ) : ℕ := if x % 128 < 64 then o + (x / 128 * 64 + x % 128) else o + 256 + (x / 128 * 64 + (x % 128 - 64))

/-- The matrix's column behind column `n`; 10768 for an unused one. -/
def src (n : ℕ) : ℕ :=
  if n < 4096 then 6672 + n
  else if n < 5120 then 5648 + (n - 4096)
  else if n < 7680 then 1536 + (n - 5120)
  else if n < 8192 then head 0 (n - 7680)
  else if n < 9216 then 512 + (n - 8192)
  else if n < 9728 then head 4096 (n - 9216)
  else if n < 10240 then 4608 + (n - 9728)
  else if n < 10752 then 5136 + (n - 10240)
  else if n < 10768 then 5120 + (n - 10752)
  else 10768

/-- The parts of `src`, one by one. -/
theorem src0 {n : ℕ} (h0 : 0 ≤ n) (h1 : n < 4096) : src n = 6672 + n := by
  unfold src; rw [if_pos h1]
theorem src1 {n : ℕ} (h0 : 4096 ≤ n) (h1 : n < 5120) : src n = 5648 + (n - 4096) := by
  unfold src; rw [if_neg (by omega), if_pos h1]
theorem src2 {n : ℕ} (h0 : 5120 ≤ n) (h1 : n < 7680) : src n = 1536 + (n - 5120) := by
  unfold src; rw [if_neg (by omega), if_neg (by omega), if_pos h1]
theorem src3 {n : ℕ} (h0 : 7680 ≤ n) (h1 : n < 8192) : src n = head 0 (n - 7680) := by
  unfold src; rw [if_neg (by omega), if_neg (by omega), if_neg (by omega), if_pos h1]
theorem src4 {n : ℕ} (h0 : 8192 ≤ n) (h1 : n < 9216) : src n = 512 + (n - 8192) := by
  unfold src; rw [if_neg (by omega), if_neg (by omega), if_neg (by omega), if_neg (by omega), if_pos h1]
theorem src5 {n : ℕ} (h0 : 9216 ≤ n) (h1 : n < 9728) : src n = head 4096 (n - 9216) := by
  unfold src; rw [if_neg (by omega), if_neg (by omega), if_neg (by omega), if_neg (by omega), if_neg (by omega), if_pos h1]
theorem src6 {n : ℕ} (h0 : 9728 ≤ n) (h1 : n < 10240) : src n = 4608 + (n - 9728) := by
  unfold src; rw [if_neg (by omega), if_neg (by omega), if_neg (by omega), if_neg (by omega), if_neg (by omega), if_neg (by omega), if_pos h1]
theorem src7 {n : ℕ} (h0 : 10240 ≤ n) (h1 : n < 10752) : src n = 5136 + (n - 10240) := by
  unfold src; rw [if_neg (by omega), if_neg (by omega), if_neg (by omega), if_neg (by omega), if_neg (by omega), if_neg (by omega), if_neg (by omega), if_pos h1]
theorem src8 {n : ℕ} (h0 : 10752 ≤ n) (h1 : n < 10768) : src n = 5120 + (n - 10752) := by
  unfold src; rw [if_neg (by omega), if_neg (by omega), if_neg (by omega), if_neg (by omega), if_neg (by omega), if_neg (by omega), if_neg (by omega), if_neg (by omega), if_pos h1]

/-- A family over the matrix's columns read at the column behind `n`, zero at an unused one. -/
def pick (f : Fin 10768 → EReal) (n : ℕ) : EReal := if h : src n < 10768 then f ⟨src n, h⟩ else 0

theorem pick_eq (f : Fin 10768 → EReal) {n s : ℕ} (h : s < 10768) (e : src n = s) : pick f n = f ⟨s, h⟩ := by
  subst e; exact dif_pos h

theorem pick_zero (f : Fin 10768 → EReal) {n : ℕ} (h : 10768 ≤ n) : pick f n = 0 :=
  dif_neg (by unfold src; split_ifs <;> omega)

end Cert.Cols

end
-- ==== Proof.InProjHost.lean ====
/- The projection matrix as the host lays it out, read at a column. -/
module
public import proofs.«01_k».proof.Proof.Gen.Kernel3Ideal.Value
public import proofs.«01_k».proof.Proof.InProjCols
public import Idealize.ShloMosaic.Lib.Pointwise
public import Idealize.ShloMosaic.Lib.StableHlo.RunRead

@[expose] public section

set_option maxHeartbeats 4000000
set_option maxRecDepth 200000

noncomputable section

namespace Cert.Kernel3Ideal.InProj

open Cert.Kernel3Ideal Cert.Kernel3Ideal.Gen
open Idealize.ShloMosaic Idealize.ShloMosaic.TcCoe Idealize.ShloMosaic.Tactic

/-- The first columns of the laid out matrix, and the others. -/
def left (w : FVec Ideal S1024x10768 .bf16) : FVec Ideal S1024x9536 .bf16 :=
  concatenate S1024x9536 1 [⟨S1024x4096, (extractStridedSlice S1024x4096 ![0, 6672] w slices_S1024x10768_S1024x4096_0_6672 : FVec Ideal S1024x4096 .bf16)⟩, ⟨S1024x1024, (extractStridedSlice S1024x1024 ![0, 5648] w slices_S1024x10768_S1024x1024_0_5648 : FVec Ideal S1024x1024 .bf16)⟩, ⟨S1024x2560, (extractStridedSlice S1024x2560 ![0, 1536] w slices_S1024x10768_S1024x2560_0_1536 : FVec Ideal S1024x2560 .bf16)⟩, ⟨S1024x64, (extractStridedSlice S1024x64 ![0, 0] w slices_S1024x10768_S1024x64_0_0 : FVec Ideal S1024x64 .bf16)⟩, ⟨S1024x64, (extractStridedSlice S1024x64 ![0, 256] w slices_S1024x10768_S1024x64_0_256 : FVec Ideal S1024x64 .bf16)⟩, ⟨S1024x64, (extractStridedSlice S1024x64 ![0, 64] w slices_S1024x10768_S1024x64_0_64 : FVec Ideal S1024x64 .bf16)⟩, ⟨S1024x64, (extractStridedSlice S1024x64 ![0, 320] w slices_S1024x10768_S1024x64_0_320 : FVec Ideal S1024x64 .bf16)⟩, ⟨S1024x64, (extractStridedSlice S1024x64 ![0, 128] w slices_S1024x10768_S1024x64_0_128 : FVec Ideal S1024x64 .bf16)⟩, ⟨S1024x64, (extractStridedSlice S1024x64 ![0, 384] w slices_S1024x10768_S1024x64_0_384 : FVec Ideal S1024x64 .bf16)⟩, ⟨S1024x64, (extractStridedSlice S1024x64 ![0, 192] w slices_S1024x10768_S1024x64_0_192 : FVec Ideal S1024x64 .bf16)⟩, ⟨S1024x1088, (extractStridedSlice S1024x1088 ![0, 448] w slices_S1024x10768_S1024x1088_0_448 : FVec Ideal S1024x1088 .bf16)⟩, ⟨S1024x64, (extractStridedSlice S1024x64 ![0, 4096] w slices_S1024x10768_S1024x64_0_4096 : FVec Ideal S1024x64 .bf16)⟩, ⟨S1024x64, (extractStridedSlice S1024x64 ![0, 4352] w slices_S1024x10768_S1024x64_0_4352 : FVec Ideal S1024x64 .bf16)⟩, ⟨S1024x64, (extractStridedSlice S1024x64 ![0, 4160] w slices_S1024x10768_S1024x64_0_4160 : FVec Ideal S1024x64 .bf16)⟩, ⟨S1024x64, (extractStridedSlice S1024x64 ![0, 4416] w slices_S1024x10768_S1024x64_0_4416 : FVec Ideal S1024x64 .bf16)⟩, ⟨S1024x64, (extractStridedSlice S1024x64 ![0, 4224] w slices_S1024x10768_S1024x64_0_4224 : FVec Ideal S1024x64 .bf16)⟩] concatenates_S1024x4096_S1024x1024_S1024x2560_S1024x64_S1024x64_S1024x64_S1024x64_S1024x64_S1024x64_S1024x64_S1024x1088_S1024x64_S1024x64_S1024x64_S1024x64_S1024x64_S1024x9536_d1
def right (w : FVec Ideal S1024x10768 .bf16) : FVec Ideal S1024x1344 .bf16 :=
  concatenate S1024x1344 1 [⟨S1024x64, (extractStridedSlice S1024x64 ![0, 4480] w slices_S1024x10768_S1024x64_0_4480 : FVec Ideal S1024x64 .bf16)⟩, ⟨S1024x64, (extractStridedSlice S1024x64 ![0, 4288] w slices_S1024x10768_S1024x64_0_4288 : FVec Ideal S1024x64 .bf16)⟩, ⟨S1024x576, (extractStridedSlice S1024x576 ![0, 4544] w slices_S1024x10768_S1024x576_0_4544 : FVec Ideal S1024x576 .bf16)⟩, ⟨S1024x512, (extractStridedSlice S1024x512 ![0, 5136] w slices_S1024x10768_S1024x512_0_5136 : FVec Ideal S1024x512 .bf16)⟩, ⟨S1024x16, (extractStridedSlice S1024x16 ![0, 5120] w slices_S1024x10768_S1024x16_0_5120 : FVec Ideal S1024x16 .bf16)⟩, ⟨S1024x112, (broadcastInDim S1024x112 ![] bcast_S_S1024x112 (constant (F := Ideal) S_ .bf16 0x0000#16) : FVec Ideal S1024x112 .bf16)⟩] concatenates_S1024x64_S1024x64_S1024x576_S1024x512_S1024x16_S1024x112_S1024x1344_d1

variable (m : (ℓ : Loc nD τ sig) → Buf (Elt Ideal) ℓ) (c : Dev nD)

/-- The host's array is the two parts side by side. -/
theorem weight_eq :
    (V m c main_v25 : FVec Ideal S1024x10880 .bf16)
      = concatenate S1024x10880 1 [⟨S1024x9536, left (truncf .bf16 (m ((c : Thread nD τ).loc main_arg5) : FVec Ideal S1024x10768 .f32) bitsLt_bf16_f32)⟩,
          ⟨S1024x1344, right (truncf .bf16 (m ((c : Thread nD τ).loc main_arg5) : FVec Ideal S1024x10768 .f32) bitsLt_bf16_f32)⟩] concatenates_S1024x9536_S1024x1344_S1024x10880_d1 := by
  show (StableHlo.after hostOps0 (fun b => m (c, b)) (Proc.devRef .tc main_v25) : FVec Ideal S1024x10880 .bf16) = _
  after_results_simp <;> (try dsimp only [Matrix.cons_val]) <;> (try after_results_simp) <;> rfl

theorem left_at (w : FVec Ideal S1024x10768 .bf16) (k : Fin 1024) (n : Fin 9536) :
    left w (ix2 k n) = Cols.pick (fun j => w (ix2 k j)) n.val := by
  have hn := n.isLt
  unfold left
  by_cases h1 : n.val < 4096
  · refine (concatenate_apply_piece (1 : Fin S1024x9536.rank) _ _ (ix2 k n) 0 (by show 0 < 16; decide) S1024x4096 (extractStridedSlice S1024x4096 ![0, 6672] w slices_S1024x10768_S1024x4096_0_6672 : FVec Ideal S1024x4096 .bf16) rfl rfl 0 rfl (ix2 k (⟨n.val - 0, by omega⟩ : Fin 4096))
      (fun a ha => match a with | 0 => rfl | 1 => absurd rfl ha) (by show 0 + (n.val - 0) = n.val; omega)).trans ?_
    pointwise
    exact (Cols.pick_eq (fun j => w (ix2 k j)) _ (by first | ((first | rw [Cols.src0 (by omega) (by omega)] | rw [Cols.src1 (by omega) (by omega)] | rw [Cols.src2 (by omega) (by omega)] | rw [Cols.src3 (by omega) (by omega)] | rw [Cols.src4 (by omega) (by omega)] | rw [Cols.src5 (by omega) (by omega)] | rw [Cols.src6 (by omega) (by omega)] | rw [Cols.src7 (by omega) (by omega)] | rw [Cols.src8 (by omega) (by omega)]) <;> first | omega | (unfold Cols.head; split_ifs <;> omega)) | (unfold Cols.src Cols.head; split_ifs <;> omega))).symm
  by_cases h2 : n.val < 5120
  · refine (concatenate_apply_piece (1 : Fin S1024x9536.rank) _ _ (ix2 k n) 1 (by show 1 < 16; decide) S1024x1024 (extractStridedSlice S1024x1024 ![0, 5648] w slices_S1024x10768_S1024x1024_0_5648 : FVec Ideal S1024x1024 .bf16) rfl rfl 4096 rfl (ix2 k (⟨n.val - 4096, by omega⟩ : Fin 1024))
      (fun a ha => match a with | 0 => rfl | 1 => absurd rfl ha) (by show 4096 + (n.val - 4096) = n.val; omega)).trans ?_
    pointwise
    exact (Cols.pick_eq (fun j => w (ix2 k j)) _ (by first | ((first | rw [Cols.src0 (by omega) (by omega)] | rw [Cols.src1 (by omega) (by omega)] | rw [Cols.src2 (by omega) (by omega)] | rw [Cols.src3 (by omega) (by omega)] | rw [Cols.src4 (by omega) (by omega)] | rw [Cols.src5 (by omega) (by omega)] | rw [Cols.src6 (by omega) (by omega)] | rw [Cols.src7 (by omega) (by omega)] | rw [Cols.src8 (by omega) (by omega)]) <;> first | omega | (unfold Cols.head; split_ifs <;> omega)) | (unfold Cols.src Cols.head; split_ifs <;> omega))).symm
  by_cases h3 : n.val < 7680
  · refine (concatenate_apply_piece (1 : Fin S1024x9536.rank) _ _ (ix2 k n) 2 (by show 2 < 16; decide) S1024x2560 (extractStridedSlice S1024x2560 ![0, 1536] w slices_S1024x10768_S1024x2560_0_1536 : FVec Ideal S1024x2560 .bf16) rfl rfl 5120 rfl (ix2 k (⟨n.val - 5120, by omega⟩ : Fin 2560))
      (fun a ha => match a with | 0 => rfl | 1 => absurd rfl ha) (by show 5120 + (n.val - 5120) = n.val; omega)).trans ?_
    pointwise
    exact (Cols.pick_eq (fun j => w (ix2 k j)) _ (by first | ((first | rw [Cols.src0 (by omega) (by omega)] | rw [Cols.src1 (by omega) (by omega)] | rw [Cols.src2 (by omega) (by omega)] | rw [Cols.src3 (by omega) (by omega)] | rw [Cols.src4 (by omega) (by omega)] | rw [Cols.src5 (by omega) (by omega)] | rw [Cols.src6 (by omega) (by omega)] | rw [Cols.src7 (by omega) (by omega)] | rw [Cols.src8 (by omega) (by omega)]) <;> first | omega | (unfold Cols.head; split_ifs <;> omega)) | (unfold Cols.src Cols.head; split_ifs <;> omega))).symm
  by_cases h4 : n.val < 7744
  · refine (concatenate_apply_piece (1 : Fin S1024x9536.rank) _ _ (ix2 k n) 3 (by show 3 < 16; decide) S1024x64 (extractStridedSlice S1024x64 ![0, 0] w slices_S1024x10768_S1024x64_0_0 : FVec Ideal S1024x64 .bf16) rfl rfl 7680 rfl (ix2 k (⟨n.val - 7680, by omega⟩ : Fin 64))
      (fun a ha => match a with | 0 => rfl | 1 => absurd rfl ha) (by show 7680 + (n.val - 7680) = n.val; omega)).trans ?_
    pointwise
    exact (Cols.pick_eq (fun j => w (ix2 k j)) _ (by first | ((first | rw [Cols.src0 (by omega) (by omega)] | rw [Cols.src1 (by omega) (by omega)] | rw [Cols.src2 (by omega) (by omega)] | rw [Cols.src3 (by omega) (by omega)] | rw [Cols.src4 (by omega) (by omega)] | rw [Cols.src5 (by omega) (by omega)] | rw [Cols.src6 (by omega) (by omega)] | rw [Cols.src7 (by omega) (by omega)] | rw [Cols.src8 (by omega) (by omega)]) <;> first | omega | (unfold Cols.head; split_ifs <;> omega)) | (unfold Cols.src Cols.head; split_ifs <;> omega))).symm
  by_cases h5 : n.val < 7808
  · refine (concatenate_apply_piece (1 : Fin S1024x9536.rank) _ _ (ix2 k n) 4 (by show 4 < 16; decide) S1024x64 (extractStridedSlice S1024x64 ![0, 256] w slices_S1024x10768_S1024x64_0_256 : FVec Ideal S1024x64 .bf16) rfl rfl 7744 rfl (ix2 k (⟨n.val - 7744, by omega⟩ : Fin 64))
      (fun a ha => match a with | 0 => rfl | 1 => absurd rfl ha) (by show 7744 + (n.val - 7744) = n.val; omega)).trans ?_
    pointwise
    exact (Cols.pick_eq (fun j => w (ix2 k j)) _ (by first | ((first | rw [Cols.src0 (by omega) (by omega)] | rw [Cols.src1 (by omega) (by omega)] | rw [Cols.src2 (by omega) (by omega)] | rw [Cols.src3 (by omega) (by omega)] | rw [Cols.src4 (by omega) (by omega)] | rw [Cols.src5 (by omega) (by omega)] | rw [Cols.src6 (by omega) (by omega)] | rw [Cols.src7 (by omega) (by omega)] | rw [Cols.src8 (by omega) (by omega)]) <;> first | omega | (unfold Cols.head; split_ifs <;> omega)) | (unfold Cols.src Cols.head; split_ifs <;> omega))).symm
  by_cases h6 : n.val < 7872
  · refine (concatenate_apply_piece (1 : Fin S1024x9536.rank) _ _ (ix2 k n) 5 (by show 5 < 16; decide) S1024x64 (extractStridedSlice S1024x64 ![0, 64] w slices_S1024x10768_S1024x64_0_64 : FVec Ideal S1024x64 .bf16) rfl rfl 7808 rfl (ix2 k (⟨n.val - 7808, by omega⟩ : Fin 64))
      (fun a ha => match a with | 0 => rfl | 1 => absurd rfl ha) (by show 7808 + (n.val - 7808) = n.val; omega)).trans ?_
    pointwise
    exact (Cols.pick_eq (fun j => w (ix2 k j)) _ (by first | ((first | rw [Cols.src0 (by omega) (by omega)] | rw [Cols.src1 (by omega) (by omega)] | rw [Cols.src2 (by omega) (by omega)] | rw [Cols.src3 (by omega) (by omega)] | rw [Cols.src4 (by omega) (by omega)] | rw [Cols.src5 (by omega) (by omega)] | rw [Cols.src6 (by omega) (by omega)] | rw [Cols.src7 (by omega) (by omega)] | rw [Cols.src8 (by omega) (by omega)]) <;> first | omega | (unfold Cols.head; split_ifs <;> omega)) | (unfold Cols.src Cols.head; split_ifs <;> omega))).symm
  by_cases h7 : n.val < 7936
  · refine (concatenate_apply_piece (1 : Fin S1024x9536.rank) _ _ (ix2 k n) 6 (by show 6 < 16; decide) S1024x64 (extractStridedSlice S1024x64 ![0, 320] w slices_S1024x10768_S1024x64_0_320 : FVec Ideal S1024x64 .bf16) rfl rfl 7872 rfl (ix2 k (⟨n.val - 7872, by omega⟩ : Fin 64))
      (fun a ha => match a with | 0 => rfl | 1 => absurd rfl ha) (by show 7872 + (n.val - 7872) = n.val; omega)).trans ?_
    pointwise
    exact (Cols.pick_eq (fun j => w (ix2 k j)) _ (by first | ((first | rw [Cols.src0 (by omega) (by omega)] | rw [Cols.src1 (by omega) (by omega)] | rw [Cols.src2 (by omega) (by omega)] | rw [Cols.src3 (by omega) (by omega)] | rw [Cols.src4 (by omega) (by omega)] | rw [Cols.src5 (by omega) (by omega)] | rw [Cols.src6 (by omega) (by omega)] | rw [Cols.src7 (by omega) (by omega)] | rw [Cols.src8 (by omega) (by omega)]) <;> first | omega | (unfold Cols.head; split_ifs <;> omega)) | (unfold Cols.src Cols.head; split_ifs <;> omega))).symm
  by_cases h8 : n.val < 8000
  · refine (concatenate_apply_piece (1 : Fin S1024x9536.rank) _ _ (ix2 k n) 7 (by show 7 < 16; decide) S1024x64 (extractStridedSlice S1024x64 ![0, 128] w slices_S1024x10768_S1024x64_0_128 : FVec Ideal S1024x64 .bf16) rfl rfl 7936 rfl (ix2 k (⟨n.val - 7936, by omega⟩ : Fin 64))
      (fun a ha => match a with | 0 => rfl | 1 => absurd rfl ha) (by show 7936 + (n.val - 7936) = n.val; omega)).trans ?_
    pointwise
    exact (Cols.pick_eq (fun j => w (ix2 k j)) _ (by first | ((first | rw [Cols.src0 (by omega) (by omega)] | rw [Cols.src1 (by omega) (by omega)] | rw [Cols.src2 (by omega) (by omega)] | rw [Cols.src3 (by omega) (by omega)] | rw [Cols.src4 (by omega) (by omega)] | rw [Cols.src5 (by omega) (by omega)] | rw [Cols.src6 (by omega) (by omega)] | rw [Cols.src7 (by omega) (by omega)] | rw [Cols.src8 (by omega) (by omega)]) <;> first | omega | (unfold Cols.head; split_ifs <;> omega)) | (unfold Cols.src Cols.head; split_ifs <;> omega))).symm
  by_cases h9 : n.val < 8064
  · refine (concatenate_apply_piece (1 : Fin S1024x9536.rank) _ _ (ix2 k n) 8 (by show 8 < 16; decide) S1024x64 (extractStridedSlice S1024x64 ![0, 384] w slices_S1024x10768_S1024x64_0_384 : FVec Ideal S1024x64 .bf16) rfl rfl 8000 rfl (ix2 k (⟨n.val - 8000, by omega⟩ : Fin 64))
      (fun a ha => match a with | 0 => rfl | 1 => absurd rfl ha) (by show 8000 + (n.val - 8000) = n.val; omega)).trans ?_
    pointwise
    exact (Cols.pick_eq (fun j => w (ix2 k j)) _ (by first | ((first | rw [Cols.src0 (by omega) (by omega)] | rw [Cols.src1 (by omega) (by omega)] | rw [Cols.src2 (by omega) (by omega)] | rw [Cols.src3 (by omega) (by omega)] | rw [Cols.src4 (by omega) (by omega)] | rw [Cols.src5 (by omega) (by omega)] | rw [Cols.src6 (by omega) (by omega)] | rw [Cols.src7 (by omega) (by omega)] | rw [Cols.src8 (by omega) (by omega)]) <;> first | omega | (unfold Cols.head; split_ifs <;> omega)) | (unfold Cols.src Cols.head; split_ifs <;> omega))).symm
  by_cases h10 : n.val < 8128
  · refine (concatenate_apply_piece (1 : Fin S1024x9536.rank) _ _ (ix2 k n) 9 (by show 9 < 16; decide) S1024x64 (extractStridedSlice S1024x64 ![0, 192] w slices_S1024x10768_S1024x64_0_192 : FVec Ideal S1024x64 .bf16) rfl rfl 8064 rfl (ix2 k (⟨n.val - 8064, by omega⟩ : Fin 64))
      (fun a ha => match a with | 0 => rfl | 1 => absurd rfl ha) (by show 8064 + (n.val - 8064) = n.val; omega)).trans ?_
    pointwise
    exact (Cols.pick_eq (fun j => w (ix2 k j)) _ (by first | ((first | rw [Cols.src0 (by omega) (by omega)] | rw [Cols.src1 (by omega) (by omega)] | rw [Cols.src2 (by omega) (by omega)] | rw [Cols.src3 (by omega) (by omega)] | rw [Cols.src4 (by omega) (by omega)] | rw [Cols.src5 (by omega) (by omega)] | rw [Cols.src6 (by omega) (by omega)] | rw [Cols.src7 (by omega) (by omega)] | rw [Cols.src8 (by omega) (by omega)]) <;> first | omega | (unfold Cols.head; split_ifs <;> omega)) | (unfold Cols.src Cols.head; split_ifs <;> omega))).symm
  by_cases h11 : n.val < 9216
  · refine (concatenate_apply_piece (1 : Fin S1024x9536.rank) _ _ (ix2 k n) 10 (by show 10 < 16; decide) S1024x1088 (extractStridedSlice S1024x1088 ![0, 448] w slices_S1024x10768_S1024x1088_0_448 : FVec Ideal S1024x1088 .bf16) rfl rfl 8128 rfl (ix2 k (⟨n.val - 8128, by omega⟩ : Fin 1088))
      (fun a ha => match a with | 0 => rfl | 1 => absurd rfl ha) (by show 8128 + (n.val - 8128) = n.val; omega)).trans ?_
    pointwise
    exact (Cols.pick_eq (fun j => w (ix2 k j)) _ (by first | ((first | rw [Cols.src0 (by omega) (by omega)] | rw [Cols.src1 (by omega) (by omega)] | rw [Cols.src2 (by omega) (by omega)] | rw [Cols.src3 (by omega) (by omega)] | rw [Cols.src4 (by omega) (by omega)] | rw [Cols.src5 (by omega) (by omega)] | rw [Cols.src6 (by omega) (by omega)] | rw [Cols.src7 (by omega) (by omega)] | rw [Cols.src8 (by omega) (by omega)]) <;> first | omega | (unfold Cols.head; split_ifs <;> omega)) | (unfold Cols.src Cols.head; split_ifs <;> omega))).symm
  by_cases h12 : n.val < 9280
  · refine (concatenate_apply_piece (1 : Fin S1024x9536.rank) _ _ (ix2 k n) 11 (by show 11 < 16; decide) S1024x64 (extractStridedSlice S1024x64 ![0, 4096] w slices_S1024x10768_S1024x64_0_4096 : FVec Ideal S1024x64 .bf16) rfl rfl 9216 rfl (ix2 k (⟨n.val - 9216, by omega⟩ : Fin 64))
      (fun a ha => match a with | 0 => rfl | 1 => absurd rfl ha) (by show 9216 + (n.val - 9216) = n.val; omega)).trans ?_
    pointwise
    exact (Cols.pick_eq (fun j => w (ix2 k j)) _ (by first | ((first | rw [Cols.src0 (by omega) (by omega)] | rw [Cols.src1 (by omega) (by omega)] | rw [Cols.src2 (by omega) (by omega)] | rw [Cols.src3 (by omega) (by omega)] | rw [Cols.src4 (by omega) (by omega)] | rw [Cols.src5 (by omega) (by omega)] | rw [Cols.src6 (by omega) (by omega)] | rw [Cols.src7 (by omega) (by omega)] | rw [Cols.src8 (by omega) (by omega)]) <;> first | omega | (unfold Cols.head; split_ifs <;> omega)) | (unfold Cols.src Cols.head; split_ifs <;> omega))).symm
  by_cases h13 : n.val < 9344
  · refine (concatenate_apply_piece (1 : Fin S1024x9536.rank) _ _ (ix2 k n) 12 (by show 12 < 16; decide) S1024x64 (extractStridedSlice S1024x64 ![0, 4352] w slices_S1024x10768_S1024x64_0_4352 : FVec Ideal S1024x64 .bf16) rfl rfl 9280 rfl (ix2 k (⟨n.val - 9280, by omega⟩ : Fin 64))
      (fun a ha => match a with | 0 => rfl | 1 => absurd rfl ha) (by show 9280 + (n.val - 9280) = n.val; omega)).trans ?_
    pointwise
    exact (Cols.pick_eq (fun j => w (ix2 k j)) _ (by first | ((first | rw [Cols.src0 (by omega) (by omega)] | rw [Cols.src1 (by omega) (by omega)] | rw [Cols.src2 (by omega) (by omega)] | rw [Cols.src3 (by omega) (by omega)] | rw [Cols.src4 (by omega) (by omega)] | rw [Cols.src5 (by omega) (by omega)] | rw [Cols.src6 (by omega) (by omega)] | rw [Cols.src7 (by omega) (by omega)] | rw [Cols.src8 (by omega) (by omega)]) <;> first | omega | (unfold Cols.head; split_ifs <;> omega)) | (unfold Cols.src Cols.head; split_ifs <;> omega))).symm
  by_cases h14 : n.val < 9408
  · refine (concatenate_apply_piece (1 : Fin S1024x9536.rank) _ _ (ix2 k n) 13 (by show 13 < 16; decide) S1024x64 (extractStridedSlice S1024x64 ![0, 4160] w slices_S1024x10768_S1024x64_0_4160 : FVec Ideal S1024x64 .bf16) rfl rfl 9344 rfl (ix2 k (⟨n.val - 9344, by omega⟩ : Fin 64))
      (fun a ha => match a with | 0 => rfl | 1 => absurd rfl ha) (by show 9344 + (n.val - 9344) = n.val; omega)).trans ?_
    pointwise
    exact (Cols.pick_eq (fun j => w (ix2 k j)) _ (by first | ((first | rw [Cols.src0 (by omega) (by omega)] | rw [Cols.src1 (by omega) (by omega)] | rw [Cols.src2 (by omega) (by omega)] | rw [Cols.src3 (by omega) (by omega)] | rw [Cols.src4 (by omega) (by omega)] | rw [Cols.src5 (by omega) (by omega)] | rw [Cols.src6 (by omega) (by omega)] | rw [Cols.src7 (by omega) (by omega)] | rw [Cols.src8 (by omega) (by omega)]) <;> first | omega | (unfold Cols.head; split_ifs <;> omega)) | (unfold Cols.src Cols.head; split_ifs <;> omega))).symm
  by_cases h15 : n.val < 9472
  · refine (concatenate_apply_piece (1 : Fin S1024x9536.rank) _ _ (ix2 k n) 14 (by show 14 < 16; decide) S1024x64 (extractStridedSlice S1024x64 ![0, 4416] w slices_S1024x10768_S1024x64_0_4416 : FVec Ideal S1024x64 .bf16) rfl rfl 9408 rfl (ix2 k (⟨n.val - 9408, by omega⟩ : Fin 64))
      (fun a ha => match a with | 0 => rfl | 1 => absurd rfl ha) (by show 9408 + (n.val - 9408) = n.val; omega)).trans ?_
    pointwise
    exact (Cols.pick_eq (fun j => w (ix2 k j)) _ (by first | ((first | rw [Cols.src0 (by omega) (by omega)] | rw [Cols.src1 (by omega) (by omega)] | rw [Cols.src2 (by omega) (by omega)] | rw [Cols.src3 (by omega) (by omega)] | rw [Cols.src4 (by omega) (by omega)] | rw [Cols.src5 (by omega) (by omega)] | rw [Cols.src6 (by omega) (by omega)] | rw [Cols.src7 (by omega) (by omega)] | rw [Cols.src8 (by omega) (by omega)]) <;> first | omega | (unfold Cols.head; split_ifs <;> omega)) | (unfold Cols.src Cols.head; split_ifs <;> omega))).symm
  · refine (concatenate_apply_piece (1 : Fin S1024x9536.rank) _ _ (ix2 k n) 15 (by show 15 < 16; decide) S1024x64 (extractStridedSlice S1024x64 ![0, 4224] w slices_S1024x10768_S1024x64_0_4224 : FVec Ideal S1024x64 .bf16) rfl rfl 9472 rfl (ix2 k (⟨n.val - 9472, by omega⟩ : Fin 64))
      (fun a ha => match a with | 0 => rfl | 1 => absurd rfl ha) (by show 9472 + (n.val - 9472) = n.val; omega)).trans ?_
    pointwise
    exact (Cols.pick_eq (fun j => w (ix2 k j)) _ (by first | ((first | rw [Cols.src0 (by omega) (by omega)] | rw [Cols.src1 (by omega) (by omega)] | rw [Cols.src2 (by omega) (by omega)] | rw [Cols.src3 (by omega) (by omega)] | rw [Cols.src4 (by omega) (by omega)] | rw [Cols.src5 (by omega) (by omega)] | rw [Cols.src6 (by omega) (by omega)] | rw [Cols.src7 (by omega) (by omega)] | rw [Cols.src8 (by omega) (by omega)]) <;> first | omega | (unfold Cols.head; split_ifs <;> omega)) | (unfold Cols.src Cols.head; split_ifs <;> omega))).symm

theorem right_at (w : FVec Ideal S1024x10768 .bf16) (k : Fin 1024) (n : Fin 1344) :
    right w (ix2 k n) = Cols.pick (fun j => w (ix2 k j)) (9536 + n.val) := by
  have hn := n.isLt
  unfold right
  pointwise
  split_ifs
  all_goals first
    | exact (Cols.pick_eq (fun j => w (ix2 k j)) _ (by first | ((first | rw [Cols.src0 (by omega) (by omega)] | rw [Cols.src1 (by omega) (by omega)] | rw [Cols.src2 (by omega) (by omega)] | rw [Cols.src3 (by omega) (by omega)] | rw [Cols.src4 (by omega) (by omega)] | rw [Cols.src5 (by omega) (by omega)] | rw [Cols.src6 (by omega) (by omega)] | rw [Cols.src7 (by omega) (by omega)] | rw [Cols.src8 (by omega) (by omega)]) <;> first | omega | (unfold Cols.head; split_ifs <;> omega)) | (unfold Cols.src Cols.head; split_ifs <;> omega))).symm
    | exact (Cols.pick_zero (fun j => w (ix2 k j)) (by omega)).symm

/-- The matrix the kernel multiplies by: its column `n` is the column behind `n`, zero at an unused one. -/
theorem weight_at (k : Fin 1024) (n : Fin 10880) :
    (V m c main_v25 : FVec Ideal S1024x10880 .bf16) (ix2 k n)
      = Cols.pick (fun j => (m ((c : Thread nD τ).loc main_arg5) : FVec Ideal S1024x10768 .f32) (ix2 k j)) n.val := by
  rw [weight_eq]
  generalize hl : left _ = l
  generalize hr : right _ = r
  pointwise
  split
  · subst hl
    exact left_at _ k _
  · rename_i h
    subst hr
    refine (right_at _ k _).trans ?_
    show Cols.pick _ (9536 + (n.val - 9536)) = Cols.pick _ n.val
    rw [Nat.add_sub_cancel' (by omega)]
    rfl

end Cert.Kernel3Ideal.InProj

end
-- ==== Proof.InProjArray.lean ====
/- The input projection's result array, read at a position. -/
module
public import proofs.«01_k».proof.Proof.InProjBlock
public import proofs.«01_k».proof.Proof.InProjHost

@[expose] public section

set_option maxHeartbeats 1000000
set_option maxRecDepth 16384

noncomputable section

namespace Cert.Kernel3Ideal.InProj

open Cert.Kernel3Ideal Cert.Kernel3Ideal.Gen
open Idealize.ShloMosaic Idealize.ShloMosaic.TcCoe Idealize.ShloMosaic.Tactic

variable (m : (ℓ : Loc nD τ sig) → Buf (Elt Ideal) ℓ) (c : Dev nD)

/-- The block indices of the windows at each grid point: point `10 b + 5 k + j` is column tile `j` of row tile `k` of batch `b`. -/
theorem idx0 : ∀ t : Fin cfg0.N, win0_0.index t = ![t.val / 10, t.val / 5 % 2, 0] := (by decide +kernel : ∀ t : Fin grid0.N, _)
theorem idx1 : ∀ t : Fin cfg0.N, win0_1.index t = ![t.val / 10, 0, 0] := (by decide +kernel : ∀ t : Fin grid0.N, _)
theorem idx2 : ∀ t : Fin cfg0.N, win0_2.index t = ![t.val / 10, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, t.val % 5] := (by decide +kernel : ∀ t : Fin grid0.N, _)
theorem idx6 : ∀ t : Fin cfg0.N, win0_6.index t = ![t.val / 10, t.val / 5 % 2, t.val % 5] := (by decide +kernel : ∀ t : Fin grid0.N, _)
theorem coord : ∀ t : Fin cfg0.N, (grid0.coords t 1).val = t.val / 5 % 2 := (by decide +kernel : ∀ t : Fin grid0.N, _)
theorem lt_N (t : Fin cfg0.N) : t.val < 160 := t.isLt

/-- The batch, the row tile and the column tile of a grid point. -/
def bat (t : Fin cfg0.N) : Fin 16 := ⟨t.val / 10, by have := lt_N t; omega⟩
def tile (t : Fin cfg0.N) : Fin 2 := ⟨t.val / 5 % 2, by omega⟩
def ctile (t : Fin cfg0.N) : Fin 5 := ⟨t.val % 5, by omega⟩
/-- The position of row `p` of tile `k`, and the column of place `n` of column tile `j`. -/
def pos (k : Fin 2) (p : Fin 1152) : Fin 2304 := ⟨k.val * 1152 + p.val, by omega⟩
def col (j : Fin 5) (n : Fin 2176) : Fin 10880 := ⟨j.val * 2176 + n.val, by omega⟩

/-- What the input blocks hold. -/
theorem at0 (t : Fin cfg0.N) (p : Fin 1152) (x : Fin 1024) : iblk m c 0 t (ix3 0 p x) = m ((c : Thread nD τ).loc main_arg0) (ix3 (bat t) (pos (tile t) p) x) := by
  rw [← V_main_arg0 m c]; blk_simp [iblk]; congr 1; blk_ext [idx0 t, bat, tile, pos]
theorem at1 (t : Fin cfg0.N) (x : Fin 1024) : iblk m c 1 t (ix3 0 0 x) = m ((c : Thread nD τ).loc main_arg1) (ix3 (bat t) 0 x) := by
  rw [← V_main_arg1 m c]; blk_simp [iblk]; congr 1; blk_ext [idx1 t, bat]
theorem at2 (t : Fin cfg0.N) (x : Fin 1024) : iblk m c 2 t (ix3 0 0 x) = m ((c : Thread nD τ).loc main_arg2) (ix3 (bat t) 0 x) := by
  rw [← V_main_arg2 m c]; blk_simp [iblk]; congr 1; blk_ext [idx2 t, bat]
theorem at3 (t : Fin cfg0.N) (x : Fin 1024) : iblk m c 3 t (ix2 0 x) = m ((c : Thread nD τ).loc main_arg3) (ix2 0 x) := by
  rw [← V_main_arg3 m c]; blk_simp [iblk]; congr 1; blk_ext [idx3 t]
theorem at4 (t : Fin cfg0.N) (x : Fin 1024) : iblk m c 4 t (ix2 0 x) = m ((c : Thread nD τ).loc main_arg4) (ix2 0 x) := by
  rw [← V_main_arg4 m c]; blk_simp [iblk]; congr 1; blk_ext [idx4 t]
theorem at5 (t : Fin cfg0.N) (k : Fin 1024) (n : Fin 2176) :
    iblk m c 5 t (ix2 k n) = Cols.pick (fun j => (m ((c : Thread nD τ).loc main_arg5) : FVec Ideal S1024x10768 .f32) (ix2 k j)) (col (ctile t) n).val := by
  refine Eq.trans ?_ (weight_at m c k (col (ctile t) n)); blk_simp [iblk]; congr 1; blk_ext [idx5 t, ctile, col]

/-- The modulated row of batch `b` at position `r`, from the arrays. -/
def modAt (h : FVec Ideal S16x2304x1024 .f32) (shl scl : FVec Ideal S16x1x1024 .f32) (shc scc : FVec Ideal S1x1024 .f32)
    (b : Fin 16) (r : Fin 2304) (d : Fin 1024) : EReal :=
  Row.modulated (fun x => h (ix3 b r x)) (fun x => if r.val < 256 then scc (ix2 0 x) else scl (ix3 b 0 x))
    (fun x => if r.val < 256 then shc (ix2 0 x) else shl (ix3 b 0 x)) d

/-- The modulated row from the kernel's arguments. -/
def modM (b : Fin 16) (r : Fin 2304) (d : Fin 1024) : EReal :=
  modAt (m ((c : Thread nD τ).loc main_arg0)) (m ((c : Thread nD τ).loc main_arg1)) (m ((c : Thread nD τ).loc main_arg2)) (m ((c : Thread nD τ).loc main_arg3)) (m ((c : Thread nD τ).loc main_arg4)) b r d

/-- After every point the kept rows are the modulated rows of its tile. -/
theorem kept_at (p : Fin 1152) (d : Fin 1024) : ∀ (n : ℕ) (hn : n < cfg0.N),
    (outsAt0 (F := Ideal) m c n hn).2 (ix2 p d) = modM m c (bat ⟨n, hn⟩) (pos (tile ⟨n, hn⟩) p) d := by
  intro n
  induction n with
  | zero =>
    intro hn
    rw [kept_A m c ⟨0, hn⟩ rfl (tile ⟨0, hn⟩) (coord ⟨0, hn⟩).symm p d]
    unfold modM modAt
    simp only [at0, at1, at2, at3, at4]
    rfl
  | succ n ih =>
    intro hn
    by_cases h0 : (n + 1) % 5 = 0
    · rw [kept_A m c ⟨n + 1, hn⟩ h0 (tile ⟨n + 1, hn⟩) (coord ⟨n + 1, hn⟩).symm p d]
      unfold modM modAt
      simp only [at0, at1, at2, at3, at4]
      rfl
    · have e := kept_B m c ⟨n + 1, hn⟩ h0
      have e1 : bat ⟨n + 1, hn⟩ = bat ⟨n, Nat.lt_of_succ_lt hn⟩ := Fin.ext (by show (n + 1) / 10 = n / 10; omega)
      have e2 : tile ⟨n + 1, hn⟩ = tile ⟨n, Nat.lt_of_succ_lt hn⟩ := Fin.ext (by show (n + 1) / 5 % 2 = n / 5 % 2; omega)
      rw [e1, e2]
      exact (congrFun e (ix2 p d)).trans (ih (Nat.lt_of_succ_lt hn))

/-- The projection of the modulated row on column `n`. -/
def projM (b : Fin 16) (r : Fin 2304) (n : Fin 10880) : EReal :=
  ∑ k : Fin 1024, modM m c b r k * Cols.pick (fun j => (m ((c : Thread nD τ).loc main_arg5) : FVec Ideal S1024x10768 .f32) (ix2 k j)) n.val

/-- What the body leaves at a point is the projection at its rows and columns. -/
theorem block_at (t : Fin cfg0.N) (p : Fin 1152) (n : Fin 2176) :
    (outsAt0 (F := Ideal) m c t.val t.isLt).1 (ix3 0 p n) = projM m c (bat t) (pos (tile t) p) (col (ctile t) n) := by
  rw [out_at m c t p n]
  unfold projM
  exact Finset.sum_congr rfl fun k _ => congrArg₂ (· * ·) (kept_at m c p k t.val t.isLt) (at5 m c t k n)

/-- The result array at an index. -/
def result : Vec Ideal S16x2304x10880 .bf16 := fun i => projM m c (i 0) (i 1) (i 2)

theorem ix3_eta (y : S1x1152x2176.Idx) : ∃ (p : Fin 1152) (d : Fin 2176), y = ix3 0 p d :=
  ⟨y 1, y 2, by funext a; match a with | 0 => exact Subsingleton.elim (α := Fin 1) _ _ | 1 => rfl | 2 => rfl⟩

/-- After the run the output array is `result`. -/
theorem arrAt_eq : (dats m 0 c).arrAt 6 cfg0.N = result m c := by
  refine (dats m 0 c).arrAt_eq_of_covers 6 _ (by decide +kernel) fun t hf y => ?_
  blk_simp
  rw [after0_6]
  have e : ∀ (i : S16x2304x10880.Idx) (p : Fin 1152) (d : Fin 2176), bat t = i 0 → pos (tile t) p = i 1 → col (ctile t) d = i 2 →
      (outsAt0 m c t.val t.isLt).1 (ix3 0 p d) = result m c i := by
    intro i p d h0 h1 h2
    rw [block_at, h0, h1, h2]
    rfl
  obtain ⟨p, d, rfl⟩ := ix3_eta y
  apply e
  · apply Fin.ext
    blk_simp [idx6 t, bat]
    rfl
  · apply Fin.ext
    blk_simp [idx6 t, tile, pos]
  · apply Fin.ext
    blk_simp [idx6 t, ctile, col]

end Cert.Kernel3Ideal.InProj

end
-- ==== Proof.InProjRef.lean ====
/- The input projection's reference, read at a position. -/
module
public import proofs.«01_k».proof.Proof.Gen.Reference3Ideal.Run
public import proofs.«01_k».proof.Proof.InProjCols
public import proofs.«01_k».proof.Proof.Row
public import Idealize.ShloMosaic.Lib.Pointwise

@[expose] public section

set_option maxHeartbeats 4000000
set_option maxRecDepth 200000

noncomputable section

namespace Cert.Reference3Ideal.InProj

open Cert.Reference3Ideal Cert.Reference3Ideal.Gen Cert.Reference3Ideal.Value
open Idealize.ShloMosaic Idealize.ShloMosaic.TcCoe

attribute [local instance] Cert.Reference3Ideal.Gen.facts

/-- The parts of `z` in the order the layer's calls read them. -/
def layout (z : FVec Ideal S16x2304x10768 .f32) : FVec Ideal S16x2304x10880 .bf16 :=
  truncf .bf16 ((concatenate S16x2304x10880 2 [⟨S16x2304x4096, ((extractStridedSlice S16x2304x4096 ![0, 0, 6672] z slices_S16x2304x10768_S16x2304x4096_0_0_6672) : (⟨S16x2304x4096, .f32⟩ : BufTy).Contents (Elt Ideal))⟩, ⟨S16x2304x1024, ((extractStridedSlice S16x2304x1024 ![0, 0, 5648] z slices_S16x2304x10768_S16x2304x1024_0_0_5648) : (⟨S16x2304x1024, .f32⟩ : BufTy).Contents (Elt Ideal))⟩, ⟨S16x2304x2560, ((extractStridedSlice S16x2304x2560 ![0, 0, 1536] z slices_S16x2304x10768_S16x2304x2560_0_0_1536) : (⟨S16x2304x2560, .f32⟩ : BufTy).Contents (Elt Ideal))⟩, ⟨S16x2304x512, ((shapeCast _ (concatenate S16x2304x4x128 3 [⟨S16x2304x4x64, (shapeCast _ (extractStridedSlice S16x2304x256 ![0, 0, 0] z slices_S16x2304x10768_S16x2304x256_0_0_0) shapeCasts_S16x2304x256_S16x2304x4x64)⟩, ⟨S16x2304x4x64, (shapeCast _ (extractStridedSlice S16x2304x256 ![0, 0, 256] z slices_S16x2304x10768_S16x2304x256_0_0_256) shapeCasts_S16x2304x256_S16x2304x4x64)⟩] concatenates_S16x2304x4x64_S16x2304x4x64_S16x2304x4x128_d3) shapeCasts_S16x2304x4x128_S16x2304x512) : (⟨S16x2304x512, .f32⟩ : BufTy).Contents (Elt Ideal))⟩, ⟨S16x2304x1024, ((extractStridedSlice S16x2304x1024 ![0, 0, 512] z slices_S16x2304x10768_S16x2304x1024_0_0_512) : (⟨S16x2304x1024, .f32⟩ : BufTy).Contents (Elt Ideal))⟩, ⟨S16x2304x512, ((shapeCast _ (concatenate S16x2304x4x128 3 [⟨S16x2304x4x64, (shapeCast _ (extractStridedSlice S16x2304x256 ![0, 0, 4096] z slices_S16x2304x10768_S16x2304x256_0_0_4096) shapeCasts_S16x2304x256_S16x2304x4x64)⟩, ⟨S16x2304x4x64, (shapeCast _ (extractStridedSlice S16x2304x256 ![0, 0, 4352] z slices_S16x2304x10768_S16x2304x256_0_0_4352) shapeCasts_S16x2304x256_S16x2304x4x64)⟩] concatenates_S16x2304x4x64_S16x2304x4x64_S16x2304x4x128_d3) shapeCasts_S16x2304x4x128_S16x2304x512) : (⟨S16x2304x512, .f32⟩ : BufTy).Contents (Elt Ideal))⟩, ⟨S16x2304x512, ((extractStridedSlice S16x2304x512 ![0, 0, 4608] z slices_S16x2304x10768_S16x2304x512_0_0_4608) : (⟨S16x2304x512, .f32⟩ : BufTy).Contents (Elt Ideal))⟩, ⟨S16x2304x512, ((extractStridedSlice S16x2304x512 ![0, 0, 5136] z slices_S16x2304x10768_S16x2304x512_0_0_5136) : (⟨S16x2304x512, .f32⟩ : BufTy).Contents (Elt Ideal))⟩, ⟨S16x2304x16, ((extractStridedSlice S16x2304x16 ![0, 0, 5120] z slices_S16x2304x10768_S16x2304x16_0_0_5120) : (⟨S16x2304x16, .f32⟩ : BufTy).Contents (Elt Ideal))⟩, ⟨S16x2304x112, ((broadcastInDim S16x2304x112 ![] bcast_S_S16x2304x112 (constant (F := Ideal) S_ .f32 0x00000000#32)) : (⟨S16x2304x112, .f32⟩ : BufTy).Contents (Elt Ideal))⟩] concatenates_S16x2304x4096_S16x2304x1024_S16x2304x2560_S16x2304x512_S16x2304x1024_S16x2304x512_S16x2304x512_S16x2304x512_S16x2304x16_S16x2304x112_S16x2304x10880_d2 : (⟨S16x2304x10880, .f32⟩ : BufTy).Contents (Elt Ideal))) bitsLt_bf16_f32

theorem layout_at (z : FVec Ideal S16x2304x10768 .f32) (b : Fin 16) (r : Fin 2304) (n : Fin 10880) :
    layout z (ix3 b r n) = Cols.pick (fun k => z (ix3 b r k)) n.val := by
  unfold layout
  pointwise
  split_ifs
  all_goals first
    | exact (Cols.pick_eq (fun k => z (ix3 b r k)) _ (by (first | rw [Cols.src0 (by omega) (by omega)] | rw [Cols.src1 (by omega) (by omega)] | rw [Cols.src2 (by omega) (by omega)] | rw [Cols.src3 (by omega) (by omega)] | rw [Cols.src4 (by omega) (by omega)] | rw [Cols.src5 (by omega) (by omega)] | rw [Cols.src6 (by omega) (by omega)] | rw [Cols.src7 (by omega) (by omega)] | rw [Cols.src8 (by omega) (by omega)]) <;> first | omega | (unfold Cols.head; split_ifs <;> omega))).symm
    | exact (Cols.pick_zero (fun k => z (ix3 b r k)) (by omega)).symm

variable (m : (ℓ : Loc nD τ sig) → Buf (Elt Ideal) ℓ) (c : Dev nD)

/-- The projected inputs, both segments. -/
def zed : FVec Ideal S16x2304x10768 .f32 :=
  (concatenate S16x2304x10768 1 [⟨S16x256x10768, (Host.dotGeneral (φ₂ := .f32) dot_S16x256x1024_S1024x10768_S16x256x10768_2_0_01_1_n_n none (addf (mulf (mulf (subf (extractStridedSlice S16x256x1024 ![0, 0, 0] (m ((c.tc : Thread nD τ).loc main_arg0) : FVec Ideal S16x2304x1024 .f32) slices_S16x2304x1024_S16x256x1024_0_0_0) (broadcastInDim S16x256x1024 ![0, 1, 2] bcast_S16x256x1_S16x256x1024_0_1_2 (Host.divf (broadcastInDim S16x256x1 ![0, 1] bcast_S16x256_S16x256x1_0_1 (Host.reduceAdd (extractStridedSlice S16x256x1024 ![0, 0, 0] (m ((c.tc : Thread nD τ).loc main_arg0) : FVec Ideal S16x2304x1024 .f32) slices_S16x2304x1024_S16x256x1024_0_0_0) (constant (F := Ideal) S_ .f32 0x00000000#32) reducesTo_S16x256x1024_S16x256_d2 h_S_)) (broadcastInDim S16x256x1 ![] bcast_S_S16x256x1 (constant (F := Ideal) S_ .f32 0x44800000#32))))) (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf (subf (extractStridedSlice S16x256x1024 ![0, 0, 0] (m ((c.tc : Thread nD τ).loc main_arg0) : FVec Ideal S16x2304x1024 .f32) slices_S16x2304x1024_S16x256x1024_0_0_0) (broadcastInDim S16x256x1024 ![0, 1, 2] bcast_S16x256x1_S16x256x1024_0_1_2 (Host.divf (broadcastInDim S16x256x1 ![0, 1] bcast_S16x256_S16x256x1_0_1 (Host.reduceAdd (extractStridedSlice S16x256x1024 ![0, 0, 0] (m ((c.tc : Thread nD τ).loc main_arg0) : FVec Ideal S16x2304x1024 .f32) slices_S16x2304x1024_S16x256x1024_0_0_0) (constant (F := Ideal) S_ .f32 0x00000000#32) reducesTo_S16x256x1024_S16x256_d2 h_S_)) (broadcastInDim S16x256x1 ![] bcast_S_S16x256x1 (constant (F := Ideal) S_ .f32 0x44800000#32))))) (subf (extractStridedSlice S16x256x1024 ![0, 0, 0] (m ((c.tc : Thread nD τ).loc main_arg0) : FVec Ideal S16x2304x1024 .f32) slices_S16x2304x1024_S16x256x1024_0_0_0) (broadcastInDim S16x256x1024 ![0, 1, 2] bcast_S16x256x1_S16x256x1024_0_1_2 (Host.divf (broadcastInDim S16x256x1 ![0, 1] bcast_S16x256_S16x256x1_0_1 (Host.reduceAdd (extractStridedSlice S16x256x1024 ![0, 0, 0] (m ((c.tc : Thread nD τ).loc main_arg0) : FVec Ideal S16x2304x1024 .f32) slices_S16x2304x1024_S16x256x1024_0_0_0) (constant (F := Ideal) S_ .f32 0x00000000#32) reducesTo_S16x256x1024_S16x256_d2 h_S_)) (broadcastInDim S16x256x1 ![] bcast_S_S16x256x1 (constant (F := Ideal) S_ .f32 0x44800000#32)))))) (constant (F := Ideal) S_ .f32 0x00000000#32) reducesTo_S16x256x1024_S16x256_d2 h_S_)) (broadcastInDim S16x256x1 ![] bcast_S_S16x256x1 (constant (F := Ideal) S_ .f32 0x44800000#32))) (broadcastInDim S16x256x1 ![] bcast_S_S16x256x1 (constant (F := Ideal) S_ .f32 0x358637BD#32)))))) (broadcastInDim S16x256x1024 ![0, 1, 2] bcast_S1x1x1024_S16x256x1024_0_1_2 (broadcastInDim S1x1x1024 ![1, 2] bcast_S1x1024_S1x1x1024_1_2 (addf (broadcastInDim S1x1024 ![] bcast_S_S1x1024 (constant (F := Ideal) S_ .f32 0x3F800000#32)) (m ((c.tc : Thread nD τ).loc main_arg4) : FVec Ideal S1x1024 .f32))))) (broadcastInDim S16x256x1024 ![0, 1, 2] bcast_S1x1x1024_S16x256x1024_0_1_2 (broadcastInDim S1x1x1024 ![1, 2] bcast_S1x1024_S1x1x1024_1_2 (m ((c.tc : Thread nD τ).loc main_arg3) : FVec Ideal S1x1024 .f32)))) (m ((c.tc : Thread nD τ).loc main_arg5) : FVec Ideal S1024x10768 .f32))⟩, ⟨S16x2048x10768, (Host.dotGeneral (φ₂ := .f32) dot_S16x2048x1024_S1024x10768_S16x2048x10768_2_0_01_1_n_n none (addf (mulf (mulf (subf (extractStridedSlice S16x2048x1024 ![0, 256, 0] (m ((c.tc : Thread nD τ).loc main_arg0) : FVec Ideal S16x2304x1024 .f32) slices_S16x2304x1024_S16x2048x1024_0_256_0) (broadcastInDim S16x2048x1024 ![0, 1, 2] bcast_S16x2048x1_S16x2048x1024_0_1_2 (Host.divf (broadcastInDim S16x2048x1 ![0, 1] bcast_S16x2048_S16x2048x1_0_1 (Host.reduceAdd (extractStridedSlice S16x2048x1024 ![0, 256, 0] (m ((c.tc : Thread nD τ).loc main_arg0) : FVec Ideal S16x2304x1024 .f32) slices_S16x2304x1024_S16x2048x1024_0_256_0) (constant (F := Ideal) S_ .f32 0x00000000#32) reducesTo_S16x2048x1024_S16x2048_d2 h_S_)) (broadcastInDim S16x2048x1 ![] bcast_S_S16x2048x1 (constant (F := Ideal) S_ .f32 0x44800000#32))))) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (subf (extractStridedSlice S16x2048x1024 ![0, 256, 0] (m ((c.tc : Thread nD τ).loc main_arg0) : FVec Ideal S16x2304x1024 .f32) slices_S16x2304x1024_S16x2048x1024_0_256_0) (broadcastInDim S16x2048x1024 ![0, 1, 2] bcast_S16x2048x1_S16x2048x1024_0_1_2 (Host.divf (broadcastInDim S16x2048x1 ![0, 1] bcast_S16x2048_S16x2048x1_0_1 (Host.reduceAdd (extractStridedSlice S16x2048x1024 ![0, 256, 0] (m ((c.tc : Thread nD τ).loc main_arg0) : FVec Ideal S16x2304x1024 .f32) slices_S16x2304x1024_S16x2048x1024_0_256_0) (constant (F := Ideal) S_ .f32 0x00000000#32) reducesTo_S16x2048x1024_S16x2048_d2 h_S_)) (broadcastInDim S16x2048x1 ![] bcast_S_S16x2048x1 (constant (F := Ideal) S_ .f32 0x44800000#32))))) (subf (extractStridedSlice S16x2048x1024 ![0, 256, 0] (m ((c.tc : Thread nD τ).loc main_arg0) : FVec Ideal S16x2304x1024 .f32) slices_S16x2304x1024_S16x2048x1024_0_256_0) (broadcastInDim S16x2048x1024 ![0, 1, 2] bcast_S16x2048x1_S16x2048x1024_0_1_2 (Host.divf (broadcastInDim S16x2048x1 ![0, 1] bcast_S16x2048_S16x2048x1_0_1 (Host.reduceAdd (extractStridedSlice S16x2048x1024 ![0, 256, 0] (m ((c.tc : Thread nD τ).loc main_arg0) : FVec Ideal S16x2304x1024 .f32) slices_S16x2304x1024_S16x2048x1024_0_256_0) (constant (F := Ideal) S_ .f32 0x00000000#32) reducesTo_S16x2048x1024_S16x2048_d2 h_S_)) (broadcastInDim S16x2048x1 ![] bcast_S_S16x2048x1 (constant (F := Ideal) S_ .f32 0x44800000#32)))))) (constant (F := Ideal) S_ .f32 0x00000000#32) reducesTo_S16x2048x1024_S16x2048_d2 h_S_)) (broadcastInDim S16x2048x1 ![] bcast_S_S16x2048x1 (constant (F := Ideal) S_ .f32 0x44800000#32))) (broadcastInDim S16x2048x1 ![] bcast_S_S16x2048x1 (constant (F := Ideal) S_ .f32 0x358637BD#32)))))) (broadcastInDim S16x2048x1024 ![0, 1, 2] bcast_S16x1x1024_S16x2048x1024_0_1_2 (addf (broadcastInDim S16x1x1024 ![] bcast_S_S16x1x1024 (constant (F := Ideal) S_ .f32 0x3F800000#32)) (m ((c.tc : Thread nD τ).loc main_arg2) : FVec Ideal S16x1x1024 .f32)))) (broadcastInDim S16x2048x1024 ![0, 1, 2] bcast_S16x1x1024_S16x2048x1024_0_1_2 (m ((c.tc : Thread nD τ).loc main_arg1) : FVec Ideal S16x1x1024 .f32))) (m ((c.tc : Thread nD τ).loc main_arg5) : FVec Ideal S1024x10768 .f32))⟩] concatenates_S16x256x10768_S16x2048x10768_S16x2304x10768_d1)

theorem result_eq : (res_main_v76 (F := Ideal) m c : FVec Ideal S16x2304x10880 .bf16) = layout (zed m c) := rfl

theorem zed_at (b : Fin 16) (r : Fin 2304) (k : Fin 10768) :
    zed m c (ix3 b r k)
      = ∑ x : Fin 1024, Row.modulated (fun x => (m ((c : Thread nD τ).loc main_arg0) : FVec Ideal S16x2304x1024 .f32) (ix3 b r x))
          (fun x => if r.val < 256 then (m ((c : Thread nD τ).loc main_arg4) : FVec Ideal S1x1024 .f32) (ix2 0 x) else (m ((c : Thread nD τ).loc main_arg2) : FVec Ideal S16x1x1024 .f32) (ix3 b 0 x))
          (fun x => if r.val < 256 then (m ((c : Thread nD τ).loc main_arg3) : FVec Ideal S1x1024 .f32) (ix2 0 x) else (m ((c : Thread nD τ).loc main_arg1) : FVec Ideal S16x1x1024 .f32) (ix3 b 0 x)) x
          * (m ((c : Thread nD τ).loc main_arg5) : FVec Ideal S1024x10768 .f32) (ix2 x k) := by
  unfold zed
  pointwise
  split
  · rename_i h
    rfl
  · rename_i h
    have e : ∀ hh, (⟨256 + (r.val - 256), hh⟩ : Fin 2304) = r := fun _ => Fin.ext (by simp only []; omega)
    simp only [e]
    rfl

end Cert.Reference3Ideal.InProj

end
-- ==== Proof.InProjClaim.lean ====
/- The input projection: its kernel's result is its reference's. -/
module
public import proofs.«01_k».proof.Defs
public import proofs.«01_k».proof.Proof.InProjArray
public import proofs.«01_k».proof.Proof.InProjRef

@[expose] public section

set_option maxHeartbeats 4000000

noncomputable section

namespace Cert.Proof

open Idealize.ShloMosaic Idealize.SL.Sem

attribute [local instance] Cert.Kernel3Ideal.Gen.facts Cert.Reference3Ideal.Gen.facts

/-- Projecting on a column of the laid out matrix is reading the projection at the column behind it. -/
theorem pick_sum (x : Fin 1024 → EReal) (w : Fin 1024 → Fin 10768 → EReal) (n : ℕ) :
    Cols.pick (fun k => ∑ y, x y * w y k) n = ∑ y, x y * Cols.pick (w y) n := by
  unfold Cols.pick
  split
  · rfl
  · simp only [mul_zero, Finset.sum_const_zero]

/-- The input projection's kernel and reference leave equal results from equal arguments. -/
theorem inproj_algebraic : Cert.algebraic_Kernel3Ideal_Reference3Ideal := by
  intro m g m' g' _ hA
  refine ⟨fun c => (Cert.Kernel3Ideal.Gen.dats m 0 c).arrAt 6 Cert.Kernel3Ideal.cfg0.N, Cert.Kernel3Ideal.Value.run_blocks m g, ?_⟩
  refine (θ_run _ _ _).mono (fun r h c => ⟨(h c).1.trans ?_, (h c).2⟩) (Cert.Reference3Ideal.Value.run m' g')
  refine Eq.trans ?_ (Cert.Kernel3Ideal.InProj.arrAt_eq m c).symm
  funext i
  obtain ⟨b, r, n, rfl⟩ : ∃ (b : Fin 16) (r : Fin 2304) (n : Fin 10880), i = ix3 b r n :=
    ⟨i 0, i 1, i 2, by funext a; match a with | 0 => rfl | 1 => rfl | 2 => rfl⟩
  refine (Cert.Reference3Ideal.InProj.layout_at (Cert.Reference3Ideal.InProj.zed m' c) b r n).trans ?_
  simp only [Cert.Reference3Ideal.InProj.zed_at]
  refine (pick_sum _ _ _).trans ?_
  obtain ⟨h0, h1, h2, h3, h4, h5⟩ := hA c
  rw [h0, h1, h2, h3, h4, h5]
  rfl

end Cert.Proof

end
-- ==== Proof.ConvFFNPiece.lean ====
/- One stored piece of the ConvFFN's activation: the two convolved columns of a row, gated. -/
module
public import proofs.«01_k».proof.Proof.Gen.Kernel2Ideal.Value
public import proofs.«01_k».proof.Proof.Row
public import Idealize.ShloMosaic.Lib.Pointwise
public import Idealize.ShloMosaic.Lib.Pipeline.ReadBack
public import Idealize.ShloMosaic.Lib.Pipeline.ValueKit.Point
public import Idealize.ShloMosaic.Lib.Pipeline.ValueKit.Acc
public import Idealize.ShloMosaic.Lib.Pipeline.ValueKit.Tiles

@[expose] public section

set_option maxHeartbeats 1000000

noncomputable section

namespace Cert.Kernel2Ideal.Ffn

open Cert.Kernel2Ideal Cert.Kernel2Ideal.Gen
open Idealize.ShloMosaic Idealize.ShloMosaic.TcCoe

/-- One column tile of the widened rows. -/
def wide (xm : FVec Ideal S784x1024 .bf16) (w : Vec Ideal S1024x256 .bf16) : FVec Ideal S784x256 .f32 :=
  shapeCast S784x256 (matmul dot_S784x1024_S1024x256_S784x256_1_0_0_1_n_n none xm ((shapeCast S1024x256 w shapeCasts_S1024x256_S1024x256 : FVec Ideal S1024x256 .bf16))
    (constant S784x256 .f32 0x00000000#32)) shapeCasts_S784x256_S784x256

/-- The three taps of a block of rows, with the bias row. -/
def taps (mu md : FVec Ideal S128x1 .f32) (cw : Vec Ideal S3x256 .f32) (cb : Vec Ideal S1x256 .f32) (up mid dn : Vec Ideal S128x256 .f32) : FVec Ideal S128x256 .f32 :=
  addf (addf (addf
    (mulf (broadcastTo S128x256 (extractStridedSlice S1x256 ![0, 0] cw slices_S3x256_o0_0_S1x256) broadcasts_S1x256_S128x256) (mulf (broadcastTo S128x256 mu broadcasts_S128x1_S128x256) up))
    (mulf (broadcastTo S128x256 (extractStridedSlice S1x256 ![1, 0] cw slices_S3x256_o1_0_S1x256) broadcasts_S1x256_S128x256) mid))
    (mulf (broadcastTo S128x256 (extractStridedSlice S1x256 ![2, 0] cw slices_S3x256_o2_0_S1x256) broadcasts_S1x256_S128x256) (mulf (broadcastTo S128x256 md broadcasts_S128x1_S128x256) dn)))
    (broadcastTo S128x256 (shapeCast S1x256 cb shapeCasts_S1x256_S1x256) broadcasts_S1x256_S128x256)

/-- The gated block that is stored. -/
def block (mu md : FVec Ideal S128x1 .f32) (cwv : Vec Ideal S3x256 .f32) (cbv : Vec Ideal S1x256 .f32) (upv midv dnv : Vec Ideal S128x256 .f32)
    (cwg : Vec Ideal S3x256 .f32) (cbg : Vec Ideal S1x256 .f32) (upg midg dng : Vec Ideal S128x256 .f32) : FVec Ideal S128x256 .bf16 :=
  shapeCast S128x256 (truncf .bf16 (mulf (mulf (taps mu md cwg cbg upg midg dng) (logistic (taps mu md cwg cbg upg midg dng))) (taps mu md cwv cbv upv midv dnv)) bitsLt_bf16_f32)
    shapeCasts_S128x256_S128x256

theorem wide_at (xm : FVec Ideal S784x1024 .bf16) (w : Vec Ideal S1024x256 .bf16) (r : Fin 784) (q : Fin 256) :
    wide xm w (ix2 r q) = ∑ k : Fin 1024, xm (ix2 r k) * w (ix2 k q) := by
  pointwise [wide]

theorem taps_at (mu md : FVec Ideal S128x1 .f32) (cw : Vec Ideal S3x256 .f32) (cb : Vec Ideal S1x256 .f32) (up mid dn : Vec Ideal S128x256 .f32) (p : Fin 128) (q : Fin 256) :
    taps mu md cw cb up mid dn (ix2 p q)
      = cw (ix2 0 q) * (mu (ix2 p 0) * up (ix2 p q)) + cw (ix2 1 q) * mid (ix2 p q) + cw (ix2 2 q) * (md (ix2 p 0) * dn (ix2 p q)) + cb (ix2 0 q) := by
  pointwise [taps]

theorem block_at (mu md : FVec Ideal S128x1 .f32) (cwv : Vec Ideal S3x256 .f32) (cbv : Vec Ideal S1x256 .f32) (upv midv dnv : Vec Ideal S128x256 .f32)
    (cwg : Vec Ideal S3x256 .f32) (cbg : Vec Ideal S1x256 .f32) (upg midg dng : Vec Ideal S128x256 .f32) (p : Fin 128) (q : Fin 256) :
    block mu md cwv cbv upv midv dnv cwg cbg upg midg dng (ix2 p q)
      = taps mu md cwg cbg upg midg dng (ix2 p q) * Ideal.logistic (taps mu md cwg cbg upg midg dng (ix2 p q)) * taps mu md cwv cbv upv midv dnv (ix2 p q) := by
  pointwise [block]

/-- A widened row, read at a column. -/
def wideRow (xm : FVec Ideal S784x1024 .bf16) (wu : Vec Ideal S1024x5632 .bf16) (r : Fin 784) (f : Fin 5632) : EReal :=
  ∑ k : Fin 1024, xm (ix2 r k) * wu (ix2 k f)

/-- The convolution of one column at one row. -/
def convAt (mu md : FVec Ideal S768x1 .f32) (xm : FVec Ideal S784x1024 .bf16) (wu : Vec Ideal S1024x5632 .bf16) (cw : Vec Ideal S3x5632 .f32) (cb : Vec Ideal S1x5632 .f32)
    (r : Fin 768) (f : Fin 5632) : EReal :=
  cw (ix2 0 f) * (mu (ix2 r 0) * wideRow xm wu ⟨7 + r.val, by omega⟩ f) + cw (ix2 1 f) * wideRow xm wu ⟨8 + r.val, by omega⟩ f
    + cw (ix2 2 f) * (md (ix2 r 0) * wideRow xm wu ⟨9 + r.val, by omega⟩ f) + cb (ix2 0 f)

/-- The gated activation of one column at one row. -/
def gatedAt (mu md : FVec Ideal S768x1 .f32) (xm : FVec Ideal S784x1024 .bf16) (wu : Vec Ideal S1024x5632 .bf16) (cw : Vec Ideal S3x5632 .f32) (cb : Vec Ideal S1x5632 .f32)
    (r : Fin 768) (f : Fin 2816) : EReal :=
  convAt mu md xm wu cw cb r ⟨2816 + f.val, by omega⟩ * Ideal.logistic (convAt mu md xm wu cw cb r ⟨2816 + f.val, by omega⟩)
    * convAt mu md xm wu cw cb r ⟨f.val, by omega⟩

/-- The taps of a block of rows from `a` on and columns from `j` on are the convolution there. -/
theorem taps_conv (mu md : FVec Ideal S768x1 .f32) (xm : FVec Ideal S784x1024 .bf16) (wu : Vec Ideal S1024x5632 .bf16) (cw : Vec Ideal S3x5632 .f32) (cb : Vec Ideal S1x5632 .f32)
    (a j a7 a8 a9 : ℕ) (e7 : a7 = 7 + a) (e8 : a8 = 8 + a) (e9 : a9 = 9 + a) (hm hd hcw hcb hw h7 h8 h9) (p : Fin 128) (q : Fin 256) (hr : a + p.val < 768) (hf : j + q.val < 5632) :
    taps (extractStridedSlice S128x1 ![a, 0] mu hm) (extractStridedSlice S128x1 ![a, 0] md hd)
        (View.ld cw (Rect.unit (s := S3x5632) ![0, j] ![3, 256] hcw)) (View.ld cb (Rect.unit (s := S1x5632) ![0, j] ![1, 256] hcb))
        (View.ld (wide xm (View.ld wu (Rect.unit (s := S1024x5632) ![0, j] ![1024, 256] hw))) (Rect.unit (s := S784x256) ![a7, 0] ![128, 256] h7))
        (View.ld (wide xm (View.ld wu (Rect.unit (s := S1024x5632) ![0, j] ![1024, 256] hw))) (Rect.unit (s := S784x256) ![a8, 0] ![128, 256] h8))
        (View.ld (wide xm (View.ld wu (Rect.unit (s := S1024x5632) ![0, j] ![1024, 256] hw))) (Rect.unit (s := S784x256) ![a9, 0] ![128, 256] h9)) (ix2 p q)
      = convAt mu md xm wu cw cb ⟨a + p.val, hr⟩ ⟨j + q.val, hf⟩ := by
  have es : ∀ (m : FVec Ideal S768x1 .f32) (h), extractStridedSlice S128x1 ![a, 0] m h (ix2 p 0) = m (ix2 ⟨a + p.val, hr⟩ 0) := by
    intro m h
    show m _ = m _
    congr 1
    blk_ext
    all_goals simp [extractStridedSlice]
  have ecw : ∀ i : Fin 3, (View.ld cw (Rect.unit (s := S3x5632) ![0, j] ![3, 256] hcw) : Vec Ideal S3x256 .f32) (ix2 i q) = cw (ix2 i ⟨j + q.val, hf⟩) := by
    intro i
    show cw _ = cw _
    congr 1
    blk_ext
    all_goals (rw [Rect.idx_unit_val]; simp)
  have ecb : (View.ld cb (Rect.unit (s := S1x5632) ![0, j] ![1, 256] hcb) : Vec Ideal S1x256 .f32) (ix2 0 q) = cb (ix2 0 ⟨j + q.val, hf⟩) := by
    show cb _ = cb _
    congr 1
    blk_ext
    all_goals (rw [Rect.idx_unit_val]; simp)
  have eu : ∀ (o : ℕ) (ho) (hlt : o + p.val < 784),
      (View.ld (wide xm (View.ld wu (Rect.unit (s := S1024x5632) ![0, j] ![1024, 256] hw))) (Rect.unit (s := S784x256) ![o, 0] ![128, 256] ho) : Vec Ideal S128x256 .f32) (ix2 p q)
        = wideRow xm wu ⟨o + p.val, hlt⟩ ⟨j + q.val, hf⟩ := by
    intro o ho hlt
    have e1 : (View.ld (wide xm (View.ld wu (Rect.unit (s := S1024x5632) ![0, j] ![1024, 256] hw))) (Rect.unit (s := S784x256) ![o, 0] ![128, 256] ho) : Vec Ideal S128x256 .f32) (ix2 p q)
        = wide xm (View.ld wu (Rect.unit (s := S1024x5632) ![0, j] ![1024, 256] hw)) (ix2 ⟨o + p.val, hlt⟩ q) := by
      show wide xm _ _ = wide xm _ _
      congr 1
      blk_ext
      all_goals (rw [Rect.idx_unit_val]; simp)
    rw [e1, wide_at]
    refine Finset.sum_congr rfl fun k _ => congrArg (_ * ·) ?_
    show wu _ = wu _
    congr 1
    blk_ext
    all_goals (rw [Rect.idx_unit_val]; simp)
  rw [taps_at, es, es, ecw, ecw, ecw, ecb, eu a7 h7 (by omega), eu a8 h8 (by omega), eu a9 h9 (by omega)]
  subst e7 e8 e9
  simp only [convAt, Nat.add_assoc]

/-- The stored block at rows from `a` on and columns from `j` on. -/
theorem block_gated (mu md : FVec Ideal S768x1 .f32) (xm : FVec Ideal S784x1024 .bf16) (wu : Vec Ideal S1024x5632 .bf16) (cw : Vec Ideal S3x5632 .f32) (cb : Vec Ideal S1x5632 .f32)
    (a j a7 a8 a9 g : ℕ) (e7 : a7 = 7 + a) (e8 : a8 = 8 + a) (e9 : a9 = 9 + a) (eg : g = 2816 + j) (ha : a + 128 ≤ 768) (hj : j + 256 ≤ 2816)
    (hm hd hcw hcb hw h7 h8 h9 gcw gcb gw g7 g8 g9 hp) (x : S128x256.Idx) :
    block (extractStridedSlice S128x1 ![a, 0] mu hm) (extractStridedSlice S128x1 ![a, 0] md hd)
        (View.ld cw (Rect.unit (s := S3x5632) ![0, j] ![3, 256] hcw)) (View.ld cb (Rect.unit (s := S1x5632) ![0, j] ![1, 256] hcb))
        (View.ld (wide xm (View.ld wu (Rect.unit (s := S1024x5632) ![0, j] ![1024, 256] hw))) (Rect.unit (s := S784x256) ![a7, 0] ![128, 256] h7))
        (View.ld (wide xm (View.ld wu (Rect.unit (s := S1024x5632) ![0, j] ![1024, 256] hw))) (Rect.unit (s := S784x256) ![a8, 0] ![128, 256] h8))
        (View.ld (wide xm (View.ld wu (Rect.unit (s := S1024x5632) ![0, j] ![1024, 256] hw))) (Rect.unit (s := S784x256) ![a9, 0] ![128, 256] h9))
        (View.ld cw (Rect.unit (s := S3x5632) ![0, g] ![3, 256] gcw)) (View.ld cb (Rect.unit (s := S1x5632) ![0, g] ![1, 256] gcb))
        (View.ld (wide xm (View.ld wu (Rect.unit (s := S1024x5632) ![0, g] ![1024, 256] gw))) (Rect.unit (s := S784x256) ![a7, 0] ![128, 256] g7))
        (View.ld (wide xm (View.ld wu (Rect.unit (s := S1024x5632) ![0, g] ![1024, 256] gw))) (Rect.unit (s := S784x256) ![a8, 0] ![128, 256] g8))
        (View.ld (wide xm (View.ld wu (Rect.unit (s := S1024x5632) ![0, g] ![1024, 256] gw))) (Rect.unit (s := S784x256) ![a9, 0] ![128, 256] g9)) x
      = (fun y : S768x2816.Idx => gatedAt mu md xm wu cw cb (y 0) (y 1)) ((Rect.unit (s := S768x2816) ![a, j] ![128, 256] hp).emb x) := by
  obtain ⟨p, q, rfl⟩ : ∃ (p : Fin 128) (q : Fin 256), x = ix2 p q := ⟨x 0, x 1, (ix2_eta x).symm⟩
  rw [block_at, taps_conv mu md xm wu cw cb a g a7 a8 a9 e7 e8 e9 _ _ _ _ _ _ _ _ p q (by omega) (by omega),
    taps_conv mu md xm wu cw cb a j a7 a8 a9 e7 e8 e9 _ _ _ _ _ _ _ _ p q (by omega) (by omega)]
  have er : ((Rect.unit (s := S768x2816) ![a, j] ![128, 256] hp).emb (ix2 p q) 0 : Fin 768) = (⟨a + p.val, by omega⟩ : Fin 768) := Fin.ext (by simp [Rect.emb, Rect.unit])
  have ef : ((Rect.unit (s := S768x2816) ![a, j] ![128, 256] hp).emb (ix2 p q) 1 : Fin 2816) = (⟨j + q.val, by omega⟩ : Fin 2816) := Fin.ext (by simp [Rect.emb, Rect.unit])
  subst eg
  show _ = gatedAt mu md xm wu cw cb (((Rect.unit (s := S768x2816) ![a, j] ![128, 256] hp).emb (ix2 p q) 0 : Fin 768)) (((Rect.unit (s := S768x2816) ![a, j] ![128, 256] hp).emb (ix2 p q) 1 : Fin 2816))
  rw [er, ef]
  simp only [gatedAt, Nat.add_assoc]

end Cert.Kernel2Ideal.Ffn

end
-- ==== Proof.ConvFFNAct.lean ====
/- The ConvFFN's body, its stored activation read back as one function of row and column. -/
module
public import proofs.«01_k».proof.Proof.ConvFFNPiece

@[expose] public section

set_option maxHeartbeats 4000000
set_option maxRecDepth 100000

noncomputable section

namespace Cert.Kernel2Ideal.Ffn

open Cert.Kernel2Ideal Cert.Kernel2Ideal.Gen
open Idealize.ShloMosaic Idealize.ShloMosaic.TcCoe

variable (m : (ℓ : Loc nD τ sig) → Buf (Elt Ideal) ℓ) (c : Dev nD)

/-- A load of the whole activation over the stored blocks of one function reads the function. -/
theorem readCov_blocks (v : View sig .tc .vmem S768x2816 .bf16) (G : S768x2816.Idx → Elt Ideal .bf16) (L : List (View.Piece (Elt Ideal) S768x2816 .bf16)) (h)
    (hp : View.PiecesOf G L) (ht : View.Piece.tiled L ![128, 256] = true) :
    v.readCov L (Rect.unit (s := S768x2816) ![0, 0] S768x2816.size h).toLoadRect = G := by
  rw [View.readCov_eq_canon']
  funext j
  have e : (Rect.unit (s := S768x2816) ![0, 0] S768x2816.size h).idx j = j := by
    blk_ext
    all_goals (rw [Rect.idx_unit_val]; simp)
  refine Eq.trans (congrArg (View.canon L) e) ?_
  exact View.canon_apply_of_pieces G L hp.mem j (View.cover_of_tiled L _ ht j)

/-- The rows' masks and the modulated rows of a point. -/
def maskUp (i : grid0.Coords) : FVec Ideal S768x1 .f32 := k0_pay10 (Scalar.muli (BitVec.ofNat 32 (i 1).val) 768#32)
def maskDn (i : grid0.Coords) : FVec Ideal S768x1 .f32 := k0_pay11 (Scalar.muli (BitVec.ofNat 32 (i 1).val) 768#32)
def rows (i : grid0.Coords) (x0 : Vec Ideal S1x768x1024 .f32) (x1 x2 : Vec Ideal S1x8x1024 .f32) (x3 x4 : Vec Ideal S1x1x1024 .f32) (x6 x7 : Vec Ideal S1x1024 .f32) : FVec Ideal S784x1024 .bf16 :=
  k0_pay8 (k0_pay3 x0 x1 x2) (k0_pay5 i x4 x7) (k0_pay6 i x3 x6) (k0_pay7 x0 x1 x2)

/-- The activation of a point, as one function of row and column. -/
def acts (t : Fin cfg0.N) : Vec Ideal S768x2816 .bf16 := fun y =>
  gatedAt (maskUp (grid0.coords t)) (maskDn (grid0.coords t))
    (rows (grid0.coords t) (iblk m c 0 t) (iblk m c 1 t) (iblk m c 2 t) (iblk m c 3 t) (iblk m c 4 t) (iblk m c 6 t) (iblk m c 7 t))
    (iblk m c 9 t) (iblk m c 10 t) (iblk m c 11 t) (y 0) (y 1)

/-- What a point leaves, over that activation. -/
theorem outs_eq (t : Fin cfg0.N) : outsAt0 (F := Ideal) m c t
    = k0_pay1 (k0_pay409
        (k0_pay407 (k0_pay2 (iblk m c 0 t)) (k0_pay9 (Scalar.muli (BitVec.ofNat 32 (grid0.coords t 1).val) 768#32)) (acts m c t) (iblk m c 12 t) (iblk m c 8 t) (iblk m c 5 t))
        (k0_pay408 (k0_pay2 (iblk m c 0 t)) (k0_pay9 (Scalar.muli (BitVec.ofNat 32 (grid0.coords t 1).val) 768#32)) (acts m c t) (iblk m c 12 t) (iblk m c 8 t) (iblk m c 5 t))
        (iblk m c 13 t) (iblk m c 14 t)) := by
  unfold acts rows maskUp maskDn
  unfold outsAt0
  frame_open
  simp (disch := decide) only [↓ View.readCov_skip, ↓ View.readCov_cons_toLoadRect, ↓ View.readCov_fill]
  frame_out
  generalize hxm : k0_pay8 (k0_pay3 (iblk m c 0 t) (iblk m c 1 t) (iblk m c 2 t)) (k0_pay5 (grid0.coords t) (iblk m c 4 t) (iblk m c 7 t))
    (k0_pay6 (grid0.coords t) (iblk m c 3 t) (iblk m c 6 t)) (k0_pay7 (iblk m c 0 t) (iblk m c 1 t) (iblk m c 2 t)) = xm
  generalize hmu : (k0_pay10 (F := Ideal) (Scalar.muli (BitVec.ofNat 32 (grid0.coords t 1).val) 768#32)) = mu
  generalize hmd : (k0_pay11 (F := Ideal) (Scalar.muli (BitVec.ofNat 32 (grid0.coords t 1).val) 768#32)) = md
  generalize hwu : iblk m c 9 t = wu
  generalize hcw : iblk m c 10 t = cw
  generalize hcb : iblk m c 11 t = cb
  rw [readCov_blocks _ (fun y : S768x2816.Idx => gatedAt mu md xm wu cw cb (y 0) (y 1)) _ _ ?hp (by rfl)]
  case hp =>
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
    · exact fun x => block_gated mu md xm wu cw cb 640 2560 647 648 649 5376 rfl rfl rfl rfl (by decide) (by decide) slices_S768x1_o640_0_S128x1 slices_S768x1_o640_0_S128x1
        inb_S3x5632_S3x256_0_2560 inb_S1x5632_S1x256_0_2560 inb_S1024x5632_S1024x256_0_2560 inb_S784x256_S128x256_647_0 inb_S784x256_S128x256_648_0 inb_S784x256_S128x256_649_0
        inb_S3x5632_S3x256_0_5376 inb_S1x5632_S1x256_0_5376 inb_S1024x5632_S1024x256_0_5376 inb_S784x256_S128x256_647_0 inb_S784x256_S128x256_648_0 inb_S784x256_S128x256_649_0
        inb_S768x2816_S128x256_640_2560 x
    · exact fun x => block_gated mu md xm wu cw cb 512 2560 519 520 521 5376 rfl rfl rfl rfl (by decide) (by decide) slices_S768x1_o512_0_S128x1 slices_S768x1_o512_0_S128x1
        inb_S3x5632_S3x256_0_2560 inb_S1x5632_S1x256_0_2560 inb_S1024x5632_S1024x256_0_2560 inb_S784x256_S128x256_519_0 inb_S784x256_S128x256_520_0 inb_S784x256_S128x256_521_0
        inb_S3x5632_S3x256_0_5376 inb_S1x5632_S1x256_0_5376 inb_S1024x5632_S1024x256_0_5376 inb_S784x256_S128x256_519_0 inb_S784x256_S128x256_520_0 inb_S784x256_S128x256_521_0
        inb_S768x2816_S128x256_512_2560 x
    · exact fun x => block_gated mu md xm wu cw cb 384 2560 391 392 393 5376 rfl rfl rfl rfl (by decide) (by decide) slices_S768x1_o384_0_S128x1 slices_S768x1_o384_0_S128x1
        inb_S3x5632_S3x256_0_2560 inb_S1x5632_S1x256_0_2560 inb_S1024x5632_S1024x256_0_2560 inb_S784x256_S128x256_391_0 inb_S784x256_S128x256_392_0 inb_S784x256_S128x256_393_0
        inb_S3x5632_S3x256_0_5376 inb_S1x5632_S1x256_0_5376 inb_S1024x5632_S1024x256_0_5376 inb_S784x256_S128x256_391_0 inb_S784x256_S128x256_392_0 inb_S784x256_S128x256_393_0
        inb_S768x2816_S128x256_384_2560 x
    · exact fun x => block_gated mu md xm wu cw cb 256 2560 263 264 265 5376 rfl rfl rfl rfl (by decide) (by decide) slices_S768x1_o256_0_S128x1 slices_S768x1_o256_0_S128x1
        inb_S3x5632_S3x256_0_2560 inb_S1x5632_S1x256_0_2560 inb_S1024x5632_S1024x256_0_2560 inb_S784x256_S128x256_263_0 inb_S784x256_S128x256_264_0 inb_S784x256_S128x256_265_0
        inb_S3x5632_S3x256_0_5376 inb_S1x5632_S1x256_0_5376 inb_S1024x5632_S1024x256_0_5376 inb_S784x256_S128x256_263_0 inb_S784x256_S128x256_264_0 inb_S784x256_S128x256_265_0
        inb_S768x2816_S128x256_256_2560 x
    · exact fun x => block_gated mu md xm wu cw cb 128 2560 135 136 137 5376 rfl rfl rfl rfl (by decide) (by decide) slices_S768x1_o128_0_S128x1 slices_S768x1_o128_0_S128x1
        inb_S3x5632_S3x256_0_2560 inb_S1x5632_S1x256_0_2560 inb_S1024x5632_S1024x256_0_2560 inb_S784x256_S128x256_135_0 inb_S784x256_S128x256_136_0 inb_S784x256_S128x256_137_0
        inb_S3x5632_S3x256_0_5376 inb_S1x5632_S1x256_0_5376 inb_S1024x5632_S1024x256_0_5376 inb_S784x256_S128x256_135_0 inb_S784x256_S128x256_136_0 inb_S784x256_S128x256_137_0
        inb_S768x2816_S128x256_128_2560 x
    · exact fun x => block_gated mu md xm wu cw cb 0 2560 7 8 9 5376 rfl rfl rfl rfl (by decide) (by decide) slices_S768x1_o0_0_S128x1 slices_S768x1_o0_0_S128x1
        inb_S3x5632_S3x256_0_2560 inb_S1x5632_S1x256_0_2560 inb_S1024x5632_S1024x256_0_2560 inb_S784x256_S128x256_7_0 inb_S784x256_S128x256_8_0 inb_S784x256_S128x256_9_0
        inb_S3x5632_S3x256_0_5376 inb_S1x5632_S1x256_0_5376 inb_S1024x5632_S1024x256_0_5376 inb_S784x256_S128x256_7_0 inb_S784x256_S128x256_8_0 inb_S784x256_S128x256_9_0
        inb_S768x2816_S128x256_0_2560 x
    · exact fun x => block_gated mu md xm wu cw cb 640 2304 647 648 649 5120 rfl rfl rfl rfl (by decide) (by decide) slices_S768x1_o640_0_S128x1 slices_S768x1_o640_0_S128x1
        inb_S3x5632_S3x256_0_2304 inb_S1x5632_S1x256_0_2304 inb_S1024x5632_S1024x256_0_2304 inb_S784x256_S128x256_647_0 inb_S784x256_S128x256_648_0 inb_S784x256_S128x256_649_0
        inb_S3x5632_S3x256_0_5120 inb_S1x5632_S1x256_0_5120 inb_S1024x5632_S1024x256_0_5120 inb_S784x256_S128x256_647_0 inb_S784x256_S128x256_648_0 inb_S784x256_S128x256_649_0
        inb_S768x2816_S128x256_640_2304 x
    · exact fun x => block_gated mu md xm wu cw cb 512 2304 519 520 521 5120 rfl rfl rfl rfl (by decide) (by decide) slices_S768x1_o512_0_S128x1 slices_S768x1_o512_0_S128x1
        inb_S3x5632_S3x256_0_2304 inb_S1x5632_S1x256_0_2304 inb_S1024x5632_S1024x256_0_2304 inb_S784x256_S128x256_519_0 inb_S784x256_S128x256_520_0 inb_S784x256_S128x256_521_0
        inb_S3x5632_S3x256_0_5120 inb_S1x5632_S1x256_0_5120 inb_S1024x5632_S1024x256_0_5120 inb_S784x256_S128x256_519_0 inb_S784x256_S128x256_520_0 inb_S784x256_S128x256_521_0
        inb_S768x2816_S128x256_512_2304 x
    · exact fun x => block_gated mu md xm wu cw cb 384 2304 391 392 393 5120 rfl rfl rfl rfl (by decide) (by decide) slices_S768x1_o384_0_S128x1 slices_S768x1_o384_0_S128x1
        inb_S3x5632_S3x256_0_2304 inb_S1x5632_S1x256_0_2304 inb_S1024x5632_S1024x256_0_2304 inb_S784x256_S128x256_391_0 inb_S784x256_S128x256_392_0 inb_S784x256_S128x256_393_0
        inb_S3x5632_S3x256_0_5120 inb_S1x5632_S1x256_0_5120 inb_S1024x5632_S1024x256_0_5120 inb_S784x256_S128x256_391_0 inb_S784x256_S128x256_392_0 inb_S784x256_S128x256_393_0
        inb_S768x2816_S128x256_384_2304 x
    · exact fun x => block_gated mu md xm wu cw cb 256 2304 263 264 265 5120 rfl rfl rfl rfl (by decide) (by decide) slices_S768x1_o256_0_S128x1 slices_S768x1_o256_0_S128x1
        inb_S3x5632_S3x256_0_2304 inb_S1x5632_S1x256_0_2304 inb_S1024x5632_S1024x256_0_2304 inb_S784x256_S128x256_263_0 inb_S784x256_S128x256_264_0 inb_S784x256_S128x256_265_0
        inb_S3x5632_S3x256_0_5120 inb_S1x5632_S1x256_0_5120 inb_S1024x5632_S1024x256_0_5120 inb_S784x256_S128x256_263_0 inb_S784x256_S128x256_264_0 inb_S784x256_S128x256_265_0
        inb_S768x2816_S128x256_256_2304 x
    · exact fun x => block_gated mu md xm wu cw cb 128 2304 135 136 137 5120 rfl rfl rfl rfl (by decide) (by decide) slices_S768x1_o128_0_S128x1 slices_S768x1_o128_0_S128x1
        inb_S3x5632_S3x256_0_2304 inb_S1x5632_S1x256_0_2304 inb_S1024x5632_S1024x256_0_2304 inb_S784x256_S128x256_135_0 inb_S784x256_S128x256_136_0 inb_S784x256_S128x256_137_0
        inb_S3x5632_S3x256_0_5120 inb_S1x5632_S1x256_0_5120 inb_S1024x5632_S1024x256_0_5120 inb_S784x256_S128x256_135_0 inb_S784x256_S128x256_136_0 inb_S784x256_S128x256_137_0
        inb_S768x2816_S128x256_128_2304 x
    · exact fun x => block_gated mu md xm wu cw cb 0 2304 7 8 9 5120 rfl rfl rfl rfl (by decide) (by decide) slices_S768x1_o0_0_S128x1 slices_S768x1_o0_0_S128x1
        inb_S3x5632_S3x256_0_2304 inb_S1x5632_S1x256_0_2304 inb_S1024x5632_S1024x256_0_2304 inb_S784x256_S128x256_7_0 inb_S784x256_S128x256_8_0 inb_S784x256_S128x256_9_0
        inb_S3x5632_S3x256_0_5120 inb_S1x5632_S1x256_0_5120 inb_S1024x5632_S1024x256_0_5120 inb_S784x256_S128x256_7_0 inb_S784x256_S128x256_8_0 inb_S784x256_S128x256_9_0
        inb_S768x2816_S128x256_0_2304 x
    · exact fun x => block_gated mu md xm wu cw cb 640 2048 647 648 649 4864 rfl rfl rfl rfl (by decide) (by decide) slices_S768x1_o640_0_S128x1 slices_S768x1_o640_0_S128x1
        inb_S3x5632_S3x256_0_2048 inb_S1x5632_S1x256_0_2048 inb_S1024x5632_S1024x256_0_2048 inb_S784x256_S128x256_647_0 inb_S784x256_S128x256_648_0 inb_S784x256_S128x256_649_0
        inb_S3x5632_S3x256_0_4864 inb_S1x5632_S1x256_0_4864 inb_S1024x5632_S1024x256_0_4864 inb_S784x256_S128x256_647_0 inb_S784x256_S128x256_648_0 inb_S784x256_S128x256_649_0
        inb_S768x2816_S128x256_640_2048 x
    · exact fun x => block_gated mu md xm wu cw cb 512 2048 519 520 521 4864 rfl rfl rfl rfl (by decide) (by decide) slices_S768x1_o512_0_S128x1 slices_S768x1_o512_0_S128x1
        inb_S3x5632_S3x256_0_2048 inb_S1x5632_S1x256_0_2048 inb_S1024x5632_S1024x256_0_2048 inb_S784x256_S128x256_519_0 inb_S784x256_S128x256_520_0 inb_S784x256_S128x256_521_0
        inb_S3x5632_S3x256_0_4864 inb_S1x5632_S1x256_0_4864 inb_S1024x5632_S1024x256_0_4864 inb_S784x256_S128x256_519_0 inb_S784x256_S128x256_520_0 inb_S784x256_S128x256_521_0
        inb_S768x2816_S128x256_512_2048 x
    · exact fun x => block_gated mu md xm wu cw cb 384 2048 391 392 393 4864 rfl rfl rfl rfl (by decide) (by decide) slices_S768x1_o384_0_S128x1 slices_S768x1_o384_0_S128x1
        inb_S3x5632_S3x256_0_2048 inb_S1x5632_S1x256_0_2048 inb_S1024x5632_S1024x256_0_2048 inb_S784x256_S128x256_391_0 inb_S784x256_S128x256_392_0 inb_S784x256_S128x256_393_0
        inb_S3x5632_S3x256_0_4864 inb_S1x5632_S1x256_0_4864 inb_S1024x5632_S1024x256_0_4864 inb_S784x256_S128x256_391_0 inb_S784x256_S128x256_392_0 inb_S784x256_S128x256_393_0
        inb_S768x2816_S128x256_384_2048 x
    · exact fun x => block_gated mu md xm wu cw cb 256 2048 263 264 265 4864 rfl rfl rfl rfl (by decide) (by decide) slices_S768x1_o256_0_S128x1 slices_S768x1_o256_0_S128x1
        inb_S3x5632_S3x256_0_2048 inb_S1x5632_S1x256_0_2048 inb_S1024x5632_S1024x256_0_2048 inb_S784x256_S128x256_263_0 inb_S784x256_S128x256_264_0 inb_S784x256_S128x256_265_0
        inb_S3x5632_S3x256_0_4864 inb_S1x5632_S1x256_0_4864 inb_S1024x5632_S1024x256_0_4864 inb_S784x256_S128x256_263_0 inb_S784x256_S128x256_264_0 inb_S784x256_S128x256_265_0
        inb_S768x2816_S128x256_256_2048 x
    · exact fun x => block_gated mu md xm wu cw cb 128 2048 135 136 137 4864 rfl rfl rfl rfl (by decide) (by decide) slices_S768x1_o128_0_S128x1 slices_S768x1_o128_0_S128x1
        inb_S3x5632_S3x256_0_2048 inb_S1x5632_S1x256_0_2048 inb_S1024x5632_S1024x256_0_2048 inb_S784x256_S128x256_135_0 inb_S784x256_S128x256_136_0 inb_S784x256_S128x256_137_0
        inb_S3x5632_S3x256_0_4864 inb_S1x5632_S1x256_0_4864 inb_S1024x5632_S1024x256_0_4864 inb_S784x256_S128x256_135_0 inb_S784x256_S128x256_136_0 inb_S784x256_S128x256_137_0
        inb_S768x2816_S128x256_128_2048 x
    · exact fun x => block_gated mu md xm wu cw cb 0 2048 7 8 9 4864 rfl rfl rfl rfl (by decide) (by decide) slices_S768x1_o0_0_S128x1 slices_S768x1_o0_0_S128x1
        inb_S3x5632_S3x256_0_2048 inb_S1x5632_S1x256_0_2048 inb_S1024x5632_S1024x256_0_2048 inb_S784x256_S128x256_7_0 inb_S784x256_S128x256_8_0 inb_S784x256_S128x256_9_0
        inb_S3x5632_S3x256_0_4864 inb_S1x5632_S1x256_0_4864 inb_S1024x5632_S1024x256_0_4864 inb_S784x256_S128x256_7_0 inb_S784x256_S128x256_8_0 inb_S784x256_S128x256_9_0
        inb_S768x2816_S128x256_0_2048 x
    · exact fun x => block_gated mu md xm wu cw cb 640 1792 647 648 649 4608 rfl rfl rfl rfl (by decide) (by decide) slices_S768x1_o640_0_S128x1 slices_S768x1_o640_0_S128x1
        inb_S3x5632_S3x256_0_1792 inb_S1x5632_S1x256_0_1792 inb_S1024x5632_S1024x256_0_1792 inb_S784x256_S128x256_647_0 inb_S784x256_S128x256_648_0 inb_S784x256_S128x256_649_0
        inb_S3x5632_S3x256_0_4608 inb_S1x5632_S1x256_0_4608 inb_S1024x5632_S1024x256_0_4608 inb_S784x256_S128x256_647_0 inb_S784x256_S128x256_648_0 inb_S784x256_S128x256_649_0
        inb_S768x2816_S128x256_640_1792 x
    · exact fun x => block_gated mu md xm wu cw cb 512 1792 519 520 521 4608 rfl rfl rfl rfl (by decide) (by decide) slices_S768x1_o512_0_S128x1 slices_S768x1_o512_0_S128x1
        inb_S3x5632_S3x256_0_1792 inb_S1x5632_S1x256_0_1792 inb_S1024x5632_S1024x256_0_1792 inb_S784x256_S128x256_519_0 inb_S784x256_S128x256_520_0 inb_S784x256_S128x256_521_0
        inb_S3x5632_S3x256_0_4608 inb_S1x5632_S1x256_0_4608 inb_S1024x5632_S1024x256_0_4608 inb_S784x256_S128x256_519_0 inb_S784x256_S128x256_520_0 inb_S784x256_S128x256_521_0
        inb_S768x2816_S128x256_512_1792 x
    · exact fun x => block_gated mu md xm wu cw cb 384 1792 391 392 393 4608 rfl rfl rfl rfl (by decide) (by decide) slices_S768x1_o384_0_S128x1 slices_S768x1_o384_0_S128x1
        inb_S3x5632_S3x256_0_1792 inb_S1x5632_S1x256_0_1792 inb_S1024x5632_S1024x256_0_1792 inb_S784x256_S128x256_391_0 inb_S784x256_S128x256_392_0 inb_S784x256_S128x256_393_0
        inb_S3x5632_S3x256_0_4608 inb_S1x5632_S1x256_0_4608 inb_S1024x5632_S1024x256_0_4608 inb_S784x256_S128x256_391_0 inb_S784x256_S128x256_392_0 inb_S784x256_S128x256_393_0
        inb_S768x2816_S128x256_384_1792 x
    · exact fun x => block_gated mu md xm wu cw cb 256 1792 263 264 265 4608 rfl rfl rfl rfl (by decide) (by decide) slices_S768x1_o256_0_S128x1 slices_S768x1_o256_0_S128x1
        inb_S3x5632_S3x256_0_1792 inb_S1x5632_S1x256_0_1792 inb_S1024x5632_S1024x256_0_1792 inb_S784x256_S128x256_263_0 inb_S784x256_S128x256_264_0 inb_S784x256_S128x256_265_0
        inb_S3x5632_S3x256_0_4608 inb_S1x5632_S1x256_0_4608 inb_S1024x5632_S1024x256_0_4608 inb_S784x256_S128x256_263_0 inb_S784x256_S128x256_264_0 inb_S784x256_S128x256_265_0
        inb_S768x2816_S128x256_256_1792 x
    · exact fun x => block_gated mu md xm wu cw cb 128 1792 135 136 137 4608 rfl rfl rfl rfl (by decide) (by decide) slices_S768x1_o128_0_S128x1 slices_S768x1_o128_0_S128x1
        inb_S3x5632_S3x256_0_1792 inb_S1x5632_S1x256_0_1792 inb_S1024x5632_S1024x256_0_1792 inb_S784x256_S128x256_135_0 inb_S784x256_S128x256_136_0 inb_S784x256_S128x256_137_0
        inb_S3x5632_S3x256_0_4608 inb_S1x5632_S1x256_0_4608 inb_S1024x5632_S1024x256_0_4608 inb_S784x256_S128x256_135_0 inb_S784x256_S128x256_136_0 inb_S784x256_S128x256_137_0
        inb_S768x2816_S128x256_128_1792 x
    · exact fun x => block_gated mu md xm wu cw cb 0 1792 7 8 9 4608 rfl rfl rfl rfl (by decide) (by decide) slices_S768x1_o0_0_S128x1 slices_S768x1_o0_0_S128x1
        inb_S3x5632_S3x256_0_1792 inb_S1x5632_S1x256_0_1792 inb_S1024x5632_S1024x256_0_1792 inb_S784x256_S128x256_7_0 inb_S784x256_S128x256_8_0 inb_S784x256_S128x256_9_0
        inb_S3x5632_S3x256_0_4608 inb_S1x5632_S1x256_0_4608 inb_S1024x5632_S1024x256_0_4608 inb_S784x256_S128x256_7_0 inb_S784x256_S128x256_8_0 inb_S784x256_S128x256_9_0
        inb_S768x2816_S128x256_0_1792 x
    · exact fun x => block_gated mu md xm wu cw cb 640 1536 647 648 649 4352 rfl rfl rfl rfl (by decide) (by decide) slices_S768x1_o640_0_S128x1 slices_S768x1_o640_0_S128x1
        inb_S3x5632_S3x256_0_1536 inb_S1x5632_S1x256_0_1536 inb_S1024x5632_S1024x256_0_1536 inb_S784x256_S128x256_647_0 inb_S784x256_S128x256_648_0 inb_S784x256_S128x256_649_0
        inb_S3x5632_S3x256_0_4352 inb_S1x5632_S1x256_0_4352 inb_S1024x5632_S1024x256_0_4352 inb_S784x256_S128x256_647_0 inb_S784x256_S128x256_648_0 inb_S784x256_S128x256_649_0
        inb_S768x2816_S128x256_640_1536 x
    · exact fun x => block_gated mu md xm wu cw cb 512 1536 519 520 521 4352 rfl rfl rfl rfl (by decide) (by decide) slices_S768x1_o512_0_S128x1 slices_S768x1_o512_0_S128x1
        inb_S3x5632_S3x256_0_1536 inb_S1x5632_S1x256_0_1536 inb_S1024x5632_S1024x256_0_1536 inb_S784x256_S128x256_519_0 inb_S784x256_S128x256_520_0 inb_S784x256_S128x256_521_0
        inb_S3x5632_S3x256_0_4352 inb_S1x5632_S1x256_0_4352 inb_S1024x5632_S1024x256_0_4352 inb_S784x256_S128x256_519_0 inb_S784x256_S128x256_520_0 inb_S784x256_S128x256_521_0
        inb_S768x2816_S128x256_512_1536 x
    · exact fun x => block_gated mu md xm wu cw cb 384 1536 391 392 393 4352 rfl rfl rfl rfl (by decide) (by decide) slices_S768x1_o384_0_S128x1 slices_S768x1_o384_0_S128x1
        inb_S3x5632_S3x256_0_1536 inb_S1x5632_S1x256_0_1536 inb_S1024x5632_S1024x256_0_1536 inb_S784x256_S128x256_391_0 inb_S784x256_S128x256_392_0 inb_S784x256_S128x256_393_0
        inb_S3x5632_S3x256_0_4352 inb_S1x5632_S1x256_0_4352 inb_S1024x5632_S1024x256_0_4352 inb_S784x256_S128x256_391_0 inb_S784x256_S128x256_392_0 inb_S784x256_S128x256_393_0
        inb_S768x2816_S128x256_384_1536 x
    · exact fun x => block_gated mu md xm wu cw cb 256 1536 263 264 265 4352 rfl rfl rfl rfl (by decide) (by decide) slices_S768x1_o256_0_S128x1 slices_S768x1_o256_0_S128x1
        inb_S3x5632_S3x256_0_1536 inb_S1x5632_S1x256_0_1536 inb_S1024x5632_S1024x256_0_1536 inb_S784x256_S128x256_263_0 inb_S784x256_S128x256_264_0 inb_S784x256_S128x256_265_0
        inb_S3x5632_S3x256_0_4352 inb_S1x5632_S1x256_0_4352 inb_S1024x5632_S1024x256_0_4352 inb_S784x256_S128x256_263_0 inb_S784x256_S128x256_264_0 inb_S784x256_S128x256_265_0
        inb_S768x2816_S128x256_256_1536 x
    · exact fun x => block_gated mu md xm wu cw cb 128 1536 135 136 137 4352 rfl rfl rfl rfl (by decide) (by decide) slices_S768x1_o128_0_S128x1 slices_S768x1_o128_0_S128x1
        inb_S3x5632_S3x256_0_1536 inb_S1x5632_S1x256_0_1536 inb_S1024x5632_S1024x256_0_1536 inb_S784x256_S128x256_135_0 inb_S784x256_S128x256_136_0 inb_S784x256_S128x256_137_0
        inb_S3x5632_S3x256_0_4352 inb_S1x5632_S1x256_0_4352 inb_S1024x5632_S1024x256_0_4352 inb_S784x256_S128x256_135_0 inb_S784x256_S128x256_136_0 inb_S784x256_S128x256_137_0
        inb_S768x2816_S128x256_128_1536 x
    · exact fun x => block_gated mu md xm wu cw cb 0 1536 7 8 9 4352 rfl rfl rfl rfl (by decide) (by decide) slices_S768x1_o0_0_S128x1 slices_S768x1_o0_0_S128x1
        inb_S3x5632_S3x256_0_1536 inb_S1x5632_S1x256_0_1536 inb_S1024x5632_S1024x256_0_1536 inb_S784x256_S128x256_7_0 inb_S784x256_S128x256_8_0 inb_S784x256_S128x256_9_0
        inb_S3x5632_S3x256_0_4352 inb_S1x5632_S1x256_0_4352 inb_S1024x5632_S1024x256_0_4352 inb_S784x256_S128x256_7_0 inb_S784x256_S128x256_8_0 inb_S784x256_S128x256_9_0
        inb_S768x2816_S128x256_0_1536 x
    · exact fun x => block_gated mu md xm wu cw cb 640 1280 647 648 649 4096 rfl rfl rfl rfl (by decide) (by decide) slices_S768x1_o640_0_S128x1 slices_S768x1_o640_0_S128x1
        inb_S3x5632_S3x256_0_1280 inb_S1x5632_S1x256_0_1280 inb_S1024x5632_S1024x256_0_1280 inb_S784x256_S128x256_647_0 inb_S784x256_S128x256_648_0 inb_S784x256_S128x256_649_0
        inb_S3x5632_S3x256_0_4096 inb_S1x5632_S1x256_0_4096 inb_S1024x5632_S1024x256_0_4096 inb_S784x256_S128x256_647_0 inb_S784x256_S128x256_648_0 inb_S784x256_S128x256_649_0
        inb_S768x2816_S128x256_640_1280 x
    · exact fun x => block_gated mu md xm wu cw cb 512 1280 519 520 521 4096 rfl rfl rfl rfl (by decide) (by decide) slices_S768x1_o512_0_S128x1 slices_S768x1_o512_0_S128x1
        inb_S3x5632_S3x256_0_1280 inb_S1x5632_S1x256_0_1280 inb_S1024x5632_S1024x256_0_1280 inb_S784x256_S128x256_519_0 inb_S784x256_S128x256_520_0 inb_S784x256_S128x256_521_0
        inb_S3x5632_S3x256_0_4096 inb_S1x5632_S1x256_0_4096 inb_S1024x5632_S1024x256_0_4096 inb_S784x256_S128x256_519_0 inb_S784x256_S128x256_520_0 inb_S784x256_S128x256_521_0
        inb_S768x2816_S128x256_512_1280 x
    · exact fun x => block_gated mu md xm wu cw cb 384 1280 391 392 393 4096 rfl rfl rfl rfl (by decide) (by decide) slices_S768x1_o384_0_S128x1 slices_S768x1_o384_0_S128x1
        inb_S3x5632_S3x256_0_1280 inb_S1x5632_S1x256_0_1280 inb_S1024x5632_S1024x256_0_1280 inb_S784x256_S128x256_391_0 inb_S784x256_S128x256_392_0 inb_S784x256_S128x256_393_0
        inb_S3x5632_S3x256_0_4096 inb_S1x5632_S1x256_0_4096 inb_S1024x5632_S1024x256_0_4096 inb_S784x256_S128x256_391_0 inb_S784x256_S128x256_392_0 inb_S784x256_S128x256_393_0
        inb_S768x2816_S128x256_384_1280 x
    · exact fun x => block_gated mu md xm wu cw cb 256 1280 263 264 265 4096 rfl rfl rfl rfl (by decide) (by decide) slices_S768x1_o256_0_S128x1 slices_S768x1_o256_0_S128x1
        inb_S3x5632_S3x256_0_1280 inb_S1x5632_S1x256_0_1280 inb_S1024x5632_S1024x256_0_1280 inb_S784x256_S128x256_263_0 inb_S784x256_S128x256_264_0 inb_S784x256_S128x256_265_0
        inb_S3x5632_S3x256_0_4096 inb_S1x5632_S1x256_0_4096 inb_S1024x5632_S1024x256_0_4096 inb_S784x256_S128x256_263_0 inb_S784x256_S128x256_264_0 inb_S784x256_S128x256_265_0
        inb_S768x2816_S128x256_256_1280 x
    · exact fun x => block_gated mu md xm wu cw cb 128 1280 135 136 137 4096 rfl rfl rfl rfl (by decide) (by decide) slices_S768x1_o128_0_S128x1 slices_S768x1_o128_0_S128x1
        inb_S3x5632_S3x256_0_1280 inb_S1x5632_S1x256_0_1280 inb_S1024x5632_S1024x256_0_1280 inb_S784x256_S128x256_135_0 inb_S784x256_S128x256_136_0 inb_S784x256_S128x256_137_0
        inb_S3x5632_S3x256_0_4096 inb_S1x5632_S1x256_0_4096 inb_S1024x5632_S1024x256_0_4096 inb_S784x256_S128x256_135_0 inb_S784x256_S128x256_136_0 inb_S784x256_S128x256_137_0
        inb_S768x2816_S128x256_128_1280 x
    · exact fun x => block_gated mu md xm wu cw cb 0 1280 7 8 9 4096 rfl rfl rfl rfl (by decide) (by decide) slices_S768x1_o0_0_S128x1 slices_S768x1_o0_0_S128x1
        inb_S3x5632_S3x256_0_1280 inb_S1x5632_S1x256_0_1280 inb_S1024x5632_S1024x256_0_1280 inb_S784x256_S128x256_7_0 inb_S784x256_S128x256_8_0 inb_S784x256_S128x256_9_0
        inb_S3x5632_S3x256_0_4096 inb_S1x5632_S1x256_0_4096 inb_S1024x5632_S1024x256_0_4096 inb_S784x256_S128x256_7_0 inb_S784x256_S128x256_8_0 inb_S784x256_S128x256_9_0
        inb_S768x2816_S128x256_0_1280 x
    · exact fun x => block_gated mu md xm wu cw cb 640 1024 647 648 649 3840 rfl rfl rfl rfl (by decide) (by decide) slices_S768x1_o640_0_S128x1 slices_S768x1_o640_0_S128x1
        inb_S3x5632_S3x256_0_1024 inb_S1x5632_S1x256_0_1024 inb_S1024x5632_S1024x256_0_1024 inb_S784x256_S128x256_647_0 inb_S784x256_S128x256_648_0 inb_S784x256_S128x256_649_0
        inb_S3x5632_S3x256_0_3840 inb_S1x5632_S1x256_0_3840 inb_S1024x5632_S1024x256_0_3840 inb_S784x256_S128x256_647_0 inb_S784x256_S128x256_648_0 inb_S784x256_S128x256_649_0
        inb_S768x2816_S128x256_640_1024 x
    · exact fun x => block_gated mu md xm wu cw cb 512 1024 519 520 521 3840 rfl rfl rfl rfl (by decide) (by decide) slices_S768x1_o512_0_S128x1 slices_S768x1_o512_0_S128x1
        inb_S3x5632_S3x256_0_1024 inb_S1x5632_S1x256_0_1024 inb_S1024x5632_S1024x256_0_1024 inb_S784x256_S128x256_519_0 inb_S784x256_S128x256_520_0 inb_S784x256_S128x256_521_0
        inb_S3x5632_S3x256_0_3840 inb_S1x5632_S1x256_0_3840 inb_S1024x5632_S1024x256_0_3840 inb_S784x256_S128x256_519_0 inb_S784x256_S128x256_520_0 inb_S784x256_S128x256_521_0
        inb_S768x2816_S128x256_512_1024 x
    · exact fun x => block_gated mu md xm wu cw cb 384 1024 391 392 393 3840 rfl rfl rfl rfl (by decide) (by decide) slices_S768x1_o384_0_S128x1 slices_S768x1_o384_0_S128x1
        inb_S3x5632_S3x256_0_1024 inb_S1x5632_S1x256_0_1024 inb_S1024x5632_S1024x256_0_1024 inb_S784x256_S128x256_391_0 inb_S784x256_S128x256_392_0 inb_S784x256_S128x256_393_0
        inb_S3x5632_S3x256_0_3840 inb_S1x5632_S1x256_0_3840 inb_S1024x5632_S1024x256_0_3840 inb_S784x256_S128x256_391_0 inb_S784x256_S128x256_392_0 inb_S784x256_S128x256_393_0
        inb_S768x2816_S128x256_384_1024 x
    · exact fun x => block_gated mu md xm wu cw cb 256 1024 263 264 265 3840 rfl rfl rfl rfl (by decide) (by decide) slices_S768x1_o256_0_S128x1 slices_S768x1_o256_0_S128x1
        inb_S3x5632_S3x256_0_1024 inb_S1x5632_S1x256_0_1024 inb_S1024x5632_S1024x256_0_1024 inb_S784x256_S128x256_263_0 inb_S784x256_S128x256_264_0 inb_S784x256_S128x256_265_0
        inb_S3x5632_S3x256_0_3840 inb_S1x5632_S1x256_0_3840 inb_S1024x5632_S1024x256_0_3840 inb_S784x256_S128x256_263_0 inb_S784x256_S128x256_264_0 inb_S784x256_S128x256_265_0
        inb_S768x2816_S128x256_256_1024 x
    · exact fun x => block_gated mu md xm wu cw cb 128 1024 135 136 137 3840 rfl rfl rfl rfl (by decide) (by decide) slices_S768x1_o128_0_S128x1 slices_S768x1_o128_0_S128x1
        inb_S3x5632_S3x256_0_1024 inb_S1x5632_S1x256_0_1024 inb_S1024x5632_S1024x256_0_1024 inb_S784x256_S128x256_135_0 inb_S784x256_S128x256_136_0 inb_S784x256_S128x256_137_0
        inb_S3x5632_S3x256_0_3840 inb_S1x5632_S1x256_0_3840 inb_S1024x5632_S1024x256_0_3840 inb_S784x256_S128x256_135_0 inb_S784x256_S128x256_136_0 inb_S784x256_S128x256_137_0
        inb_S768x2816_S128x256_128_1024 x
    · exact fun x => block_gated mu md xm wu cw cb 0 1024 7 8 9 3840 rfl rfl rfl rfl (by decide) (by decide) slices_S768x1_o0_0_S128x1 slices_S768x1_o0_0_S128x1
        inb_S3x5632_S3x256_0_1024 inb_S1x5632_S1x256_0_1024 inb_S1024x5632_S1024x256_0_1024 inb_S784x256_S128x256_7_0 inb_S784x256_S128x256_8_0 inb_S784x256_S128x256_9_0
        inb_S3x5632_S3x256_0_3840 inb_S1x5632_S1x256_0_3840 inb_S1024x5632_S1024x256_0_3840 inb_S784x256_S128x256_7_0 inb_S784x256_S128x256_8_0 inb_S784x256_S128x256_9_0
        inb_S768x2816_S128x256_0_1024 x
    · exact fun x => block_gated mu md xm wu cw cb 640 768 647 648 649 3584 rfl rfl rfl rfl (by decide) (by decide) slices_S768x1_o640_0_S128x1 slices_S768x1_o640_0_S128x1
        inb_S3x5632_S3x256_0_768 inb_S1x5632_S1x256_0_768 inb_S1024x5632_S1024x256_0_768 inb_S784x256_S128x256_647_0 inb_S784x256_S128x256_648_0 inb_S784x256_S128x256_649_0
        inb_S3x5632_S3x256_0_3584 inb_S1x5632_S1x256_0_3584 inb_S1024x5632_S1024x256_0_3584 inb_S784x256_S128x256_647_0 inb_S784x256_S128x256_648_0 inb_S784x256_S128x256_649_0
        inb_S768x2816_S128x256_640_768 x
    · exact fun x => block_gated mu md xm wu cw cb 512 768 519 520 521 3584 rfl rfl rfl rfl (by decide) (by decide) slices_S768x1_o512_0_S128x1 slices_S768x1_o512_0_S128x1
        inb_S3x5632_S3x256_0_768 inb_S1x5632_S1x256_0_768 inb_S1024x5632_S1024x256_0_768 inb_S784x256_S128x256_519_0 inb_S784x256_S128x256_520_0 inb_S784x256_S128x256_521_0
        inb_S3x5632_S3x256_0_3584 inb_S1x5632_S1x256_0_3584 inb_S1024x5632_S1024x256_0_3584 inb_S784x256_S128x256_519_0 inb_S784x256_S128x256_520_0 inb_S784x256_S128x256_521_0
        inb_S768x2816_S128x256_512_768 x
    · exact fun x => block_gated mu md xm wu cw cb 384 768 391 392 393 3584 rfl rfl rfl rfl (by decide) (by decide) slices_S768x1_o384_0_S128x1 slices_S768x1_o384_0_S128x1
        inb_S3x5632_S3x256_0_768 inb_S1x5632_S1x256_0_768 inb_S1024x5632_S1024x256_0_768 inb_S784x256_S128x256_391_0 inb_S784x256_S128x256_392_0 inb_S784x256_S128x256_393_0
        inb_S3x5632_S3x256_0_3584 inb_S1x5632_S1x256_0_3584 inb_S1024x5632_S1024x256_0_3584 inb_S784x256_S128x256_391_0 inb_S784x256_S128x256_392_0 inb_S784x256_S128x256_393_0
        inb_S768x2816_S128x256_384_768 x
    · exact fun x => block_gated mu md xm wu cw cb 256 768 263 264 265 3584 rfl rfl rfl rfl (by decide) (by decide) slices_S768x1_o256_0_S128x1 slices_S768x1_o256_0_S128x1
        inb_S3x5632_S3x256_0_768 inb_S1x5632_S1x256_0_768 inb_S1024x5632_S1024x256_0_768 inb_S784x256_S128x256_263_0 inb_S784x256_S128x256_264_0 inb_S784x256_S128x256_265_0
        inb_S3x5632_S3x256_0_3584 inb_S1x5632_S1x256_0_3584 inb_S1024x5632_S1024x256_0_3584 inb_S784x256_S128x256_263_0 inb_S784x256_S128x256_264_0 inb_S784x256_S128x256_265_0
        inb_S768x2816_S128x256_256_768 x
    · exact fun x => block_gated mu md xm wu cw cb 128 768 135 136 137 3584 rfl rfl rfl rfl (by decide) (by decide) slices_S768x1_o128_0_S128x1 slices_S768x1_o128_0_S128x1
        inb_S3x5632_S3x256_0_768 inb_S1x5632_S1x256_0_768 inb_S1024x5632_S1024x256_0_768 inb_S784x256_S128x256_135_0 inb_S784x256_S128x256_136_0 inb_S784x256_S128x256_137_0
        inb_S3x5632_S3x256_0_3584 inb_S1x5632_S1x256_0_3584 inb_S1024x5632_S1024x256_0_3584 inb_S784x256_S128x256_135_0 inb_S784x256_S128x256_136_0 inb_S784x256_S128x256_137_0
        inb_S768x2816_S128x256_128_768 x
    · exact fun x => block_gated mu md xm wu cw cb 0 768 7 8 9 3584 rfl rfl rfl rfl (by decide) (by decide) slices_S768x1_o0_0_S128x1 slices_S768x1_o0_0_S128x1
        inb_S3x5632_S3x256_0_768 inb_S1x5632_S1x256_0_768 inb_S1024x5632_S1024x256_0_768 inb_S784x256_S128x256_7_0 inb_S784x256_S128x256_8_0 inb_S784x256_S128x256_9_0
        inb_S3x5632_S3x256_0_3584 inb_S1x5632_S1x256_0_3584 inb_S1024x5632_S1024x256_0_3584 inb_S784x256_S128x256_7_0 inb_S784x256_S128x256_8_0 inb_S784x256_S128x256_9_0
        inb_S768x2816_S128x256_0_768 x
    · exact fun x => block_gated mu md xm wu cw cb 640 512 647 648 649 3328 rfl rfl rfl rfl (by decide) (by decide) slices_S768x1_o640_0_S128x1 slices_S768x1_o640_0_S128x1
        inb_S3x5632_S3x256_0_512 inb_S1x5632_S1x256_0_512 inb_S1024x5632_S1024x256_0_512 inb_S784x256_S128x256_647_0 inb_S784x256_S128x256_648_0 inb_S784x256_S128x256_649_0
        inb_S3x5632_S3x256_0_3328 inb_S1x5632_S1x256_0_3328 inb_S1024x5632_S1024x256_0_3328 inb_S784x256_S128x256_647_0 inb_S784x256_S128x256_648_0 inb_S784x256_S128x256_649_0
        inb_S768x2816_S128x256_640_512 x
    · exact fun x => block_gated mu md xm wu cw cb 512 512 519 520 521 3328 rfl rfl rfl rfl (by decide) (by decide) slices_S768x1_o512_0_S128x1 slices_S768x1_o512_0_S128x1
        inb_S3x5632_S3x256_0_512 inb_S1x5632_S1x256_0_512 inb_S1024x5632_S1024x256_0_512 inb_S784x256_S128x256_519_0 inb_S784x256_S128x256_520_0 inb_S784x256_S128x256_521_0
        inb_S3x5632_S3x256_0_3328 inb_S1x5632_S1x256_0_3328 inb_S1024x5632_S1024x256_0_3328 inb_S784x256_S128x256_519_0 inb_S784x256_S128x256_520_0 inb_S784x256_S128x256_521_0
        inb_S768x2816_S128x256_512_512 x
    · exact fun x => block_gated mu md xm wu cw cb 384 512 391 392 393 3328 rfl rfl rfl rfl (by decide) (by decide) slices_S768x1_o384_0_S128x1 slices_S768x1_o384_0_S128x1
        inb_S3x5632_S3x256_0_512 inb_S1x5632_S1x256_0_512 inb_S1024x5632_S1024x256_0_512 inb_S784x256_S128x256_391_0 inb_S784x256_S128x256_392_0 inb_S784x256_S128x256_393_0
        inb_S3x5632_S3x256_0_3328 inb_S1x5632_S1x256_0_3328 inb_S1024x5632_S1024x256_0_3328 inb_S784x256_S128x256_391_0 inb_S784x256_S128x256_392_0 inb_S784x256_S128x256_393_0
        inb_S768x2816_S128x256_384_512 x
    · exact fun x => block_gated mu md xm wu cw cb 256 512 263 264 265 3328 rfl rfl rfl rfl (by decide) (by decide) slices_S768x1_o256_0_S128x1 slices_S768x1_o256_0_S128x1
        inb_S3x5632_S3x256_0_512 inb_S1x5632_S1x256_0_512 inb_S1024x5632_S1024x256_0_512 inb_S784x256_S128x256_263_0 inb_S784x256_S128x256_264_0 inb_S784x256_S128x256_265_0
        inb_S3x5632_S3x256_0_3328 inb_S1x5632_S1x256_0_3328 inb_S1024x5632_S1024x256_0_3328 inb_S784x256_S128x256_263_0 inb_S784x256_S128x256_264_0 inb_S784x256_S128x256_265_0
        inb_S768x2816_S128x256_256_512 x
    · exact fun x => block_gated mu md xm wu cw cb 128 512 135 136 137 3328 rfl rfl rfl rfl (by decide) (by decide) slices_S768x1_o128_0_S128x1 slices_S768x1_o128_0_S128x1
        inb_S3x5632_S3x256_0_512 inb_S1x5632_S1x256_0_512 inb_S1024x5632_S1024x256_0_512 inb_S784x256_S128x256_135_0 inb_S784x256_S128x256_136_0 inb_S784x256_S128x256_137_0
        inb_S3x5632_S3x256_0_3328 inb_S1x5632_S1x256_0_3328 inb_S1024x5632_S1024x256_0_3328 inb_S784x256_S128x256_135_0 inb_S784x256_S128x256_136_0 inb_S784x256_S128x256_137_0
        inb_S768x2816_S128x256_128_512 x
    · exact fun x => block_gated mu md xm wu cw cb 0 512 7 8 9 3328 rfl rfl rfl rfl (by decide) (by decide) slices_S768x1_o0_0_S128x1 slices_S768x1_o0_0_S128x1
        inb_S3x5632_S3x256_0_512 inb_S1x5632_S1x256_0_512 inb_S1024x5632_S1024x256_0_512 inb_S784x256_S128x256_7_0 inb_S784x256_S128x256_8_0 inb_S784x256_S128x256_9_0
        inb_S3x5632_S3x256_0_3328 inb_S1x5632_S1x256_0_3328 inb_S1024x5632_S1024x256_0_3328 inb_S784x256_S128x256_7_0 inb_S784x256_S128x256_8_0 inb_S784x256_S128x256_9_0
        inb_S768x2816_S128x256_0_512 x
    · exact fun x => block_gated mu md xm wu cw cb 640 256 647 648 649 3072 rfl rfl rfl rfl (by decide) (by decide) slices_S768x1_o640_0_S128x1 slices_S768x1_o640_0_S128x1
        inb_S3x5632_S3x256_0_256 inb_S1x5632_S1x256_0_256 inb_S1024x5632_S1024x256_0_256 inb_S784x256_S128x256_647_0 inb_S784x256_S128x256_648_0 inb_S784x256_S128x256_649_0
        inb_S3x5632_S3x256_0_3072 inb_S1x5632_S1x256_0_3072 inb_S1024x5632_S1024x256_0_3072 inb_S784x256_S128x256_647_0 inb_S784x256_S128x256_648_0 inb_S784x256_S128x256_649_0
        inb_S768x2816_S128x256_640_256 x
    · exact fun x => block_gated mu md xm wu cw cb 512 256 519 520 521 3072 rfl rfl rfl rfl (by decide) (by decide) slices_S768x1_o512_0_S128x1 slices_S768x1_o512_0_S128x1
        inb_S3x5632_S3x256_0_256 inb_S1x5632_S1x256_0_256 inb_S1024x5632_S1024x256_0_256 inb_S784x256_S128x256_519_0 inb_S784x256_S128x256_520_0 inb_S784x256_S128x256_521_0
        inb_S3x5632_S3x256_0_3072 inb_S1x5632_S1x256_0_3072 inb_S1024x5632_S1024x256_0_3072 inb_S784x256_S128x256_519_0 inb_S784x256_S128x256_520_0 inb_S784x256_S128x256_521_0
        inb_S768x2816_S128x256_512_256 x
    · exact fun x => block_gated mu md xm wu cw cb 384 256 391 392 393 3072 rfl rfl rfl rfl (by decide) (by decide) slices_S768x1_o384_0_S128x1 slices_S768x1_o384_0_S128x1
        inb_S3x5632_S3x256_0_256 inb_S1x5632_S1x256_0_256 inb_S1024x5632_S1024x256_0_256 inb_S784x256_S128x256_391_0 inb_S784x256_S128x256_392_0 inb_S784x256_S128x256_393_0
        inb_S3x5632_S3x256_0_3072 inb_S1x5632_S1x256_0_3072 inb_S1024x5632_S1024x256_0_3072 inb_S784x256_S128x256_391_0 inb_S784x256_S128x256_392_0 inb_S784x256_S128x256_393_0
        inb_S768x2816_S128x256_384_256 x
    · exact fun x => block_gated mu md xm wu cw cb 256 256 263 264 265 3072 rfl rfl rfl rfl (by decide) (by decide) slices_S768x1_o256_0_S128x1 slices_S768x1_o256_0_S128x1
        inb_S3x5632_S3x256_0_256 inb_S1x5632_S1x256_0_256 inb_S1024x5632_S1024x256_0_256 inb_S784x256_S128x256_263_0 inb_S784x256_S128x256_264_0 inb_S784x256_S128x256_265_0
        inb_S3x5632_S3x256_0_3072 inb_S1x5632_S1x256_0_3072 inb_S1024x5632_S1024x256_0_3072 inb_S784x256_S128x256_263_0 inb_S784x256_S128x256_264_0 inb_S784x256_S128x256_265_0
        inb_S768x2816_S128x256_256_256 x
    · exact fun x => block_gated mu md xm wu cw cb 128 256 135 136 137 3072 rfl rfl rfl rfl (by decide) (by decide) slices_S768x1_o128_0_S128x1 slices_S768x1_o128_0_S128x1
        inb_S3x5632_S3x256_0_256 inb_S1x5632_S1x256_0_256 inb_S1024x5632_S1024x256_0_256 inb_S784x256_S128x256_135_0 inb_S784x256_S128x256_136_0 inb_S784x256_S128x256_137_0
        inb_S3x5632_S3x256_0_3072 inb_S1x5632_S1x256_0_3072 inb_S1024x5632_S1024x256_0_3072 inb_S784x256_S128x256_135_0 inb_S784x256_S128x256_136_0 inb_S784x256_S128x256_137_0
        inb_S768x2816_S128x256_128_256 x
    · exact fun x => block_gated mu md xm wu cw cb 0 256 7 8 9 3072 rfl rfl rfl rfl (by decide) (by decide) slices_S768x1_o0_0_S128x1 slices_S768x1_o0_0_S128x1
        inb_S3x5632_S3x256_0_256 inb_S1x5632_S1x256_0_256 inb_S1024x5632_S1024x256_0_256 inb_S784x256_S128x256_7_0 inb_S784x256_S128x256_8_0 inb_S784x256_S128x256_9_0
        inb_S3x5632_S3x256_0_3072 inb_S1x5632_S1x256_0_3072 inb_S1024x5632_S1024x256_0_3072 inb_S784x256_S128x256_7_0 inb_S784x256_S128x256_8_0 inb_S784x256_S128x256_9_0
        inb_S768x2816_S128x256_0_256 x
    · exact fun x => block_gated mu md xm wu cw cb 640 0 647 648 649 2816 rfl rfl rfl rfl (by decide) (by decide) slices_S768x1_o640_0_S128x1 slices_S768x1_o640_0_S128x1
        inb_S3x5632_S3x256_0_0 inb_S1x5632_S1x256_0_0 inb_S1024x5632_S1024x256_0_0 inb_S784x256_S128x256_647_0 inb_S784x256_S128x256_648_0 inb_S784x256_S128x256_649_0
        inb_S3x5632_S3x256_0_2816 inb_S1x5632_S1x256_0_2816 inb_S1024x5632_S1024x256_0_2816 inb_S784x256_S128x256_647_0 inb_S784x256_S128x256_648_0 inb_S784x256_S128x256_649_0
        inb_S768x2816_S128x256_640_0 x
    · exact fun x => block_gated mu md xm wu cw cb 512 0 519 520 521 2816 rfl rfl rfl rfl (by decide) (by decide) slices_S768x1_o512_0_S128x1 slices_S768x1_o512_0_S128x1
        inb_S3x5632_S3x256_0_0 inb_S1x5632_S1x256_0_0 inb_S1024x5632_S1024x256_0_0 inb_S784x256_S128x256_519_0 inb_S784x256_S128x256_520_0 inb_S784x256_S128x256_521_0
        inb_S3x5632_S3x256_0_2816 inb_S1x5632_S1x256_0_2816 inb_S1024x5632_S1024x256_0_2816 inb_S784x256_S128x256_519_0 inb_S784x256_S128x256_520_0 inb_S784x256_S128x256_521_0
        inb_S768x2816_S128x256_512_0 x
    · exact fun x => block_gated mu md xm wu cw cb 384 0 391 392 393 2816 rfl rfl rfl rfl (by decide) (by decide) slices_S768x1_o384_0_S128x1 slices_S768x1_o384_0_S128x1
        inb_S3x5632_S3x256_0_0 inb_S1x5632_S1x256_0_0 inb_S1024x5632_S1024x256_0_0 inb_S784x256_S128x256_391_0 inb_S784x256_S128x256_392_0 inb_S784x256_S128x256_393_0
        inb_S3x5632_S3x256_0_2816 inb_S1x5632_S1x256_0_2816 inb_S1024x5632_S1024x256_0_2816 inb_S784x256_S128x256_391_0 inb_S784x256_S128x256_392_0 inb_S784x256_S128x256_393_0
        inb_S768x2816_S128x256_384_0 x
    · exact fun x => block_gated mu md xm wu cw cb 256 0 263 264 265 2816 rfl rfl rfl rfl (by decide) (by decide) slices_S768x1_o256_0_S128x1 slices_S768x1_o256_0_S128x1
        inb_S3x5632_S3x256_0_0 inb_S1x5632_S1x256_0_0 inb_S1024x5632_S1024x256_0_0 inb_S784x256_S128x256_263_0 inb_S784x256_S128x256_264_0 inb_S784x256_S128x256_265_0
        inb_S3x5632_S3x256_0_2816 inb_S1x5632_S1x256_0_2816 inb_S1024x5632_S1024x256_0_2816 inb_S784x256_S128x256_263_0 inb_S784x256_S128x256_264_0 inb_S784x256_S128x256_265_0
        inb_S768x2816_S128x256_256_0 x
    · exact fun x => block_gated mu md xm wu cw cb 128 0 135 136 137 2816 rfl rfl rfl rfl (by decide) (by decide) slices_S768x1_o128_0_S128x1 slices_S768x1_o128_0_S128x1
        inb_S3x5632_S3x256_0_0 inb_S1x5632_S1x256_0_0 inb_S1024x5632_S1024x256_0_0 inb_S784x256_S128x256_135_0 inb_S784x256_S128x256_136_0 inb_S784x256_S128x256_137_0
        inb_S3x5632_S3x256_0_2816 inb_S1x5632_S1x256_0_2816 inb_S1024x5632_S1024x256_0_2816 inb_S784x256_S128x256_135_0 inb_S784x256_S128x256_136_0 inb_S784x256_S128x256_137_0
        inb_S768x2816_S128x256_128_0 x
    · exact fun x => block_gated mu md xm wu cw cb 0 0 7 8 9 2816 rfl rfl rfl rfl (by decide) (by decide) slices_S768x1_o0_0_S128x1 slices_S768x1_o0_0_S128x1
        inb_S3x5632_S3x256_0_0 inb_S1x5632_S1x256_0_0 inb_S1024x5632_S1024x256_0_0 inb_S784x256_S128x256_7_0 inb_S784x256_S128x256_8_0 inb_S784x256_S128x256_9_0
        inb_S3x5632_S3x256_0_2816 inb_S1x5632_S1x256_0_2816 inb_S1024x5632_S1024x256_0_2816 inb_S784x256_S128x256_7_0 inb_S784x256_S128x256_8_0 inb_S784x256_S128x256_9_0
        inb_S768x2816_S128x256_0_0 x

end Cert.Kernel2Ideal.Ffn

end
-- ==== Proof.ConvFFNBlock.lean ====
/- The ConvFFN's body: the tile it leaves, read at a row. -/
module
public import proofs.«01_k».proof.Proof.ConvFFNAct

@[expose] public section

set_option maxHeartbeats 1000000

noncomputable section

namespace Cert.Kernel2Ideal.Ffn

open Cert.Kernel2Ideal Cert.Kernel2Ideal.Gen
open Idealize.ShloMosaic Idealize.ShloMosaic.TcCoe

/-- The row at place `p` of a tile of 768 starting at `768 k` lies in the context exactly when its position is below 256. -/
theorem slt_context : ∀ (k : Fin 3) (p : Fin 768),
    IntOp.cmpi CmpIPredicate.slt (IntOp.addi (Scalar.muli (BitVec.ofNat 32 k.val) 768#32) (BitVec.ofNat 32 p.val)) 256#32
      = if k.val * 768 + p.val < 256 then 1#1 else 0#1 := by
  decide +kernel

/-- The same of the rows that begin eight before the tile. -/
theorem slt_context' : ∀ (k : Fin 3) (r : Fin 784),
    IntOp.cmpi CmpIPredicate.slt (IntOp.addi (Scalar.subi (Scalar.muli (BitVec.ofNat 32 k.val) 768#32) 8#32) (BitVec.ofNat 32 r.val)) 256#32
      = if k.val * 768 + r.val < 264 then 1#1 else 0#1 := by
  decide +kernel

/-- The words of the two masks: the rows with no row before, and with no row after, in their segment. -/
theorem up_word : ∀ (k : Fin 3) (p : Fin 768),
    IntOp.ori (IntOp.cmpi CmpIPredicate.eq (IntOp.addi (Scalar.muli (BitVec.ofNat 32 k.val) 768#32) (BitVec.ofNat 32 p.val)) 0#32)
        (IntOp.cmpi CmpIPredicate.eq (IntOp.addi (Scalar.muli (BitVec.ofNat 32 k.val) 768#32) (BitVec.ofNat 32 p.val)) 256#32)
      = if k.val * 768 + p.val = 0 ∨ k.val * 768 + p.val = 256 then 1#1 else 0#1 := by
  decide +kernel
theorem dn_word : ∀ (k : Fin 3) (p : Fin 768),
    IntOp.ori (IntOp.cmpi CmpIPredicate.eq (IntOp.addi (Scalar.muli (BitVec.ofNat 32 k.val) 768#32) (BitVec.ofNat 32 p.val)) 255#32)
        (IntOp.cmpi CmpIPredicate.eq (IntOp.addi (Scalar.muli (BitVec.ofNat 32 k.val) 768#32) (BitVec.ofNat 32 p.val)) 2303#32)
      = if k.val * 768 + p.val = 255 ∨ k.val * 768 + p.val = 2303 then 1#1 else 0#1 := by
  decide +kernel

theorem up_at (k : Fin 3) (p : Fin 768) :
    k0_pay10 (F := Ideal) (Scalar.muli (BitVec.ofNat 32 k.val) 768#32) (ix2 p 0) = if k.val * 768 + p.val = 0 ∨ k.val * 768 + p.val = 256 then 0 else 1 := by
  pointwise [k0_pay10, k0_pay9]
  rw [up_word]
  split_ifs <;> rfl

theorem dn_at (k : Fin 3) (p : Fin 768) :
    k0_pay11 (F := Ideal) (Scalar.muli (BitVec.ofNat 32 k.val) 768#32) (ix2 p 0) = if k.val * 768 + p.val = 255 ∨ k.val * 768 + p.val = 2303 then 0 else 1 := by
  pointwise [k0_pay11, k0_pay9]
  rw [dn_word]
  split_ifs <;> rfl

theorem pay5_at (i : grid0.Coords) (k : Fin 3) (hk : k.val = (i 1).val) (l : Vec Ideal S1x1x1024 .f32) (x : Vec Ideal S1x1024 .f32) (r : Fin 784) (d : Fin 1024) :
    k0_pay5 (F := Ideal) i l x (ix2 r d) = if k.val * 768 + r.val < 264 then x (ix2 0 d) else l (ix3 0 0 d) := by
  pointwise [k0_pay5, k0_pay4]
  rw [← hk, slt_context']
  split_ifs <;> rfl
theorem pay6_at (i : grid0.Coords) (k : Fin 3) (hk : k.val = (i 1).val) (l : Vec Ideal S1x1x1024 .f32) (x : Vec Ideal S1x1024 .f32) (r : Fin 784) (d : Fin 1024) :
    k0_pay6 (F := Ideal) i l x (ix2 r d) = if k.val * 768 + r.val < 264 then x (ix2 0 d) else l (ix3 0 0 d) := by
  pointwise [k0_pay6, k0_pay4]
  rw [← hk, slt_context']
  split_ifs <;> rfl

/-- The rows with the eight before and the eight after. -/
theorem pay3_at (x0 : Vec Ideal S1x768x1024 .f32) (x1 x2 : Vec Ideal S1x8x1024 .f32) (r : Fin 784) (d : Fin 1024) :
    k0_pay3 (F := Ideal) x0 x1 x2 (ix2 r d)
      = if h : r.val < 8 then x1 (ix3 0 ⟨r.val, h⟩ d) else if h' : r.val - 8 < 768 then x0 (ix3 0 ⟨r.val - 8, h'⟩ d) else x2 (ix3 0 ⟨r.val - 8 - 768, by omega⟩ d) := by
  pointwise [k0_pay3, k0_pay2]

theorem rows_at (i : grid0.Coords) (k : Fin 3) (hk : k.val = (i 1).val) (x0 : Vec Ideal S1x768x1024 .f32) (x1 x2 : Vec Ideal S1x8x1024 .f32) (x3 x4 : Vec Ideal S1x1x1024 .f32)
    (x6 x7 : Vec Ideal S1x1024 .f32) (r : Fin 784) (d : Fin 1024) :
    rows i x0 x1 x2 x3 x4 x6 x7 (ix2 r d)
      = Row.modulated (fun x => k0_pay3 (F := Ideal) x0 x1 x2 (ix2 r x)) (fun x => if k.val * 768 + r.val < 264 then x7 (ix2 0 x) else x4 (ix3 0 0 x))
          (fun x => if k.val * 768 + r.val < 264 then x6 (ix2 0 x) else x3 (ix3 0 0 x)) d := by
  have e : rows i x0 x1 x2 x3 x4 x6 x7 (ix2 r d)
      = Row.modulated (fun x => k0_pay3 (F := Ideal) x0 x1 x2 (ix2 r x)) (fun x => k0_pay5 (F := Ideal) i x4 x7 (ix2 r x)) (fun x => k0_pay6 (F := Ideal) i x3 x6 (ix2 r x)) d := by
    unfold rows k0_pay7
    generalize k0_pay3 (F := Ideal) x0 x1 x2 = a
    generalize k0_pay5 (F := Ideal) i x4 x7 = b
    generalize k0_pay6 (F := Ideal) i x3 x6 = e
    pointwise [k0_pay8]
    rfl
  rw [e]
  simp only [pay5_at i k hk, pay6_at i k hk]

theorem last_at (k : Fin 3) (x0 : Vec Ideal S1x768x1024 .f32) (A : Vec Ideal S768x2816 .bf16) (wd : Vec Ideal S2816x1024 .bf16) (x8 : Vec Ideal S1x1024 .f32) (x5 : Vec Ideal S1x1x1024 .f32)
    (x13 x14 : Vec Ideal S1x1024 .f32) (p : Fin 768) (d : Fin 1024) :
    k0_pay1 (F := Ideal) (k0_pay409
        (k0_pay407 (k0_pay2 x0) (k0_pay9 (Scalar.muli (BitVec.ofNat 32 k.val) 768#32)) A wd x8 x5)
        (k0_pay408 (k0_pay2 x0) (k0_pay9 (Scalar.muli (BitVec.ofNat 32 k.val) 768#32)) A wd x8 x5) x13 x14) (ix3 0 p d)
      = Row.residual (fun x => x0 (ix3 0 p x)) (fun x => if k.val * 768 + p.val < 256 then x8 (ix2 0 x) else x5 (ix3 0 0 x))
          (fun x => ∑ f : Fin 2816, (A (ix2 p f) : EReal) * wd (ix2 f x)) (fun x => x13 (ix2 0 x)) (fun x => x14 (ix2 0 x)) d := by
  pointwise [k0_pay1, k0_pay409, k0_pay408, k0_pay407, k0_pay2, k0_pay9]
  rw [slt_context]
  split_ifs <;> rfl

variable (m : (ℓ : Loc nD τ sig) → Buf (Elt Ideal) ℓ)

/-- What the body leaves at point `t`, read at a row. -/
theorem out_at (c : Dev nD) (t : Fin cfg0.N) (k : Fin 3) (hk : k.val = (grid0.coords t 1).val) (p : Fin 768) (d : Fin 1024) :
    outsAt0 (F := Ideal) m c t (ix3 0 p d)
      = Row.residual (fun x => iblk m c 0 t (ix3 0 p x)) (fun x => if k.val * 768 + p.val < 256 then iblk m c 8 t (ix2 0 x) else iblk m c 5 t (ix3 0 0 x))
          (fun x => ∑ f : Fin 2816, (acts m c t (ix2 p f) : EReal) * iblk m c 12 t (ix2 f x)) (fun x => iblk m c 13 t (ix2 0 x)) (fun x => iblk m c 14 t (ix2 0 x)) d := by
  rw [outs_eq, ← hk]
  exact last_at k _ _ _ _ _ _ _ p d

end Cert.Kernel2Ideal.Ffn

end
-- ==== Proof.ConvFFNRow.lean ====
/- The ConvFFN of one row, in the arrays' own terms. -/
module
public import proofs.«01_k».proof.Proof.Row
public import Idealize.ShloMosaic.Lib.Pointwise

@[expose] public section

noncomputable section

namespace Cert.Row

open Idealize.ShloMosaic

/-- Three taps over the positions of a column: the row before, the row itself, the row after, where the segment has them. -/
def taps (c0 c1 c2 cb : EReal) (W : Fin 2304 → EReal) (s : Fin 2304) : EReal :=
  c0 * (if s.val = 0 ∨ s.val = 256 then 0 else W ⟨s.val - 1, by omega⟩) + c1 * W s
    + c2 * (if h : s.val = 255 ∨ s.val = 2303 then 0 else W ⟨s.val + 1, by omega⟩) + cb

/-- The row of gated columns: the second half of the convolved columns through its own sigmoid, times the first half. -/
def gated (T : Fin 5632 → EReal) (f : Fin 2816) : EReal :=
  T ⟨2816 + f.val, by omega⟩ * Ideal.logistic (T ⟨2816 + f.val, by omega⟩) * T ⟨f.val, by omega⟩

/-- The sub-layer at position `s` from the rows of one batch. -/
def ffn (h : Fin 2304 → Fin 1024 → EReal) (shl scl gl shc scc gc : Fin 1024 → EReal) (wu : Fin 1024 → Fin 5632 → EReal) (cw : Fin 3 → Fin 5632 → EReal) (cb : Fin 5632 → EReal)
    (wd : Fin 2816 → Fin 1024 → EReal) (lg lb : Fin 1024 → EReal) (s : Fin 2304) (d : Fin 1024) : EReal :=
  residual (h s) (fun x => if s.val < 256 then gc x else gl x)
    (fun x => ∑ f : Fin 2816, gated (fun f => taps (cw 0 f) (cw 1 f) (cw 2 f) (cb f)
        (fun s => ∑ k : Fin 1024, modulated (h s) (fun x => if s.val < 256 then scc x else scl x) (fun x => if s.val < 256 then shc x else shl x) k * wu k f) s) f * wd f x)
    lg lb d

end Cert.Row

end
-- ==== Proof.ConvFFNArray.lean ====
/- The ConvFFN's result array, from its arguments. -/
module
public import proofs.«01_k».proof.Proof.ConvFFNBlock
public import proofs.«01_k».proof.Proof.ConvFFNRow
public import Idealize.ShloMosaic.Lib.StableHlo.RunRead

@[expose] public section

set_option maxHeartbeats 1000000
set_option maxRecDepth 16384

noncomputable section

namespace Cert.Kernel2Ideal.Ffn

open Cert.Kernel2Ideal Cert.Kernel2Ideal.Gen
open Idealize.ShloMosaic Idealize.ShloMosaic.TcCoe Idealize.ShloMosaic.Tactic

variable (m : (ℓ : Loc nD τ sig) → Buf (Elt Ideal) ℓ) (c : Dev nD)

/-- The block indices of the windows at each grid point: point `3 b + k` is tile `k` of batch `b`. -/
theorem idx0 : ∀ t : Fin cfg0.N, win0_0.index t = ![t.val / 3, t.val % 3, 0] := (by decide +kernel : ∀ t : Fin grid0.N, _)
theorem idx1 : ∀ t : Fin cfg0.N, win0_1.index t = ![t.val / 3, 96 * (t.val % 3) - 1, 0] := (by decide +kernel : ∀ t : Fin grid0.N, _)
theorem idx2 : ∀ t : Fin cfg0.N, win0_2.index t = ![t.val / 3, min (96 * (t.val % 3 + 1)) 287, 0] := (by decide +kernel : ∀ t : Fin grid0.N, _)
theorem idx3 : ∀ t : Fin cfg0.N, win0_3.index t = ![t.val / 3, 0, 0] := (by decide +kernel : ∀ t : Fin grid0.N, _)
theorem idx4 : ∀ t : Fin cfg0.N, win0_4.index t = ![t.val / 3, 0, 0] := (by decide +kernel : ∀ t : Fin grid0.N, _)
theorem idx5 : ∀ t : Fin cfg0.N, win0_5.index t = ![t.val / 3, 0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![t.val / 3, t.val % 3, 0] := (by decide +kernel : ∀ t : Fin grid0.N, _)
theorem coord : ∀ t : Fin cfg0.N, (grid0.coords t 1).val = t.val % 3 := (by decide +kernel : ∀ t : Fin grid0.N, _)
theorem lt_N (t : Fin cfg0.N) : t.val < 48 := t.isLt

/-- The batch and the tile of a grid point. -/
def bat (t : Fin cfg0.N) : Fin 16 := ⟨t.val / 3, by have := lt_N t; omega⟩
def tile (t : Fin cfg0.N) : Fin 3 := ⟨t.val % 3, by omega⟩
/-- The position of row `p` of tile `k`, and of the rows of the blocks of eight before and after it. -/
def pos (k : Fin 3) (p : Fin 768) : Fin 2304 := ⟨k.val * 768 + p.val, by omega⟩
def posBefore (k : Fin 3) (j : Fin 8) : Fin 2304 := ⟨(96 * k.val - 1) * 8 + j.val, by omega⟩
def posAfter (k : Fin 3) (j : Fin 8) : Fin 2304 := ⟨min (96 * (k.val + 1)) 287 * 8 + j.val, by omega⟩

/-- The prepared arrays are the arguments: the matrices with their casts, the bias, the norm's gain and bias as one row. -/
theorem V_v0 (k : Fin 1024) (x : Fin 5632) : (V m c main_v0 : FVec Ideal S1024x5632 .bf16) (ix2 k x) = (m ((c : Thread nD τ).loc main_arg7) : FVec Ideal S1024x5632 .f32) (ix2 k x) := by
  show (StableHlo.after hostOps0 (fun b => m (c, b)) (Proc.devRef .tc main_v0) : FVec Ideal S1024x5632 .bf16) _ = _
  after_reads_simp
  pointwise
theorem V_v1 (x : Fin 5632) : (V m c main_v1 : FVec Ideal S1x5632 .f32) (ix2 0 x) = (m ((c : Thread nD τ).loc main_arg9) : FVec Ideal S5632 .f32) (ix1 x) := by
  show (StableHlo.after hostOps0 (fun b => m (c, b)) (Proc.devRef .tc main_v1) : FVec Ideal S1x5632 .f32) _ = _
  after_reads_simp
  pointwise
theorem V_v2 (k : Fin 2816) (x : Fin 1024) : (V m c main_v2 : FVec Ideal S2816x1024 .bf16) (ix2 k x) = (m ((c : Thread nD τ).loc main_arg10) : FVec Ideal S2816x1024 .f32) (ix2 k x) := by
  show (StableHlo.after hostOps0 (fun b => m (c, b)) (Proc.devRef .tc main_v2) : FVec Ideal S2816x1024 .bf16) _ = _
  after_reads_simp
  pointwise
theorem V_v3 (x : Fin 1024) : (V m c main_v3 : FVec Ideal S1x1024 .f32) (ix2 0 x) = (m ((c : Thread nD τ).loc main_arg11) : FVec Ideal S1024 .f32) (ix1 x) := by
  show (StableHlo.after hostOps0 (fun b => m (c, b)) (Proc.devRef .tc main_v3) : FVec Ideal S1x1024 .f32) _ = _
  after_reads_simp
  pointwise
theorem V_v4 (x : Fin 1024) : (V m c main_v4 : FVec Ideal S1x1024 .f32) (ix2 0 x) = (m ((c : Thread nD τ).loc main_arg12) : FVec Ideal S1024 .f32) (ix1 x) := by
  show (StableHlo.after hostOps0 (fun b => m (c, b)) (Proc.devRef .tc main_v4) : FVec Ideal S1x1024 .f32) _ = _
  after_reads_simp
  pointwise

/-- What the input blocks hold. -/
theorem at0 (t : Fin cfg0.N) (p : Fin 768) (x : Fin 1024) : iblk m c 0 t (ix3 0 p x) = m ((c : Thread nD τ).loc main_arg0) (ix3 (bat t) (pos (tile t) p) x) := by
  rw [← V_main_arg0 m c]; blk_simp [iblk]; congr 1; blk_ext [idx0 t, bat, tile, pos]
theorem at1 (t : Fin cfg0.N) (j : Fin 8) (x : Fin 1024) : iblk m c 1 t (ix3 0 j x) = m ((c : Thread nD τ).loc main_arg0) (ix3 (bat t) (posBefore (tile t) j) x) := by
  rw [← V_main_arg0 m c]; blk_simp [iblk]; congr 1; blk_ext [idx1 t, bat, tile, posBefore]
theorem at2 (t : Fin cfg0.N) (j : Fin 8) (x : Fin 1024) : iblk m c 2 t (ix3 0 j x) = m ((c : Thread nD τ).loc main_arg0) (ix3 (bat t) (posAfter (tile t) j) x) := by
  rw [← V_main_arg0 m c]; blk_simp [iblk]; congr 1; blk_ext [idx2 t, bat, tile, posAfter]
theorem at3 (t : Fin cfg0.N) (x : Fin 1024) : iblk m c 3 t (ix3 0 0 x) = m ((c : Thread nD τ).loc main_arg1) (ix3 (bat t) 0 x) := by
  rw [← V_main_arg1 m c]; blk_simp [iblk]; congr 1; blk_ext [idx3 t, bat]
theorem at4 (t : Fin cfg0.N) (x : Fin 1024) : iblk m c 4 t (ix3 0 0 x) = m ((c : Thread nD τ).loc main_arg2) (ix3 (bat t) 0 x) := by
  rw [← V_main_arg2 m c]; blk_simp [iblk]; congr 1; blk_ext [idx4 t, bat]
theorem at5 (t : Fin cfg0.N) (x : Fin 1024) : iblk m c 5 t (ix3 0 0 x) = m ((c : Thread nD τ).loc main_arg3) (ix3 (bat t) 0 x) := by
  rw [← V_main_arg3 m c]; blk_simp [iblk]; congr 1; blk_ext [idx5 t, bat]
theorem at6 (t : Fin cfg0.N) (x : Fin 1024) : iblk m c 6 t (ix2 0 x) = m ((c : Thread nD τ).loc main_arg4) (ix2 0 x) := by
  rw [← V_main_arg4 m c]; blk_simp [iblk]; congr 1; blk_ext [idx6 t]
theorem at7 (t : Fin cfg0.N) (x : Fin 1024) : iblk m c 7 t (ix2 0 x) = m ((c : Thread nD τ).loc main_arg5) (ix2 0 x) := by
  rw [← V_main_arg5 m c]; blk_simp [iblk]; congr 1; blk_ext [idx7 t]
theorem at8 (t : Fin cfg0.N) (x : Fin 1024) : iblk m c 8 t (ix2 0 x) = m ((c : Thread nD τ).loc main_arg6) (ix2 0 x) := by
  rw [← V_main_arg6 m c]; blk_simp [iblk]; congr 1; blk_ext [idx8 t]
theorem at9 (t : Fin cfg0.N) (k : Fin 1024) (x : Fin 5632) : iblk m c 9 t (ix2 k x) = m ((c : Thread nD τ).loc main_arg7) (ix2 k x) := by
  refine Eq.trans ?_ (V_v0 m c k x); blk_simp [iblk]; congr 1; blk_ext [idx9 t]
theorem at10 (t : Fin cfg0.N) (k : Fin 3) (x : Fin 5632) : iblk m c 10 t (ix2 k x) = m ((c : Thread nD τ).loc main_arg8) (ix2 k x) := by
  rw [← V_main_arg8 m c]; blk_simp [iblk]; congr 1; blk_ext [idx10 t]
theorem at11 (t : Fin cfg0.N) (x : Fin 5632) : iblk m c 11 t (ix2 0 x) = m ((c : Thread nD τ).loc main_arg9) (ix1 x) := by
  refine Eq.trans ?_ (V_v1 m c x); blk_simp [iblk]; congr 1; blk_ext [idx11 t]
theorem at12 (t : Fin cfg0.N) (k : Fin 2816) (x : Fin 1024) : iblk m c 12 t (ix2 k x) = m ((c : Thread nD τ).loc main_arg10) (ix2 k x) := by
  refine Eq.trans ?_ (V_v2 m c k x); blk_simp [iblk]; congr 1; blk_ext [idx12 t]
theorem at13 (t : Fin cfg0.N) (x : Fin 1024) : iblk m c 13 t (ix2 0 x) = m ((c : Thread nD τ).loc main_arg11) (ix1 x) := by
  refine Eq.trans ?_ (V_v3 m c x); blk_simp [iblk]; congr 1; blk_ext [idx13 t]
theorem at14 (t : Fin cfg0.N) (x : Fin 1024) : iblk m c 14 t (ix2 0 x) = m ((c : Thread nD τ).loc main_arg12) (ix1 x) := by
  refine Eq.trans ?_ (V_v4 m c x); blk_simp [iblk]; congr 1; blk_ext [idx14 t]

/-- Row `r` of the tile with its two blocks of eight is the row at position `768 k + r - 8`. -/
theorem ext_at (t : Fin cfg0.N) (r : Fin 784) (s : Fin 2304) (hs : s.val + 8 = (tile t).val * 768 + r.val) (x : Fin 1024) :
    k0_pay3 (F := Ideal) (iblk m c 0 t) (iblk m c 1 t) (iblk m c 2 t) (ix2 r x) = m ((c : Thread nD τ).loc main_arg0) (ix3 (bat t) s x) := by
  have hk := (tile t).isLt
  have hr := r.isLt
  have hl := s.isLt
  rw [pay3_at]
  split
  · rename_i h
    rw [at1]
    refine congrArg (fun s => m ((c : Thread nD τ).loc main_arg0) (ix3 (bat t) s x)) (Fin.ext ?_)
    show (96 * (tile t).val - 1) * 8 + r.val = s.val
    omega
  · split
    · rename_i h h'
      rw [at0]
      refine congrArg (fun s => m ((c : Thread nD τ).loc main_arg0) (ix3 (bat t) s x)) (Fin.ext ?_)
      show (tile t).val * 768 + (r.val - 8) = s.val
      omega
    · rename_i h h'
      rw [at2]
      refine congrArg (fun s => m ((c : Thread nD τ).loc main_arg0) (ix3 (bat t) s x)) (Fin.ext ?_)
      show min (96 * ((tile t).val + 1)) 287 * 8 + (r.val - 8 - 768) = s.val
      omega

/-- The ConvFFN at batch `b`, position `s`, from the arrays. -/
def ffnAt (h : FVec Ideal S16x2304x1024 .f32) (shl scl gl : FVec Ideal S16x1x1024 .f32) (shc scc gc : FVec Ideal S1x1024 .f32) (wu : FVec Ideal S1024x5632 .f32) (cw : FVec Ideal S3x5632 .f32)
    (cb : FVec Ideal S5632 .f32) (wd : FVec Ideal S2816x1024 .f32) (lg lb : FVec Ideal S1024 .f32) (b : Fin 16) (s : Fin 2304) (d : Fin 1024) : EReal :=
  Row.ffn (fun s x => h (ix3 b s x)) (fun x => shl (ix3 b 0 x)) (fun x => scl (ix3 b 0 x)) (fun x => gl (ix3 b 0 x)) (fun x => shc (ix2 0 x)) (fun x => scc (ix2 0 x)) (fun x => gc (ix2 0 x))
    (fun k f => wu (ix2 k f)) (fun i f => cw (ix2 i f)) (fun f => cb (ix1 f)) (fun f x => wd (ix2 f x)) (fun x => lg (ix1 x)) (fun x => lb (ix1 x)) s d

/-- The ConvFFN from the kernel's arguments. -/
def ffnM (b : Fin 16) (s : Fin 2304) (d : Fin 1024) : EReal :=
  ffnAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) b s d

/-- A widened row of the tile. -/
theorem wide_eq (t : Fin cfg0.N) (r : Fin 784) (s : Fin 2304) (hs : s.val + 8 = (tile t).val * 768 + r.val) (f : Fin 5632) :
    wideRow (rows (grid0.coords t) (iblk m c 0 t) (iblk m c 1 t) (iblk m c 2 t) (iblk m c 3 t) (iblk m c 4 t) (iblk m c 6 t) (iblk m c 7 t)) (iblk m c 9 t) r f
      = ∑ k : Fin 1024, Row.modulated (fun x => m ((c : Thread nD τ).loc main_arg0) (ix3 (bat t) s x))
          (fun x => if s.val < 256 then m ((c : Thread nD τ).loc main_arg5) (ix2 0 x) else m ((c : Thread nD τ).loc main_arg2) (ix3 (bat t) 0 x))
          (fun x => if s.val < 256 then m ((c : Thread nD τ).loc main_arg4) (ix2 0 x) else m ((c : Thread nD τ).loc main_arg1) (ix3 (bat t) 0 x)) k
          * m ((c : Thread nD τ).loc main_arg7) (ix2 k f) := by
  unfold wideRow
  refine Finset.sum_congr rfl fun k _ => ?_
  have e : ((tile t).val * 768 + r.val < 264) = (s.val < 256) := by
    apply propext
    omega
  rw [rows_at _ (tile t) (coord t).symm, at9]
  simp only [ext_at m c t r s hs, at3, at4, at6, at7, e]

/-- The convolution of a column at a row of the tile. -/
theorem conv_eq (t : Fin cfg0.N) (p : Fin 768) (f : Fin 5632) :
    convAt (maskUp (grid0.coords t)) (maskDn (grid0.coords t))
        (rows (grid0.coords t) (iblk m c 0 t) (iblk m c 1 t) (iblk m c 2 t) (iblk m c 3 t) (iblk m c 4 t) (iblk m c 6 t) (iblk m c 7 t))
        (iblk m c 9 t) (iblk m c 10 t) (iblk m c 11 t) p f
      = Row.taps (m ((c : Thread nD τ).loc main_arg8) (ix2 0 f)) (m ((c : Thread nD τ).loc main_arg8) (ix2 1 f)) (m ((c : Thread nD τ).loc main_arg8) (ix2 2 f)) (m ((c : Thread nD τ).loc main_arg9) (ix1 f))
          (fun s => ∑ k : Fin 1024, Row.modulated (fun x => m ((c : Thread nD τ).loc main_arg0) (ix3 (bat t) s x))
            (fun x => if s.val < 256 then m ((c : Thread nD τ).loc main_arg5) (ix2 0 x) else m ((c : Thread nD τ).loc main_arg2) (ix3 (bat t) 0 x))
            (fun x => if s.val < 256 then m ((c : Thread nD τ).loc main_arg4) (ix2 0 x) else m ((c : Thread nD τ).loc main_arg1) (ix3 (bat t) 0 x)) k
            * m ((c : Thread nD τ).loc main_arg7) (ix2 k f)) (pos (tile t) p) := by
  have hp : (pos (tile t) p).val = (tile t).val * 768 + p.val := rfl
  have hl := (pos (tile t) p).isLt
  unfold convAt Row.taps
  rw [at10, at10, at10, at11]
  congr 1
  congr 1
  · congr 1
    · congr 1
      have eu : maskUp (grid0.coords t) (ix2 p 0) = if (pos (tile t) p).val = 0 ∨ (pos (tile t) p).val = 256 then 0 else 1 := by
        unfold maskUp
        rw [coord t]
        exact up_at (tile t) p
      rw [eu]
      split
      · exact zero_mul _
      · rename_i h
        rw [one_mul]
        exact wide_eq m c t _ ⟨(pos (tile t) p).val - 1, by omega⟩ (by show (pos (tile t) p).val - 1 + 8 = (tile t).val * 768 + (7 + p.val); omega) f
    · congr 1
      exact wide_eq m c t _ (pos (tile t) p) (by show (pos (tile t) p).val + 8 = (tile t).val * 768 + (8 + p.val); omega) f
  · congr 1
    have ed : maskDn (grid0.coords t) (ix2 p 0) = if (pos (tile t) p).val = 255 ∨ (pos (tile t) p).val = 2303 then 0 else 1 := by
      unfold maskDn
      rw [coord t]
      exact dn_at (tile t) p
    rw [ed]
    split
    · exact zero_mul _
    · rename_i h
      rw [one_mul]
      exact wide_eq m c t _ ⟨(pos (tile t) p).val + 1, by omega⟩ (by show (pos (tile t) p).val + 1 + 8 = (tile t).val * 768 + (9 + p.val); omega) f

/-- What the body leaves at a point is the ConvFFN at its batch and position. -/
theorem ffn_block (t : Fin cfg0.N) (p : Fin 768) (d : Fin 1024) :
    outsAt0 (F := Ideal) m c t (ix3 0 p d) = ffnM m c (bat t) (pos (tile t) p) d := by
  rw [out_at m c t (tile t) (coord t).symm p d]
  have ea : ∀ f : Fin 2816, acts m c t (ix2 p f) = Row.gated (fun f => Row.taps (m ((c : Thread nD τ).loc main_arg8) (ix2 0 f)) (m ((c : Thread nD τ).loc main_arg8) (ix2 1 f)) (m ((c : Thread nD τ).loc main_arg8) (ix2 2 f)) (m ((c : Thread nD τ).loc main_arg9) (ix1 f))
          (fun s => ∑ k : Fin 1024, Row.modulated (fun x => m ((c : Thread nD τ).loc main_arg0) (ix3 (bat t) s x))
            (fun x => if s.val < 256 then m ((c : Thread nD τ).loc main_arg5) (ix2 0 x) else m ((c : Thread nD τ).loc main_arg2) (ix3 (bat t) 0 x))
            (fun x => if s.val < 256 then m ((c : Thread nD τ).loc main_arg4) (ix2 0 x) else m ((c : Thread nD τ).loc main_arg1) (ix3 (bat t) 0 x)) k
            * m ((c : Thread nD τ).loc main_arg7) (ix2 k f)) (pos (tile t) p)) f := by
    intro f
    show gatedAt _ _ _ _ _ _ p f = _
    unfold gatedAt Row.gated
    rw [conv_eq, conv_eq]
  simp only [ea, at0, at5, at8, at12, at13, at14]
  rfl

/-- The result array at an index. -/
def result : Vec Ideal S16x2304x1024 .f32 := fun i =>
  ffnM m c (i 0) (i 1) (i 2)

theorem ix3_eta (y : S1x768x1024.Idx) : ∃ (p : Fin 768) (d : Fin 1024), y = ix3 0 p d :=
  ⟨y 1, y 2, by funext a; match a with | 0 => exact Subsingleton.elim (α := Fin 1) _ _ | 1 => rfl | 2 => rfl⟩

/-- After the run the output array is `result`. -/
theorem arrAt_eq : (dats m 0 c).arrAt 15 cfg0.N = result m c := by
  refine (dats m 0 c).arrAt_eq_of_covers 15 _ (by decide +kernel) fun t hf y => ?_
  blk_simp
  rw [after0_15]
  have e : ∀ (i : S16x2304x1024.Idx) (p : Fin 768) (d : Fin 1024), bat t = i 0 → pos (tile t) p = i 1 → d = i 2 →
      outsAt0 m c t (ix3 0 p d) = result m c i := by
    intro i p d h0 h1 h2
    rw [ffn_block, h0, h1, h2]
    rfl
  obtain ⟨p, d, rfl⟩ := ix3_eta y
  apply e
  · apply Fin.ext
    blk_simp [idx15 t, bat]
    rfl
  · apply Fin.ext
    blk_simp [idx15 t, tile, pos]
  · apply Fin.ext
    blk_simp [idx15 t]

end Cert.Kernel2Ideal.Ffn

end
-- ==== Proof.ConvFFNRef.lean ====
/- The ConvFFN's reference, read at a position. -/
module
public import proofs.«01_k».proof.Proof.Gen.Reference2Ideal.Run
public import proofs.«01_k».proof.Proof.ConvFFNRow
public import Idealize.ShloMosaic.Lib.Pointwise

@[expose] public section

set_option maxHeartbeats 4000000
set_option maxRecDepth 16384

noncomputable section

namespace Cert.Reference2Ideal.Ffn

open Cert.Reference2Ideal Cert.Reference2Ideal.Gen Cert.Reference2Ideal.Value
open Idealize.ShloMosaic Idealize.ShloMosaic.TcCoe Idealize.ShloMosaic.StableHlo

attribute [local instance] Cert.Reference2Ideal.Gen.facts

variable (V : Valuation τ sig (Elt Ideal))

/-- The arguments, as arrays. -/
abbrev h0 : FVec Ideal S16x2304x1024 .f32 := V (Proc.devRef .tc main_arg0)
abbrev shl : FVec Ideal S16x1x1024 .f32 := V (Proc.devRef .tc main_arg1)
abbrev scl : FVec Ideal S16x1x1024 .f32 := V (Proc.devRef .tc main_arg2)
abbrev gl : FVec Ideal S16x1x1024 .f32 := V (Proc.devRef .tc main_arg3)
abbrev shc : FVec Ideal S1x1024 .f32 := V (Proc.devRef .tc main_arg4)
abbrev scc : FVec Ideal S1x1024 .f32 := V (Proc.devRef .tc main_arg5)
abbrev gc : FVec Ideal S1x1024 .f32 := V (Proc.devRef .tc main_arg6)
abbrev wu : FVec Ideal S1024x5632 .f32 := V (Proc.devRef .tc main_arg7)
abbrev cw : FVec Ideal S3x5632 .f32 := V (Proc.devRef .tc main_arg8)
abbrev cb : FVec Ideal S5632 .f32 := V (Proc.devRef .tc main_arg9)
abbrev wd : FVec Ideal S2816x1024 .f32 := V (Proc.devRef .tc main_arg10)
abbrev lg : FVec Ideal S1024 .f32 := V (Proc.devRef .tc main_arg11)
abbrev lb : FVec Ideal S1024 .f32 := V (Proc.devRef .tc main_arg12)

/-- The widened row at a position. -/
def wide (b : Fin 16) (s : Fin 2304) (f : Fin 5632) : EReal :=
  ∑ k : Fin 1024, Row.modulated (fun x => h0 V (ix3 b s x)) (fun x => if s.val < 256 then scc V (ix2 0 x) else scl V (ix3 b 0 x))
    (fun x => if s.val < 256 then shc V (ix2 0 x) else shl V (ix3 b 0 x)) k * wu V (ix2 k f)

theorem v30_at (b : Fin 16) (j : Fin 258) (f : Fin 5632) :
    (res_main_v30 (F := Ideal) V : FVec Ideal S16x258x5632 .f32) (ix3 b j f)
      = if h : j.val < 1 then (0 : EReal) else if h' : j.val - 1 < 256 then wide V b ⟨j.val - 1, by omega⟩ f else (0 : EReal) := by
  unfold res_main_v30
  pointwise [res_main_v6, res_main_v4, res_main_v0]
  refine dite_congr rfl (fun _ => rfl) fun h => dite_congr rfl (fun h' => ?_) fun _ => rfl
  unfold wide
  simp only [h', if_true]
  rfl

theorem v117_at (b : Fin 16) (j : Fin 2050) (f : Fin 5632) :
    (res_main_v117 (F := Ideal) V : FVec Ideal S16x2050x5632 .f32) (ix3 b j f)
      = if h : j.val < 1 then (0 : EReal) else if h' : j.val - 1 < 2048 then wide V b ⟨256 + (j.val - 1), by omega⟩ f else (0 : EReal) := by
  unfold res_main_v117
  pointwise [res_main_v95, res_main_v93, res_main_v89]
  refine dite_congr rfl (fun _ => rfl) fun h => dite_congr rfl (fun h' => ?_) fun _ => rfl
  unfold wide
  have e : ¬ (256 + (j.val - 1) < 256) := by omega
  simp only [e, if_false]
  rfl

theorem v53_at (b : Fin 16) (s : Fin 256) (f : Fin 5632) :
    (res_main_v53 (F := Ideal) V : FVec Ideal S16x256x5632 .f32) (ix3 b s f)
      = Row.taps (cw V (ix2 0 f)) (cw V (ix2 1 f)) (cw V (ix2 2 f)) (cb V (ix1 f)) (fun s => wide V b s f) ⟨s.val, by omega⟩ := by
  unfold res_main_v53
  pointwise
  obtain ⟨s, hs⟩ := s
  have e0 : (res_main_v30 (F := Ideal) V : FVec Ideal S16x258x5632 .f32) (ix3 b ⟨s, by omega⟩ f)
      = if s = 0 ∨ s = 256 then (0 : EReal) else wide V b ⟨s - 1, by omega⟩ f := by
    rw [v30_at]
    by_cases h : s = 0
    · simp only [h]; rfl
    · rw [dif_neg (by simp only []; omega), dif_pos (by simp only []; omega), if_neg (by omega)]
  have e1 : (res_main_v30 (F := Ideal) V : FVec Ideal S16x258x5632 .f32) (ix3 b ⟨1 + s, by omega⟩ f)
      = wide V b ⟨s, by omega⟩ f := by
    rw [v30_at, dif_neg (by simp only []; omega), dif_pos (by simp only []; omega)]
    exact congrArg (fun t => wide V b t f) (Fin.ext (by simp only []; omega))
  have e2 : (res_main_v30 (F := Ideal) V : FVec Ideal S16x258x5632 .f32) (ix3 b ⟨2 + s, by omega⟩ f)
      = if h : s = 255 ∨ s = 2303 then (0 : EReal) else wide V b ⟨s + 1, by omega⟩ f := by
    rw [v30_at, dif_neg (by simp only []; omega)]
    by_cases h : s = 255
    · rw [dif_neg (by simp only []; omega), dif_pos (by omega)]
    · rw [dif_pos (by simp only []; omega), dif_neg (by omega)]
      exact congrArg (fun t => wide V b t f) (Fin.ext (by simp only []; omega))
  unfold Row.taps
  rw [mul_comm (cw V (ix2 0 f)), mul_comm (cw V (ix2 1 f)), mul_comm (cw V (ix2 2 f))]
  exact congrArg₂ (· + ·) (congrArg₂ (· + ·) (congrArg₂ (· + ·) (congrArg (· * _) e0) (congrArg (· * _) e1)) (congrArg (· * _) e2)) rfl

theorem v140_at (b : Fin 16) (s : Fin 2048) (f : Fin 5632) :
    (res_main_v140 (F := Ideal) V : FVec Ideal S16x2048x5632 .f32) (ix3 b s f)
      = Row.taps (cw V (ix2 0 f)) (cw V (ix2 1 f)) (cw V (ix2 2 f)) (cb V (ix1 f)) (fun s => wide V b s f) ⟨256 + s.val, by omega⟩ := by
  unfold res_main_v140
  pointwise
  obtain ⟨s, hs⟩ := s
  have e0 : (res_main_v117 (F := Ideal) V : FVec Ideal S16x2050x5632 .f32) (ix3 b ⟨s, by omega⟩ f)
      = if 256 + s = 0 ∨ 256 + s = 256 then (0 : EReal) else wide V b ⟨256 + s - 1, by omega⟩ f := by
    rw [v117_at]
    by_cases h : s = 0
    · rw [dif_pos (by simp only []; omega), if_pos (by omega)]
    · rw [dif_neg (by simp only []; omega), dif_pos (by simp only []; omega), if_neg (by omega)]
      exact congrArg (fun t => wide V b t f) (Fin.ext (by simp only []; omega))
  have e1 : (res_main_v117 (F := Ideal) V : FVec Ideal S16x2050x5632 .f32) (ix3 b ⟨1 + s, by omega⟩ f)
      = wide V b ⟨256 + s, by omega⟩ f := by
    rw [v117_at, dif_neg (by simp only []; omega), dif_pos (by simp only []; omega)]
    exact congrArg (fun t => wide V b t f) (Fin.ext (by simp only []; omega))
  have e2 : (res_main_v117 (F := Ideal) V : FVec Ideal S16x2050x5632 .f32) (ix3 b ⟨2 + s, by omega⟩ f)
      = if h : 256 + s = 255 ∨ 256 + s = 2303 then (0 : EReal) else wide V b ⟨256 + s + 1, by omega⟩ f := by
    rw [v117_at, dif_neg (by simp only []; omega)]
    by_cases h : s = 2047
    · rw [dif_neg (by simp only []; omega), dif_pos (by omega)]
    · rw [dif_pos (by simp only []; omega), dif_neg (by omega)]
      exact congrArg (fun t => wide V b t f) (Fin.ext (by simp only []; omega))
  unfold Row.taps
  rw [mul_comm (cw V (ix2 0 f)), mul_comm (cw V (ix2 1 f)), mul_comm (cw V (ix2 2 f))]
  exact congrArg₂ (· + ·) (congrArg₂ (· + ·) (congrArg₂ (· + ·) (congrArg (· * _) e0) (congrArg (· * _) e1)) (congrArg (· * _) e2)) rfl

/-- The convolved widened row at a position. -/
def conv (b : Fin 16) (s : Fin 2304) (f : Fin 5632) : EReal :=
  Row.taps (cw V (ix2 0 f)) (cw V (ix2 1 f)) (cw V (ix2 2 f)) (cb V (ix1 f)) (fun s => wide V b s f) s

theorem v64_at (b : Fin 16) (s : Fin 256) (d : Fin 1024) :
    (res_main_v64 (F := Ideal) V : FVec Ideal S16x256x1024 .f32) (ix3 b s d)
      = Ideal.ofBits .f32 1068827891#32 * h0 V (ix3 b ⟨s.val, by omega⟩ d)
        + gc V (ix2 0 d) * ∑ f : Fin 2816, Row.gated (conv V b ⟨s.val, by omega⟩) f * wd V (ix2 f d) := by
  unfold res_main_v64
  pointwise [res_main_v0, res_main_v55]
  refine congrArg₂ (· + ·) rfl (congrArg (fun t : EReal => (gc V (ix2 0 d) : EReal) * t) (Finset.sum_congr rfl fun f _ => ?_))
  rw [v53_at, v53_at]
  rfl

theorem v150_at (b : Fin 16) (s : Fin 2048) (d : Fin 1024) :
    (res_main_v150 (F := Ideal) V : FVec Ideal S16x2048x1024 .f32) (ix3 b s d)
      = Ideal.ofBits .f32 1068827891#32 * h0 V (ix3 b ⟨256 + s.val, by omega⟩ d)
        + gl V (ix3 b 0 d) * ∑ f : Fin 2816, Row.gated (conv V b ⟨256 + s.val, by omega⟩) f * wd V (ix2 f d) := by
  unfold res_main_v150
  pointwise [res_main_v89, res_main_v142]
  refine congrArg₂ (· + ·) rfl (congrArg (fun t : EReal => (gl V (ix3 b 0 d) : EReal) * t) (Finset.sum_congr rfl fun f _ => ?_))
  rw [v140_at, v140_at]
  rfl

/-- The reference's result. -/
def out : FVec Ideal S16x2304x1024 .f32 :=
  concatenate S16x2304x1024 1 [⟨S16x256x1024, (addf (mulf (mulf (subf (res_main_v64 V) (broadcastInDim S16x256x1024 ![0, 1, 2] bcast_S16x256x1_S16x256x1024_0_1_2 (res_main_v68 V))) (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf (res_main_v70 V) (res_main_v70 V)) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 (V (Proc.devRef .tc main_arg11))))) (broadcastInDim S16x256x1024 ![0, 1, 2] bcast_S1x1x1024_S16x256x1024_0_1_2 (broadcastInDim S1x1x1024 ![2] bcast_S1024_S1x1x1024_2 (V (Proc.devRef .tc main_arg12)))))⟩, ⟨S16x2048x1024, (addf (mulf (mulf (subf (res_main_v150 V) (broadcastInDim S16x2048x1024 ![0, 1, 2] bcast_S16x2048x1_S16x2048x1024_0_1_2 (res_main_v154 V))) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (res_main_v156 V) (res_main_v156 V)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (V (Proc.devRef .tc main_arg11))))) (broadcastInDim S16x2048x1024 ![0, 1, 2] bcast_S1x1x1024_S16x2048x1024_0_1_2 (broadcastInDim S1x1x1024 ![2] bcast_S1024_S1x1x1024_2 (V (Proc.devRef .tc main_arg12)))))⟩] concatenates_S16x256x1024_S16x2048x1024_S16x2304x1024_d1

theorem out_at (b : Fin 16) (s : Fin 2304) (d : Fin 1024) :
    out V (ix3 b s d) = Row.ffn (fun s x => h0 V (ix3 b s x)) (fun x => shl V (ix3 b 0 x)) (fun x => scl V (ix3 b 0 x)) (fun x => gl V (ix3 b 0 x))
      (fun x => shc V (ix2 0 x)) (fun x => scc V (ix2 0 x)) (fun x => gc V (ix2 0 x)) (fun k f => wu V (ix2 k f)) (fun t f => cw V (ix2 t f))
      (fun f => cb V (ix1 f)) (fun f x => wd V (ix2 f x)) (fun x => lg V (ix1 x)) (fun x => lb V (ix1 x)) s d := by
  unfold out
  pointwise [res_main_v70, res_main_v68, res_main_v156, res_main_v154]
  unfold Row.ffn Row.residual
  by_cases h : s.val < 256
  · refine (dif_pos h).trans ?_
    simp only [h, if_true]
    exact congrArg (fun F : Fin 1024 → EReal => Row.norm F d * lg V (ix1 d) + lb V (ix1 d)) (funext fun x => v64_at V b ⟨s.val, h⟩ x)
  · refine (dif_neg h).trans ?_
    simp only [h, if_false]
    have e : (⟨256 + (s.val - 256), by omega⟩ : Fin 2304) = s := Fin.ext (by simp only []; omega)
    have e' : (fun x => (res_main_v150 (F := Ideal) V : FVec Ideal S16x2048x1024 .f32) (ix3 b ⟨s.val - 256, by omega⟩ x))
        = fun x => Ideal.ofBits .f32 1068827891#32 * h0 V (ix3 b s x)
          + gl V (ix3 b 0 x) * ∑ f : Fin 2816, Row.gated (conv V b s) f * wd V (ix2 f x) :=
      funext fun x => (v150_at V b ⟨s.val - 256, by omega⟩ x).trans (by simp only [e])
    exact congrArg (fun F : Fin 1024 → EReal => Row.norm F d * lg V (ix1 d) + lb V (ix1 d)) e'

end Cert.Reference2Ideal.Ffn

end
-- ==== Proof.ConvFFNClaim.lean ====
/- The ConvFFN's claim: the kernel's and the reference's results are equal. -/
module
public import proofs.«01_k».proof.Defs
public import proofs.«01_k».proof.Proof.ConvFFNArray
public import proofs.«01_k».proof.Proof.ConvFFNRef

@[expose] public section

set_option maxHeartbeats 4000000

noncomputable section

namespace Cert.Proof

open Idealize.ShloMosaic Idealize.SL.Sem

attribute [local instance] Cert.Kernel2Ideal.Gen.facts Cert.Reference2Ideal.Gen.facts

/-- The ConvFFN's kernel and reference leave equal results from equal arguments. -/
theorem ffn_algebraic : Cert.algebraic_Kernel2Ideal_Reference2Ideal := by
  intro m g m' g' _ hA
  refine ⟨fun c => (Cert.Kernel2Ideal.Gen.dats m 0 c).arrAt 15 Cert.Kernel2Ideal.cfg0.N, Cert.Kernel2Ideal.Value.run_blocks m g, ?_⟩
  refine (θ_run _ _ _).mono (fun r h c => ⟨(h c).1.trans ?_, (h c).2⟩) (Cert.Reference2Ideal.Value.run m' g')
  refine Eq.trans ?_ (Cert.Kernel2Ideal.Ffn.arrAt_eq m c).symm
  funext i
  obtain ⟨b, r, d, rfl⟩ : ∃ (b : Fin 16) (r : Fin 2304) (d : Fin 1024), i = ix3 b r d :=
    ⟨i 0, i 1, i 2, by funext a; match a with | 0 => rfl | 1 => rfl | 2 => rfl⟩
  refine (Cert.Reference2Ideal.Ffn.out_at (StableHlo.launchContents m' c) b r d).trans ?_
  obtain ⟨h0, h1, h2, h3, h4, h5, h6, h7, h8, h9, h10, h11, h12⟩ := hA c
  show Cert.Kernel2Ideal.Ffn.ffnAt (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) (m' ((c.tc : Thread Cert.Reference2Ideal.nD Cert.Reference2Ideal.τ).loc Cert.Reference2Ideal.main_arg12)) b r d = _
  rw [h0, h1, h2, h3, h4, h5, h6, h7, h8, h9, h10, h11, h12]
  rfl

end Cert.Proof

end
-- ==== Proof.lean ====
module

public import proofs.«01_k».proof.Defs
public import proofs.«01_k».proof.Proof.LruClaim
public import proofs.«01_k».proof.Proof.Gen.Kernel2Ideal.Value
public import proofs.«01_k».proof.Proof.LruFrame
public import proofs.«01_k».proof.Proof.ConvFFNFrame
public import proofs.«01_k».proof.Proof.InProjFrame
public import proofs.«01_k».proof.Proof.MergeFrame
public import proofs.«01_k».proof.Proof.MergeClaim
public import proofs.«01_k».proof.Proof.InProjClaim
public import proofs.«01_k».proof.Proof.ConvFFNClaim

/-!
# The certificate

The claims of the four calls, each proved in its own module, put together.
-/

@[expose] public section

noncomputable section

namespace Cert.Proof

open Idealize.ShloMosaic Idealize.SL.Sem

/-- Every claim of the four calls. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
    lru_frame_kernel, lru_frame_ideal, lru_frame_reference,
    ffn_frame_kernel, ffn_frame_ideal, ffn_frame_reference,
    inproj_frame_kernel, inproj_frame_ideal, inproj_frame_reference,
    merge_frame_kernel, merge_frame_ideal, merge_frame_reference,
    trivial, lru_algebraic, trivial, ffn_algebraic, trivial, inproj_algebraic, trivial, merge_algebraic⟩

end Cert.Proof

end
